-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_agree [hPre_targets_agree : Cert.Pre_targets_agree.Facts] (m : (ℓ : Loc Cert.KernelIdeal.nD Cert.KernelIdeal.τ Cert.KernelIdeal.sig) → Buf (Elt Ideal) ℓ) : Prop :=
  ∀ c : Dev Cert.KernelIdeal.nD,
    (Cert.Pre_targets_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_agree [hPre_targets_agree : Cert.Pre_targets_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_targets_agree [hKernelIdeal : Cert.KernelIdeal.Facts] [hPre_targets_agree : Cert.Pre_targets_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_agree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_targets_agree [hReferenceIdeal : Cert.ReferenceIdeal.Facts] [hPre_targets_agree : Cert.Pre_targets_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_pred_only [hKernelIdeal : Cert.KernelIdeal.Facts] [hReferenceIdeal : Cert.ReferenceIdeal.Facts] [hOn_pred_only : Cert.On_pred_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 2028, 85]⟩ : Shape).Idx, (Cert.On_pred_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v5_0) i = v0 c i)
          ∧ (∀ i : (⟨2, ![1, 1]⟩ : Shape).Idx, (Cert.On_pred_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.KernelIdeal.nD Cert.KernelIdeal.τ).loc Cert.KernelIdeal.main_v5_3) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 2028, 85]⟩ : Shape).Idx, (Cert.On_pred_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v539) i = v0 c i)
          ∧ (∀ i : (⟨2, ![1, 1]⟩ : Shape).Idx, (Cert.On_pred_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.ReferenceIdeal.nD Cert.ReferenceIdeal.τ).loc Cert.ReferenceIdeal.main_v540) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ReferenceIdeal_pre_targets_agree [hKernelIdeal : Cert.KernelIdeal.Facts] [hReferenceIdeal : Cert.ReferenceIdeal.Facts] [hPre_targets_agree : Cert.Pre_targets_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_agree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v539) = v0 c
          ∧ r.2.mem ((c.tc : Thread Cert.ReferenceIdeal.nD Cert.ReferenceIdeal.τ).loc Cert.ReferenceIdeal.main_v540) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_targets_agree : Cert.Pre_targets_agree.Facts) (hOn_pred_only : Cert.On_pred_only.Facts),
    quiescent_Kernel (hKernel := hKernel)
    ∧ quiescent_KernelIdeal (hKernelIdeal := hKernelIdeal)
    ∧ quiescent_KernelIdeal_pre_targets_agree (hKernelIdeal := hKernelIdeal) (hPre_targets_agree := hPre_targets_agree)
    ∧ quiescent_ReferenceIdeal (hReferenceIdeal := hReferenceIdeal)
    ∧ quiescent_ReferenceIdeal_pre_targets_agree (hReferenceIdeal := hReferenceIdeal) (hPre_targets_agree := hPre_targets_agree)
    ∧ preserves_Kernel_KernelIdeal
    ∧ algebraic_KernelIdeal_ReferenceIdeal_on_pred_only (hKernelIdeal := hKernelIdeal) (hReferenceIdeal := hReferenceIdeal) (hOn_pred_only := hOn_pred_only)
    ∧ algebraic_KernelIdeal_ReferenceIdeal_pre_targets_agree (hKernelIdeal := hKernelIdeal) (hReferenceIdeal := hReferenceIdeal) (hPre_targets_agree := hPre_targets_agree)
-- ==== On_pred_only.lean ====
abbrev S16x255x26x26 : Shape := ⟨4, ![16, 255, 26, 26]⟩
abbrev S128x6 : Shape := ⟨2, ![128, 6]⟩
abbrev S3x2 : Shape := ⟨2, ![3, 2]⟩
abbrev S_ : Shape := ⟨0, ![]⟩
abbrev S16x2028x85 : Shape := ⟨3, ![16, 2028, 85]⟩
abbrev S1x1 : Shape := ⟨2, ![1, 1]⟩

class Facts : Prop where
  bcast_S_S16x2028x85 : S_.BroadcastsInDim S16x2028x85 (![] : Fin 0 → Fin S16x2028x85.rank)
  bcast_S_S1x1 : S_.BroadcastsInDim S1x1 (![] : Fin 0 → Fin S1x1.rank)

variable [Facts]

def fn {F : FTy → Type} [FloatOps F] (main_arg0 : FVec F S16x255x26x26 .f32) (main_arg1 : FVec F S128x6 .f32) (main_arg2 : FVec F S3x2 .f32) (main_arg3 : IVec S_ 32) : IVec S16x2028x85 1 × IVec S1x1 1 :=
  let main_c : IVec S_ 1 := constantI S_ 1 1#1
  let main_v0 : IVec S16x2028x85 1 := broadcastInDim S16x2028x85 ![] bcast_S_S16x2028x85 main_c
  let main_c_0 : IVec S_ 1 := constantI S_ 1 0#1
  let main_v1 : IVec S1x1 1 := broadcastInDim S1x1 ![] bcast_S_S1x1 main_c_0
  (main_v0, main_v1)
-- ==== Pre_targets_agree.lean ====
abbrev S16x255x26x26 : Shape := ⟨4, ![16, 255, 26, 26]⟩
abbrev S128x6 : Shape := ⟨2, ![128, 6]⟩
abbrev S3x2 : Shape := ⟨2, ![3, 2]⟩
abbrev S_ : Shape := ⟨0, ![]⟩
abbrev S128x1 : Shape := ⟨2, ![128, 1]⟩
abbrev S128 : Shape := ⟨1, ![128]⟩
abbrev S128x4 : Shape := ⟨2, ![128, 4]⟩
abbrev S128x2 : Shape := ⟨2, ![128, 2]⟩
abbrev S3x4 : Shape := ⟨2, ![3, 4]⟩
abbrev S3x1 : Shape := ⟨2, ![3, 1]⟩
abbrev S3 : Shape := ⟨1, ![3]⟩
abbrev S3x1x2 : Shape := ⟨3, ![3, 1, 2]⟩
abbrev S1x128x2 : Shape := ⟨3, ![1, 128, 2]⟩
abbrev S3x128x2 : Shape := ⟨3, ![3, 128, 2]⟩
abbrev S3x128x1 : Shape := ⟨3, ![3, 128, 1]⟩
abbrev S3x128 : Shape := ⟨2, ![3, 128]⟩
abbrev S1x128 : Shape := ⟨2, ![1, 128]⟩
abbrev S128x128 : Shape := ⟨2, ![128, 128]⟩
abbrev S1x128x1 : Shape := ⟨3, ![1, 128, 1]⟩
abbrev S3x1x1 : Shape := ⟨3, ![3, 1, 1]⟩
abbrev S1x128x128 : Shape := ⟨3, ![1, 128, 128]⟩
abbrev S3x128x128 : Shape := ⟨3, ![3, 128, 128]⟩

class Facts : Prop where
  bcast_S_S3x2 : S_.BroadcastsInDim S3x2 (![] : Fin 0 → Fin S3x2.rank)
  slices_S128x6_S128x1_0_0 : S128x6.Slices ![0, 0] S128x1
  shapeCasts_S128x1_S128 : S128x1.ShapeCasts S128
  slices_S128x6_S128x1_0_1 : S128x6.Slices ![0, 1] S128x1
  slices_S128x6_S128x4_0_2 : S128x6.Slices ![0, 2] S128x4
  bcast_S_S128x4 : S_.BroadcastsInDim S128x4 (![] : Fin 0 → Fin S128x4.rank)
  slices_S128x4_S128x2_0_2 : S128x4.Slices ![0, 2] S128x2
  slices_S128x4_S128x2_0_0 : S128x4.Slices ![0, 0] S128x2
  bcast_S_S128x2 : S_.BroadcastsInDim S128x2 (![] : Fin 0 → Fin S128x2.rank)
  concatenates_S3x2_S3x2_S3x4_d1 : Shape.Concatenates [S3x2, S3x2] S3x4 1
  concatenates_S128x2_S128x2_S128x4_d1 : Shape.Concatenates [S128x2, S128x2] S128x4 1
  slices_S3x4_S3x1_0_2 : S3x4.Slices ![0, 2] S3x1
  shapeCasts_S3x1_S3 : S3x1.ShapeCasts S3
  slices_S3x4_S3x1_0_0 : S3x4.Slices ![0, 0] S3x1
  slices_S3x4_S3x1_0_3 : S3x4.Slices ![0, 3] S3x1
  slices_S3x4_S3x1_0_1 : S3x4.Slices ![0, 1] S3x1
  slices_S128x4_S128x1_0_2 : S128x4.Slices ![0, 2] S128x1
  slices_S128x4_S128x1_0_0 : S128x4.Slices ![0, 0] S128x1
  slices_S128x4_S128x1_0_3 : S128x4.Slices ![0, 3] S128x1
  slices_S128x4_S128x1_0_1 : S128x4.Slices ![0, 1] S128x1
  slices_S3x4_S3x2_0_0 : S3x4.Slices ![0, 0] S3x2
  bcast_S3x2_S3x1x2_0_2 : S3x2.BroadcastsInDim S3x1x2 (![0, 2] : Fin 2 → Fin S3x1x2.rank)
  bcast_S128x2_S1x128x2_1_2 : S128x2.BroadcastsInDim S1x128x2 (![1, 2] : Fin 2 → Fin S1x128x2.rank)
  bcast_S3x1x2_S3x128x2_0_1_2 : S3x1x2.BroadcastsInDim S3x128x2 (![0, 1, 2] : Fin 3 → Fin S3x128x2.rank)
  bcast_S1x128x2_S3x128x2_0_1_2 : S1x128x2.BroadcastsInDim S3x128x2 (![0, 1, 2] : Fin 3 → Fin S3x128x2.rank)
  slices_S3x4_S3x2_0_2 : S3x4.Slices ![0, 2] S3x2
  bcast_S_S3x128x2 : S_.BroadcastsInDim S3x128x2 (![] : Fin 0 → Fin S3x128x2.rank)
  slices_S3x128x2_S3x128x1_0_0_0 : S3x128x2.Slices ![0, 0, 0] S3x128x1
  shapeCasts_S3x128x1_S3x128 : S3x128x1.ShapeCasts S3x128
  slices_S3x128x2_S3x128x1_0_0_1 : S3x128x2.Slices ![0, 0, 1] S3x128x1
  bcast_S3_S3x1_0 : S3.BroadcastsInDim S3x1 (![0] : Fin 1 → Fin S3x1.rank)
  bcast_S128_S1x128_1 : S128.BroadcastsInDim S1x128 (![1] : Fin 1 → Fin S1x128.rank)
  bcast_S3x1_S3x128_0_1 : S3x1.BroadcastsInDim S3x128 (![0, 1] : Fin 2 → Fin S3x128.rank)
  bcast_S1x128_S3x128_0_1 : S1x128.BroadcastsInDim S3x128 (![0, 1] : Fin 2 → Fin S3x128.rank)
  reducesTo_S3x128_S128_d0 : S3x128.ReducesTo [0] S128
  h_S_ : 0 < S_.numel
  bcast_S_S3x128 : S_.BroadcastsInDim S3x128 (![] : Fin 0 → Fin S3x128.rank)
  slices_S128x2_S128x1_0_0 : S128x2.Slices ![0, 0] S128x1
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  slices_S128x2_S128x1_0_1 : S128x2.Slices ![0, 1] S128x1
  slices_S3x2_S3x1_0_0 : S3x2.Slices ![0, 0] S3x1
  bcast_S_S3 : S_.BroadcastsInDim S3 (![] : Fin 0 → Fin S3.rank)
  slices_S3x2_S3x1_0_1 : S3x2.Slices ![0, 1] S3x1
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S128_S1x128x1_1 : S128.BroadcastsInDim S1x128x1 (![1] : Fin 1 → Fin S1x128x1.rank)
  bcast_S3_S3x1x1_0 : S3.BroadcastsInDim S3x1x1 (![0] : Fin 1 → Fin S3x1x1.rank)
  bcast_S1x128x1_S3x128x1_0_1_2 : S1x128x1.BroadcastsInDim S3x128x1 (![0, 1, 2] : Fin 3 → Fin S3x128x1.rank)
  bcast_S3x1x1_S3x128x1_0_1_2 : S3x1x1.BroadcastsInDim S3x128x1 (![0, 1, 2] : Fin 3 → Fin S3x128x1.rank)
  bcast_S128x128_S1x128x128_1_2 : S128x128.BroadcastsInDim S1x128x128 (![1, 2] : Fin 2 → Fin S1x128x128.rank)
  bcast_S3x128x1_S3x128x128_0_1_2 : S3x128x1.BroadcastsInDim S3x128x128 (![0, 1, 2] : Fin 3 → Fin S3x128x128.rank)
  bcast_S1x128x128_S3x128x128_0_1_2 : S1x128x128.BroadcastsInDim S3x128x128 (![0, 1, 2] : Fin 3 → Fin S3x128x128.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_floor_divide {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where (F := F) v7 v8 v1
  v9

def fn_clip {F : FTy → Type} [FloatOps F] (arg0 : FVec F S3x128x2 .f32) (arg1 : FVec F S_ .f32) : FVec F S3x128x2 .f32 :=
  let v0 : FVec F S_ .f32 := id arg1
  let v1 : FVec F S3x128x2 .f32 := broadcastInDim S3x128x2 ![] bcast_S_S3x128x2 v0
  let v2 : FVec F S3x128x2 .f32 := maximumf v1 arg0
  v2

def fn_where_0 {F : FTy → Type} [FloatOps F] (arg0 : IVec S3x128 1) (arg1 : IVec S3x1 32) (arg2 : IVec S_ 32) : IVec S3x128 32 :=
  let v0 : IVec S_ 32 := id arg2
  let v1 : IVec S3x128 32 := broadcastInDim S3x128 ![0, 1] bcast_S3x1_S3x128_0_1 arg1
  let v2 : IVec S3x128 32 := broadcastInDim S3x128 ![] bcast_S_S3x128 v0
  let v3 : IVec S3x128 32 := select arg0 v1 v2
  v3

def fn_where_1 {F : FTy → Type} [FloatOps F] (arg0 : IVec S128x1 1) (arg1 : IVec S_ 32) (arg2 : IVec S128x2 32) : IVec S128x2 32 :=
  let v0 : IVec S_ 32 := id arg1
  let v1 : IVec S128x2 1 := broadcastInDim S128x2 ![0, 1] bcast_S128x1_S128x2_0_1 arg0
  let v2 : IVec S128x2 32 := broadcastInDim S128x2 ![] bcast_S_S128x2 v0
  let v3 : IVec S128x2 32 := select v1 v2 arg2
  v3

def fn_part8 {F : FTy → Type} [FloatOps F] (main_v160 : IVec S128x128 1) (main_v163 : IVec S3x1x1 1) (main_v164 : IVec S3x128x1 1) : IVec S3x128x128 1 :=
  let main_v165 : IVec S3x128x1 1 := broadcastInDim S3x128x1 ![0, 1, 2] bcast_S3x1x1_S3x128x1_0_1_2 main_v163
  let main_v166 : IVec S3x128x1 1 := andi main_v164 main_v165
  let main_v167 : IVec S1x128x128 1 := broadcastInDim S1x128x128 ![1, 2] bcast_S128x128_S1x128x128_1_2 main_v160
  let main_v168 : IVec S3x128x128 1 := broadcastInDim S3x128x128 ![0, 1, 2] bcast_S3x128x1_S3x128x128_0_1_2 main_v166
  let main_v169 : IVec S3x128x128 1 := broadcastInDim S3x128x128 ![0, 1, 2] bcast_S1x128x128_S3x128x128_0_1_2 main_v167
  let main_v170 : IVec S3x128x128 1 := andi main_v168 main_v169
  main_v170

def fn_part7 {F : FTy → Type} [FloatOps F] (main_v3 : FVec F S3x2 .f32) (main_v9 : IVec S128 32) (main_v120 : IVec S128 32) (main_v131 : IVec S128 1) (main_v140 : IVec S128 1) (main_v142 : FVec F S3 .f32) : IVec S3x128x128 1 :=
  let main_cst_23 : FVec F S_ .f32 := constant S_ .f32 0x00000000#32
  let main_v143 : FVec F S3 .f32 := broadcastInDim S3 ![] bcast_S_S3 main_cst_23
  let main_v144 : IVec S3 1 := cmpf .oge main_v142 main_v143
  let main_v145 : FVec F S3x1 .f32 := (extractStridedSlice S3x1 ![0, 1] · slices_S3x2_S3x1_0_1) main_v3
  let main_v146 : FVec F S3 .f32 := shapeCast S3 main_v145 shapeCasts_S3x1_S3
  let main_cst_24 : FVec F S_ .f32 := constant S_ .f32 0x00000000#32
  let main_v147 : FVec F S3 .f32 := broadcastInDim S3 ![] bcast_S_S3 main_cst_24
  let main_v148 : IVec S3 1 := cmpf .oge main_v146 main_v147
  let main_v149 : IVec S3 1 := andi main_v144 main_v148
  let main_v150 : IVec S128x1 32 := broadcastInDim S128x1 ![0] bcast_S128_S128x1_0 main_v120
  let main_v151 : IVec S1x128 32 := broadcastInDim S1x128 ![1] bcast_S128_S1x128_1 main_v120
  let main_v152 : IVec S128x128 32 := broadcastInDim S128x128 ![0, 1] bcast_S128x1_S128x128_0_1 main_v150
  let main_v153 : IVec S128x128 32 := broadcastInDim S128x128 ![0, 1] bcast_S1x128_S128x128_0_1 main_v151
  let main_v154 : IVec S128x128 1 := cmpi .ne main_v152 main_v153
  let main_v155 : IVec S128x1 32 := broadcastInDim S128x1 ![0] bcast_S128_S128x1_0 main_v9
  let main_v156 : IVec S1x128 32 := broadcastInDim S1x128 ![1] bcast_S128_S1x128_1 main_v9
  let main_v157 : IVec S128x128 32 := broadcastInDim S128x128 ![0, 1] bcast_S128x1_S128x128_0_1 main_v155
  let main_v158 : IVec S128x128 32 := broadcastInDim S128x128 ![0, 1] bcast_S1x128_S128x128_0_1 main_v156
  let main_v159 : IVec S128x128 1 := cmpi .eq main_v157 main_v158
  let main_v160 : IVec S128x128 1 := ori main_v154 main_v159
  let main_v161 : IVec S128 1 := andi main_v131 main_v140
  let main_v162 : IVec S1x128x1 1 := broadcastInDim S1x128x1 ![1] bcast_S128_S1x128x1_1 main_v161
  let main_v163 : IVec S3x1x1 1 := broadcastInDim S3x1x1 ![0] bcast_S3_S3x1x1_0 main_v149
  let main_v164 : IVec S3x128x1 1 := broadcastInDim S3x128x1 ![0, 1, 2] bcast_S1x128x1_S3x128x1_0_1_2 main_v162
  fn_part8 (F := F) main_v160 main_v163 main_v164

def fn_part6 {F : FTy → Type} [FloatOps F] (main_v3 : FVec F S3x2 .f32) (main_v6 : IVec S128 32) (main_v9 : IVec S128 32) (main_v16 : FVec F S128x2 .f32) (main_v120 : IVec S128 32) (main_v122 : IVec S128 1) (main_c_18 : IVec S_ 32) : IVec S3x128x128 1 :=
  let main_v123 : IVec S128 32 := broadcastInDim S128 ![] bcast_S_S128 main_c_18
  let main_v124 : IVec S128 1 := cmpi .slt main_v6 main_v123
  let main_v125 : IVec S128 1 := andi main_v122 main_v124
  let main_c_19 : IVec S_ 32 := constantI S_ 32 0#32
  let main_v126 : IVec S128 32 := broadcastInDim S128 ![] bcast_S_S128 main_c_19
  let main_v127 : IVec S128 1 := cmpi .sge main_v9 main_v126
  let main_v128 : IVec S128 1 := andi main_v125 main_v127
  let main_c_20 : IVec S_ 32 := constantI S_ 32 80#32
  let main_v129 : IVec S128 32 := broadcastInDim S128 ![] bcast_S_S128 main_c_20
  let main_v130 : IVec S128 1 := cmpi .slt main_v9 main_v129
  let main_v131 : IVec S128 1 := andi main_v128 main_v130
  let main_v132 : FVec F S128x1 .f32 := (extractStridedSlice S128x1 ![0, 0] · slices_S128x2_S128x1_0_0) main_v16
  let main_v133 : FVec F S128 .f32 := shapeCast S128 main_v132 shapeCasts_S128x1_S128
  let main_cst_21 : FVec F S_ .f32 := constant S_ .f32 0x00000000#32
  let main_v134 : FVec F S128 .f32 := broadcastInDim S128 ![] bcast_S_S128 main_cst_21
  let main_v135 : IVec S128 1 := cmpf .oge main_v133 main_v134
  let main_v136 : FVec F S128x1 .f32 := (extractStridedSlice S128x1 ![0, 1] · slices_S128x2_S128x1_0_1) main_v16
  let main_v137 : FVec F S128 .f32 := shapeCast S128 main_v136 shapeCasts_S128x1_S128
  let main_cst_22 : FVec F S_ .f32 := constant S_ .f32 0x00000000#32
  let main_v138 : FVec F S128 .f32 := broadcastInDim S128 ![] bcast_S_S128 main_cst_22
  let main_v139 : IVec S128 1 := cmpf .oge main_v137 main_v138
  let main_v140 : IVec S128 1 := andi main_v135 main_v139
  let main_v141 : FVec F S3x1 .f32 := (extractStridedSlice S3x1 ![0, 0] · slices_S3x2_S3x1_0_0) main_v3
  let main_v142 : FVec F S3 .f32 := shapeCast S3 main_v141 shapeCasts_S3x1_S3
  fn_part7 (F := F) main_v3 main_v9 main_v120 main_v131 main_v140 main_v142

def fn_part5 {F : FTy → Type} [FloatOps F] (main_v3 : FVec F S3x2 .f32) (main_v6 : IVec S128 32) (main_v9 : IVec S128 32) (main_v16 : FVec F S128x2 .f32) (main_v82 : IVec S128 32) (main_v101 : IVec S128x2 32) (main_v103 : IVec S128 32) (main_v104 : IVec S128 32) : IVec S3x128x128 1 :=
  let main_v105 : IVec S128 1 := cmpi .sge main_v103 main_v104
  let main_v106 : IVec S128x1 1 := broadcastInDim S128x1 ![0] bcast_S128_S128x1_0 main_v105
  let main_c_13 : IVec S_ 32 := constantI S_ 32 25#32
  let main_v107 : IVec S128x2 32 := fn_where_1 (F := F) main_v106 main_c_13 main_v101
  let main_c_14 : IVec S_ 32 := constantI S_ 32 3#32
  let main_v108 : IVec S128 32 := broadcastInDim S128 ![] bcast_S_S128 main_c_14
  let main_v109 : IVec S128 32 := muli main_v6 main_v108
  let main_v110 : IVec S128 32 := addi main_v109 main_v82
  let main_c_15 : IVec S_ 32 := constantI S_ 32 26#32
  let main_v111 : IVec S128 32 := broadcastInDim S128 ![] bcast_S_S128 main_c_15
  let main_v112 : IVec S128 32 := muli main_v110 main_v111
  let main_v113 : IVec S128x1 32 := (extractStridedSlice S128x1 ![0, 1] · slices_S128x2_S128x1_0_1) main_v107
  let main_v114 : IVec S128 32 := shapeCast S128 main_v113 shapeCasts_S128x1_S128
  let main_v115 : IVec S128 32 := addi main_v112 main_v114
  let main_c_16 : IVec S_ 32 := constantI S_ 32 26#32
  let main_v116 : IVec S128 32 := broadcastInDim S128 ![] bcast_S_S128 main_c_16
  let main_v117 : IVec S128 32 := muli main_v115 main_v116
  let main_v118 : IVec S128x1 32 := (extractStridedSlice S128x1 ![0, 0] · slices_S128x2_S128x1_0_0) main_v107
  let main_v119 : IVec S128 32 := shapeCast S128 main_v118 shapeCasts_S128x1_S128
  let main_v120 : IVec S128 32 := addi main_v117 main_v119
  let main_c_17 : IVec S_ 32 := constantI S_ 32 0#32
  let main_v121 : IVec S128 32 := broadcastInDim S128 ![] bcast_S_S128 main_c_17
  let main_v122 : IVec S128 1 := cmpi .sge main_v6 main_v121
  let main_c_18 : IVec S_ 32 := constantI S_ 32 16#32
  fn_part6 (F := F) main_v3 main_v6 main_v9 main_v16 main_v120 main_v122 main_c_18

def fn_part4 {F : FTy → Type} [FloatOps F] (main_v3 : FVec F S3x2 .f32) (main_v6 : IVec S128 32) (main_v9 : IVec S128 32) (main_v16 : FVec F S128x2 .f32) (main_v82 : IVec S128 32) (main_v83 : IVec S128x2 32) (main_v85 : IVec S128 32) (main_v86 : IVec S128 32) : IVec S3x128x128 1 :=
  let main_v87 : IVec S128 1 := cmpi .slt main_v85 main_v86
  let main_v88 : IVec S128x1 1 := broadcastInDim S128x1 ![0] bcast_S128_S128x1_0 main_v87
  let main_c_7 : IVec S_ 32 := constantI S_ 32 0#32
  let main_v89 : IVec S128x2 32 := fn_where_1 (F := F) main_v88 main_c_7 main_v83
  let main_v90 : IVec S128x1 32 := (extractStridedSlice S128x1 ![0, 1] · slices_S128x2_S128x1_0_1) main_v89
  let main_v91 : IVec S128 32 := shapeCast S128 main_v90 shapeCasts_S128x1_S128
  let main_c_8 : IVec S_ 32 := constantI S_ 32 0#32
  let main_v92 : IVec S128 32 := broadcastInDim S128 ![] bcast_S_S128 main_c_8
  let main_v93 : IVec S128 1 := cmpi .slt main_v91 main_v92
  let main_v94 : IVec S128x1 1 := broadcastInDim S128x1 ![0] bcast_S128_S128x1_0 main_v93
  let main_c_9 : IVec S_ 32 := constantI S_ 32 0#32
  let main_v95 : IVec S128x2 32 := fn_where_1 (F := F) main_v94 main_c_9 main_v89
  let main_v96 : IVec S128x1 32 := (extractStridedSlice S128x1 ![0, 0] · slices_S128x2_S128x1_0_0) main_v95
  let main_v97 : IVec S128 32 := shapeCast S128 main_v96 shapeCasts_S128x1_S128
  let main_c_10 : IVec S_ 32 := constantI S_ 32 26#32
  let main_v98 : IVec S128 32 := broadcastInDim S128 ![] bcast_S_S128 main_c_10
  let main_v99 : IVec S128 1 := cmpi .sge main_v97 main_v98
  let main_v100 : IVec S128x1 1 := broadcastInDim S128x1 ![0] bcast_S128_S128x1_0 main_v99
  let main_c_11 : IVec S_ 32 := constantI S_ 32 25#32
  let main_v101 : IVec S128x2 32 := fn_where_1 (F := F) main_v100 main_c_11 main_v95
  let main_v102 : IVec S128x1 32 := (extractStridedSlice S128x1 ![0, 1] · slices_S128x2_S128x1_0_1) main_v101
  let main_v103 : IVec S128 32 := shapeCast S128 main_v102 shapeCasts_S128x1_S128
  let main_c_12 : IVec S_ 32 := constantI S_ 32 26#32
  let main_v104 : IVec S128 32 := broadcastInDim S128 ![] bcast_S_S128 main_c_12
  fn_part5 (F := F) main_v3 main_v6 main_v9 main_v16 main_v82 main_v101 main_v103 main_v104

def fn_part3 {F : FTy → Type} [FloatOps F] (main_v3 : FVec F S3x2 .f32) (main_v6 : IVec S128 32) (main_v9 : IVec S128 32) (main_v16 : FVec F S128x2 .f32) (main_v20 : FVec F S128x2 .f32) (main_v35 : FVec F S3 .f32) (main_v46 : FVec F S128 .f32) (main_v64 : FVec F S3x128 .f32) (main_v66 : FVec F S3x128 .f32) : IVec S3x128x128 1 :=
  let main_v67 : FVec F S3x128 .f32 := mulf main_v64 main_v66
  let main_v68 : FVec F S3x1 .f32 := broadcastInDim S3x1 ![0] bcast_S3_S3x1_0 main_v35
  let main_v69 : FVec F S1x128 .f32 := broadcastInDim S1x128 ![1] bcast_S128_S1x128_1 main_v46
  let main_v70 : FVec F S3x128 .f32 := broadcastInDim S3x128 ![0, 1] bcast_S3x1_S3x128_0_1 main_v68
  let main_v71 : FVec F S3x128 .f32 := broadcastInDim S3x128 ![0, 1] bcast_S1x128_S3x128_0_1 main_v69
  let main_v72 : FVec F S3x128 .f32 := addf main_v70 main_v71
  let main_v73 : FVec F S3x128 .f32 := subf main_v72 main_v67
  let main_v74 : FVec F S3x128 .f32 := Host.divf main_v67 main_v73
  let main_cst_3 : FVec F S_ .f32 := constant S_ .f32 0xFF800000#32
  let main_v75 : FVec F S128 .f32 := (fun x v => Host.reduce FloatOps.maximumf x v reducesTo_S3x128_S128_d0 h_S_) main_v74 main_cst_3
  let main_v76 : FVec F S1x128 .f32 := broadcastInDim S1x128 ![1] bcast_S128_S1x128_1 main_v75
  let main_v77 : FVec F S3x128 .f32 := broadcastInDim S3x128 ![0, 1] bcast_S1x128_S3x128_0_1 main_v76
  let main_v78 : IVec S3x128 1 := cmpf .oeq main_v74 main_v77
  let main_v79 : IVec S3 32 := iotaInDim S3 32 0
  let main_v80 : IVec S3x1 32 := broadcastInDim S3x1 ![0] bcast_S3_S3x1_0 main_v79
  let main_c_4 : IVec S_ 32 := constantI S_ 32 3#32
  let main_v81 : IVec S3x128 32 := fn_where_0 (F := F) main_v78 main_v80 main_c_4
  let main_c_5 : IVec S_ 32 := constantI S_ 32 2147483647#32
  let main_v82 : IVec S128 32 := (fun x v => Host.reduce IntOp.minsi x v reducesTo_S3x128_S128_d0 h_S_) main_v81 main_c_5
  let main_v83 : IVec S128x2 32 := fptosi 32 main_v20
  let main_v84 : IVec S128x1 32 := (extractStridedSlice S128x1 ![0, 0] · slices_S128x2_S128x1_0_0) main_v83
  let main_v85 : IVec S128 32 := shapeCast S128 main_v84 shapeCasts_S128x1_S128
  let main_c_6 : IVec S_ 32 := constantI S_ 32 0#32
  let main_v86 : IVec S128 32 := broadcastInDim S128 ![] bcast_S_S128 main_c_6
  fn_part4 (F := F) main_v3 main_v6 main_v9 main_v16 main_v82 main_v83 main_v85 main_v86

def fn_part2 {F : FTy → Type} [FloatOps F] (main_v3 : FVec F S3x2 .f32) (main_v6 : IVec S128 32) (main_v9 : IVec S128 32) (main_v16 : FVec F S128x2 .f32) (main_v20 : FVec F S128x2 .f32) (main_v22 : FVec F S3x4 .f32) (main_v24 : FVec F S128x4 .f32) (main_v35 : FVec F S3 .f32) (main_v40 : FVec F S128 .f32) (main_v42 : FVec F S128 .f32) (main_v43 : FVec F S128x1 .f32) : IVec S3x128x128 1 :=
  let main_v44 : FVec F S128 .f32 := shapeCast S128 main_v43 shapeCasts_S128x1_S128
  let main_v45 : FVec F S128 .f32 := subf main_v42 main_v44
  let main_v46 : FVec F S128 .f32 := mulf main_v40 main_v45
  let main_v47 : FVec F S3x2 .f32 := (extractStridedSlice S3x2 ![0, 0] · slices_S3x4_S3x2_0_0) main_v22
  let main_v48 : FVec F S3x1x2 .f32 := broadcastInDim S3x1x2 ![0, 2] bcast_S3x2_S3x1x2_0_2 main_v47
  let main_v49 : FVec F S128x2 .f32 := (extractStridedSlice S128x2 ![0, 0] · slices_S128x4_S128x2_0_0) main_v24
  let main_v50 : FVec F S1x128x2 .f32 := broadcastInDim S1x128x2 ![1, 2] bcast_S128x2_S1x128x2_1_2 main_v49
  let main_v51 : FVec F S3x128x2 .f32 := broadcastInDim S3x128x2 ![0, 1, 2] bcast_S3x1x2_S3x128x2_0_1_2 main_v48
  let main_v52 : FVec F S3x128x2 .f32 := broadcastInDim S3x128x2 ![0, 1, 2] bcast_S1x128x2_S3x128x2_0_1_2 main_v50
  let main_v53 : FVec F S3x128x2 .f32 := maximumf main_v51 main_v52
  let main_v54 : FVec F S3x2 .f32 := (extractStridedSlice S3x2 ![0, 2] · slices_S3x4_S3x2_0_2) main_v22
  let main_v55 : FVec F S3x1x2 .f32 := broadcastInDim S3x1x2 ![0, 2] bcast_S3x2_S3x1x2_0_2 main_v54
  let main_v56 : FVec F S128x2 .f32 := (extractStridedSlice S128x2 ![0, 2] · slices_S128x4_S128x2_0_2) main_v24
  let main_v57 : FVec F S1x128x2 .f32 := broadcastInDim S1x128x2 ![1, 2] bcast_S128x2_S1x128x2_1_2 main_v56
  let main_v58 : FVec F S3x128x2 .f32 := broadcastInDim S3x128x2 ![0, 1, 2] bcast_S3x1x2_S3x128x2_0_1_2 main_v55
  let main_v59 : FVec F S3x128x2 .f32 := broadcastInDim S3x128x2 ![0, 1, 2] bcast_S1x128x2_S3x128x2_0_1_2 main_v57
  let main_v60 : FVec F S3x128x2 .f32 := minimumf main_v58 main_v59
  let main_v61 : FVec F S3x128x2 .f32 := subf main_v60 main_v53
  let main_cst_2 : FVec F S_ .f32 := constant S_ .f32 0x00000000#32
  let main_v62 : FVec F S3x128x2 .f32 := fn_clip (F := F) main_v61 main_cst_2
  let main_v63 : FVec F S3x128x1 .f32 := (extractStridedSlice S3x128x1 ![0, 0, 0] · slices_S3x128x2_S3x128x1_0_0_0) main_v62
  let main_v64 : FVec F S3x128 .f32 := shapeCast S3x128 main_v63 shapeCasts_S3x128x1_S3x128
  let main_v65 : FVec F S3x128x1 .f32 := (extractStridedSlice S3x128x1 ![0, 0, 1] · slices_S3x128x2_S3x128x1_0_0_1) main_v62
  let main_v66 : FVec F S3x128 .f32 := shapeCast S3x128 main_v65 shapeCasts_S3x128x1_S3x128
  fn_part3 (F := F) main_v3 main_v6 main_v9 main_v16 main_v20 main_v35 main_v46 main_v64 main_v66

def fn_part1 {F : FTy → Type} [FloatOps F] (main_v3 : FVec F S3x2 .f32) (main_v6 : IVec S128 32) (main_v9 : IVec S128 32) (main_v16 : FVec F S128x2 .f32) (main_v20 : FVec F S128x2 .f32) (main_cst_0 : FVec F S_ .f32) : IVec S3x128x128 1 :=
  let main_v21 : FVec F S3x2 .f32 := broadcastInDim S3x2 ![] bcast_S_S3x2 main_cst_0
  let main_v22 : FVec F S3x4 .f32 := (fun a b => concatenate S3x4 1 [⟨S3x2, a⟩, ⟨S3x2, b⟩] concatenates_S3x2_S3x2_S3x4_d1) main_v21 main_v3
  let main_cst_1 : FVec F S_ .f32 := constant S_ .f32 0x00000000#32
  let main_v23 : FVec F S128x2 .f32 := broadcastInDim S128x2 ![] bcast_S_S128x2 main_cst_1
  let main_v24 : FVec F S128x4 .f32 := (fun a b => concatenate S128x4 1 [⟨S128x2, a⟩, ⟨S128x2, b⟩] concatenates_S128x2_S128x2_S128x4_d1) main_v23 main_v16
  let main_v25 : FVec F S3x1 .f32 := (extractStridedSlice S3x1 ![0, 2] · slices_S3x4_S3x1_0_2) main_v22
  let main_v26 : FVec F S3 .f32 := shapeCast S3 main_v25 shapeCasts_S3x1_S3
  let main_v27 : FVec F S3x1 .f32 := (extractStridedSlice S3x1 ![0, 0] · slices_S3x4_S3x1_0_0) main_v22
  let main_v28 : FVec F S3 .f32 := shapeCast S3 main_v27 shapeCasts_S3x1_S3
  let main_v29 : FVec F S3 .f32 := subf main_v26 main_v28
  let main_v30 : FVec F S3x1 .f32 := (extractStridedSlice S3x1 ![0, 3] · slices_S3x4_S3x1_0_3) main_v22
  let main_v31 : FVec F S3 .f32 := shapeCast S3 main_v30 shapeCasts_S3x1_S3
  let main_v32 : FVec F S3x1 .f32 := (extractStridedSlice S3x1 ![0, 1] · slices_S3x4_S3x1_0_1) main_v22
  let main_v33 : FVec F S3 .f32 := shapeCast S3 main_v32 shapeCasts_S3x1_S3
  let main_v34 : FVec F S3 .f32 := subf main_v31 main_v33
  let main_v35 : FVec F S3 .f32 := mulf main_v29 main_v34
  let main_v36 : FVec F S128x1 .f32 := (extractStridedSlice S128x1 ![0, 2] · slices_S128x4_S128x1_0_2) main_v24
  let main_v37 : FVec F S128 .f32 := shapeCast S128 main_v36 shapeCasts_S128x1_S128
  let main_v38 : FVec F S128x1 .f32 := (extractStridedSlice S128x1 ![0, 0] · slices_S128x4_S128x1_0_0) main_v24
  let main_v39 : FVec F S128 .f32 := shapeCast S128 main_v38 shapeCasts_S128x1_S128
  let main_v40 : FVec F S128 .f32 := subf main_v37 main_v39
  let main_v41 : FVec F S128x1 .f32 := (extractStridedSlice S128x1 ![0, 3] · slices_S128x4_S128x1_0_3) main_v24
  let main_v42 : FVec F S128 .f32 := shapeCast S128 main_v41 shapeCasts_S128x1_S128
  let main_v43 : FVec F S128x1 .f32 := (extractStridedSlice S128x1 ![0, 1] · slices_S128x4_S128x1_0_1) main_v24
  fn_part2 (F := F) main_v3 main_v6 main_v9 main_v16 main_v20 main_v22 main_v24 main_v35 main_v40 main_v42 main_v43

def fn {F : FTy → Type} [FloatOps F] (main_arg0 : FVec F S16x255x26x26 .f32) (main_arg1 : FVec F S128x6 .f32) (main_arg2 : FVec F S3x2 .f32) (main_arg3 : IVec S_ 32) : IVec S3x128x128 1 :=
  let main_c : IVec S_ 32 := constantI S_ 32 26#32
  let main_v0 : IVec S_ 32 := fn_floor_divide (F := F) main_arg3 main_c
  let main_v1 : FVec F S_ .f32 := sitofp .f32 main_v0
  let main_v2 : FVec F S3x2 .f32 := broadcastInDim S3x2 ![] bcast_S_S3x2 main_v1
  let main_v3 : FVec F S3x2 .f32 := Host.divf main_arg2 main_v2
  let main_v4 : FVec F S128x1 .f32 := (extractStridedSlice S128x1 ![0, 0] · slices_S128x6_S128x1_0_0) main_arg1
  let main_v5 : FVec F S128 .f32 := shapeCast S128 main_v4 shapeCasts_S128x1_S128
  let main_v6 : IVec S128 32 := fptosi 32 main_v5
  let main_v7 : FVec F S128x1 .f32 := (extractStridedSlice S128x1 ![0, 1] · slices_S128x6_S128x1_0_1) main_arg1
  let main_v8 : FVec F S128 .f32 := shapeCast S128 main_v7 shapeCasts_S128x1_S128
  let main_v9 : IVec S128 32 := fptosi 32 main_v8
  let main_v10 : FVec F S128x4 .f32 := (extractStridedSlice S128x4 ![0, 2] · slices_S128x6_S128x4_0_2) main_arg1
  let main_v11 : FVec F S_ .f32 := sitofp .f32 main_v0
  let main_v12 : FVec F S128x4 .f32 := broadcastInDim S128x4 ![] bcast_S_S128x4 main_v11
  let main_v13 : FVec F S128x4 .f32 := Host.divf main_v10 main_v12
  let main_v14 : FVec F S128x2 .f32 := (extractStridedSlice S128x2 ![0, 2] · slices_S128x4_S128x2_0_2) main_v13
  let main_v15 : FVec F S128x2 .f32 := (extractStridedSlice S128x2 ![0, 0] · slices_S128x4_S128x2_0_0) main_v13
  let main_v16 : FVec F S128x2 .f32 := subf main_v14 main_v15
  let main_v17 : FVec F S128x2 .f32 := (extractStridedSlice S128x2 ![0, 0] · slices_S128x4_S128x2_0_0) main_v13
  let main_cst : FVec F S_ .f32 := constant S_ .f32 0x40000000#32
  let main_v18 : FVec F S128x2 .f32 := broadcastInDim S128x2 ![] bcast_S_S128x2 main_cst
  let main_v19 : FVec F S128x2 .f32 := Host.divf main_v16 main_v18
  let main_v20 : FVec F S128x2 .f32 := addf main_v17 main_v19
  let main_cst_0 : FVec F S_ .f32 := constant S_ .f32 0x00000000#32
  fn_part1 (F := F) main_v3 main_v6 main_v9 main_v16 main_v20 main_cst_0
-- ==== Kernel.lean ====
abbrev S16x255x26x26 : Shape := ⟨4, ![16, 255, 26, 26]⟩
abbrev S128x6 : Shape := ⟨2, ![128, 6]⟩
abbrev S3x2 : Shape := ⟨2, ![3, 2]⟩
abbrev S_ : Shape := ⟨0, ![]⟩
abbrev S1x1 : Shape := ⟨2, ![1, 1]⟩
abbrev S16x255x676 : Shape := ⟨3, ![16, 255, 676]⟩
abbrev S6x128 : Shape := ⟨2, ![6, 128]⟩
abbrev S16x2028x85 : Shape := ⟨3, ![16, 2028, 85]⟩
abbrev S3x85x128 : Shape := ⟨3, ![3, 85, 128]⟩
abbrev S1x255x676 : Shape := ⟨3, ![1, 255, 676]⟩
abbrev S1x2028x85 : Shape := ⟨3, ![1, 2028, 85]⟩
abbrev S676x128 : Shape := ⟨2, ![676, 128]⟩
abbrev S1x128 : Shape := ⟨2, ![1, 128]⟩
abbrev S1x676 : Shape := ⟨2, ![1, 676]⟩
abbrev S2x676 : Shape := ⟨2, ![2, 676]⟩
abbrev S1x85x676 : Shape := ⟨3, ![1, 85, 676]⟩
abbrev S85x676 : Shape := ⟨2, ![85, 676]⟩
abbrev S81x676 : Shape := ⟨2, ![81, 676]⟩
abbrev S676x85 : Shape := ⟨2, ![676, 85]⟩
abbrev S1x1x676 : Shape := ⟨3, ![1, 1, 676]⟩
abbrev S1 : Shape := ⟨1, ![1]⟩
abbrev S1x1x1 : Shape := ⟨3, ![1, 1, 1]⟩
abbrev S85x128 : Shape := ⟨2, ![85, 128]⟩
abbrev S1x85x128 : Shape := ⟨3, ![1, 85, 128]⟩
abbrev S2028x85 : Shape := ⟨2, ![2028, 85]⟩
abbrev S128x128 : Shape := ⟨2, ![128, 128]⟩
abbrev S128 : Shape := ⟨1, ![128]⟩
abbrev S128x1 : Shape := ⟨2, ![128, 1]⟩
abbrev S1x1x128 : Shape := ⟨3, ![1, 1, 128]⟩
abbrev S80x128 : Shape := ⟨2, ![80, 128]⟩
abbrev S1x80x128 : Shape := ⟨3, ![1, 80, 128]⟩

abbrev nBuf : Space → Nat
  | .hbm => 25
  | .vmem => 7
  | .smem => 4
  | _ => 0

abbrev bufTy : (tb : Table) → Fin (tcTables nBuf tb) → BufTy
  | .hbm, ⟨0, _⟩ => ⟨S16x255x26x26, .f32⟩
  | .hbm, ⟨1, _⟩ => ⟨S128x6, .f32⟩
  | .hbm, ⟨2, _⟩ => ⟨S3x2, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S1x1, .f32⟩
  | .hbm, ⟨19, _⟩ => ⟨S16x255x676, .f32⟩
  | .hbm, ⟨20, _⟩ => ⟨S6x128, .f32⟩
  | .hbm, ⟨21, _⟩ => ⟨S16x2028x85, .f32⟩
  | .hbm, ⟨22, _⟩ => ⟨S3x85x128, .f32⟩
  | .hbm, ⟨23, _⟩ => ⟨S1x1, .f32⟩
  | .hbm, ⟨24, _⟩ => ⟨S1x1, .f32⟩
  | .local _ .vmem, ⟨0, _⟩ => ⟨S1x255x676, .f32⟩
  | .local _ .vmem, ⟨1, _⟩ => ⟨S1x255x676, .f32⟩
  | .local _ .vmem, ⟨2, _⟩ => ⟨S6x128, .f32⟩
  | .local _ .vmem, ⟨3, _⟩ => ⟨S1x2028x85, .f32⟩
  | .local _ .vmem, ⟨4, _⟩ => ⟨S1x2028x85, .f32⟩
  | .local _ .vmem, ⟨5, _⟩ => ⟨S3x85x128, .f32⟩
  | .local _ .vmem, ⟨6, _⟩ => ⟨S676x128, .f32⟩
  | .local _ .smem, ⟨0, _⟩ => ⟨S3x2, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S16x255x26x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c : Ref sig .tc := ⟨.hbm, 11, rfl⟩
abbrev main_call0_v6 : Ref sig .tc := ⟨.hbm, 12, rfl⟩
abbrev main_call0_v7 : Ref sig .tc := ⟨.hbm, 13, rfl⟩
abbrev main_call0_c_0 : Ref sig .tc := ⟨.hbm, 14, rfl⟩
abbrev main_call0_v8 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_scratch0 : Ref sig .tc := ⟨.vmem, 6, rfl⟩
abbrev cc0_stg2_0 : Ref sig .tc := ⟨.smem, 0, rfl⟩
abbrev cc0_stg3_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v282 : BitVec 1 := Scalar.cmpi .eq arg0 c15_i32
  let v283 : BitVec 32 := Scalar.extui v282
  let c0_i32_105 : BitVec 32 := 0#32
  let v284 : BitVec 1 := Scalar.cmpi .ne v283 c0_i32_105
  v284

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x255x676 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S3x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2028x85 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x85x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x255x26x26 : Shape := ⟨4, ![16, 255, 26, 26]⟩
abbrev S128x6 : Shape := ⟨2, ![128, 6]⟩
abbrev S3x2 : Shape := ⟨2, ![3, 2]⟩
abbrev S_ : Shape := ⟨0, ![]⟩
abbrev S16x3x85x26x26 : Shape := ⟨5, ![16, 3, 85, 26, 26]⟩
abbrev S16x3x26x26x85 : Shape := ⟨5, ![16, 3, 26, 26, 85]⟩
abbrev S26 : Shape := ⟨1, ![26]⟩
abbrev S26x26 : Shape := ⟨2, ![26, 26]⟩
abbrev S26x26x1 : Shape := ⟨3, ![26, 26, 1]⟩
abbrev S26x26x2 : Shape := ⟨3, ![26, 26, 2]⟩
abbrev S1x1x26x26x2 : Shape := ⟨5, ![1, 1, 26, 26, 2]⟩
abbrev S16x3x26x26x2 : Shape := ⟨5, ![16, 3, 26, 26, 2]⟩
abbrev S16x3x26x26x81 : Shape := ⟨5, ![16, 3, 26, 26, 81]⟩
abbrev S128x1 : Shape := ⟨2, ![128, 1]⟩
abbrev S128 : Shape := ⟨1, ![128]⟩
abbrev S128x4 : Shape := ⟨2, ![128, 4]⟩
abbrev S128x2 : Shape := ⟨2, ![128, 2]⟩
abbrev S3x4 : Shape := ⟨2, ![3, 4]⟩
abbrev S3x1 : Shape := ⟨2, ![3, 1]⟩
abbrev S3 : Shape := ⟨1, ![3]⟩
abbrev S3x1x2 : Shape := ⟨3, ![3, 1, 2]⟩
abbrev S1x128x2 : Shape := ⟨3, ![1, 128, 2]⟩
abbrev S3x128x2 : Shape := ⟨3, ![3, 128, 2]⟩
abbrev S3x128x1 : Shape := ⟨3, ![3, 128, 1]⟩
abbrev S3x128 : Shape := ⟨2, ![3, 128]⟩
abbrev S1x128 : Shape := ⟨2, ![1, 128]⟩
abbrev S16x3x26x26 : Shape := ⟨4, ![16, 3, 26, 26]⟩
abbrev S128x3 : Shape := ⟨2, ![128, 3]⟩
abbrev S1x3 : Shape := ⟨2, ![1, 3]⟩
abbrev S128x3x1 : Shape := ⟨3, ![128, 3, 1]⟩
abbrev S128x3x4 : Shape := ⟨3, ![128, 3, 4]⟩
abbrev S128x5 : Shape := ⟨2, ![128, 5]⟩
abbrev S1 : Shape := ⟨1, ![1]⟩
abbrev S16x3x26x26x1 : Shape := ⟨5, ![16, 3, 26, 26, 1]⟩
abbrev S16x3x26x26x80 : Shape := ⟨5, ![16, 3, 26, 26, 80]⟩
abbrev S1x3x1x1x2 : Shape := ⟨5, ![1, 3, 1, 1, 2]⟩
abbrev S16x2028x85 : Shape := ⟨3, ![16, 2028, 85]⟩
abbrev S1x1 : Shape := ⟨2, ![1, 1]⟩

abbrev nBuf : Space → Nat
  | .hbm => 705
  | .vmem => 0
  | .smem => 0
  | _ => 0

abbrev hbmTy0_0 (i : Nat) : BufTy := match i % 128 with
  | 0 => ⟨S16x255x26x26, .f32⟩
  | 1 => ⟨S128x6, .f32⟩
  | 2 => ⟨S3x2, .f32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i1⟩
  | 13 => ⟨S_, .i1⟩
  | 14 => ⟨S_, .i32⟩
  | 15 => ⟨S_, .i32⟩
  | 16 => ⟨S_, .i32⟩
  | 17 => ⟨S16x3x85x26x26, .f32⟩
  | 18 => ⟨S16x3x26x26x85, .f32⟩
  | 19 => ⟨S26, .i32⟩
  | 20 => ⟨S26, .i32⟩
  | 21 => ⟨S26x26, .i32⟩
  | 22 => ⟨S26x26, .i32⟩
  | 23 => ⟨S26x26x1, .i32⟩
  | 24 => ⟨S26x26x1, .i32⟩
  | 25 => ⟨S26x26x2, .i32⟩
  | 26 => ⟨S1x1x26x26x2, .i32⟩
  | 27 => ⟨S1x1x26x26x2, .f32⟩
  | 28 => ⟨S_, .f32⟩
  | 29 => ⟨S3x2, .f32⟩
  | 30 => ⟨S3x2, .f32⟩
  | 31 => ⟨S16x3x26x26x2, .f32⟩
  | 32 => ⟨S16x3x26x26x2, .f32⟩
  | 33 => ⟨S16x3x26x26x2, .f32⟩
  | 34 => ⟨S_, .f32⟩
  | 35 => ⟨S16x3x26x26x2, .f32⟩
  | 36 => ⟨S16x3x26x26x2, .f32⟩
  | 37 => ⟨S_, .f32⟩
  | 38 => ⟨S16x3x26x26x2, .f32⟩
  | 39 => ⟨S16x3x26x26x2, .f32⟩
  | 40 => ⟨S16x3x26x26x2, .f32⟩
  | 41 => ⟨S16x3x26x26x81, .f32⟩
  | 42 => ⟨S16x3x26x26x81, .f32⟩
  | 43 => ⟨S16x3x26x26x81, .f32⟩
  | 44 => ⟨S_, .f32⟩
  | 45 => ⟨S16x3x26x26x81, .f32⟩
  | 46 => ⟨S16x3x26x26x81, .f32⟩
  | 47 => ⟨S_, .f32⟩
  | 48 => ⟨S16x3x26x26x81, .f32⟩
  | 49 => ⟨S16x3x26x26x81, .f32⟩
  | 50 => ⟨S16x3x26x26x85, .f32⟩
  | 51 => ⟨S128x1, .f32⟩
  | 52 => ⟨S128, .f32⟩
  | 53 => ⟨S128, .i32⟩
  | 54 => ⟨S128x1, .f32⟩
  | 55 => ⟨S128, .f32⟩
  | 56 => ⟨S128, .i32⟩
  | 57 => ⟨S128x4, .f32⟩
  | 58 => ⟨S_, .f32⟩
  | 59 => ⟨S128x4, .f32⟩
  | 60 => ⟨S128x4, .f32⟩
  | 61 => ⟨S128x2, .f32⟩
  | 62 => ⟨S128x2, .f32⟩
  | 63 => ⟨S128x2, .f32⟩
  | 64 => ⟨S128x2, .f32⟩
  | 65 => ⟨S_, .f32⟩
  | 66 => ⟨S128x2, .f32⟩
  | 67 => ⟨S128x2, .f32⟩
  | 68 => ⟨S128x2, .f32⟩
  | 69 => ⟨S_, .f32⟩
  | 70 => ⟨S3x2, .f32⟩
  | 71 => ⟨S3x4, .f32⟩
  | 72 => ⟨S_, .f32⟩
  | 73 => ⟨S128x2, .f32⟩
  | 74 => ⟨S128x4, .f32⟩
  | 75 => ⟨S3x1, .f32⟩
  | 76 => ⟨S3, .f32⟩
  | 77 => ⟨S3x1, .f32⟩
  | 78 => ⟨S3, .f32⟩
  | 79 => ⟨S3, .f32⟩
  | 80 => ⟨S3x1, .f32⟩
  | 81 => ⟨S3, .f32⟩
  | 82 => ⟨S3x1, .f32⟩
  | 83 => ⟨S3, .f32⟩
  | 84 => ⟨S3, .f32⟩
  | 85 => ⟨S3, .f32⟩
  | 86 => ⟨S128x1, .f32⟩
  | 87 => ⟨S128, .f32⟩
  | 88 => ⟨S128x1, .f32⟩
  | 89 => ⟨S128, .f32⟩
  | 90 => ⟨S128, .f32⟩
  | 91 => ⟨S128x1, .f32⟩
  | 92 => ⟨S128, .f32⟩
  | 93 => ⟨S128x1, .f32⟩
  | 94 => ⟨S128, .f32⟩
  | 95 => ⟨S128, .f32⟩
  | 96 => ⟨S128, .f32⟩
  | 97 => ⟨S3x2, .f32⟩
  | 98 => ⟨S3x1x2, .f32⟩
  | 99 => ⟨S128x2, .f32⟩
  | 100 => ⟨S1x128x2, .f32⟩
  | 101 => ⟨S3x128x2, .f32⟩
  | 102 => ⟨S3x128x2, .f32⟩
  | 103 => ⟨S3x128x2, .f32⟩
  | 104 => ⟨S3x2, .f32⟩
  | 105 => ⟨S3x1x2, .f32⟩
  | 106 => ⟨S128x2, .f32⟩
  | 107 => ⟨S1x128x2, .f32⟩
  | 108 => ⟨S3x128x2, .f32⟩
  | 109 => ⟨S3x128x2, .f32⟩
  | 110 => ⟨S3x128x2, .f32⟩
  | 111 => ⟨S3x128x2, .f32⟩
  | 112 => ⟨S_, .f32⟩
  | 113 => ⟨S_, .f32⟩
  | 114 => ⟨S3x128x2, .f32⟩
  | 115 => ⟨S3x128x2, .f32⟩
  | 116 => ⟨S3x128x1, .f32⟩
  | 117 => ⟨S3x128, .f32⟩
  | 118 => ⟨S3x128x1, .f32⟩
  | 119 => ⟨S3x128, .f32⟩
  | 120 => ⟨S3x128, .f32⟩
  | 121 => ⟨S3x1, .f32⟩
  | 122 => ⟨S1x128, .f32⟩
  | 123 => ⟨S3x128, .f32⟩
  | 124 => ⟨S3x128, .f32⟩
  | 125 => ⟨S3x128, .f32⟩
  | 126 => ⟨S3x128, .f32⟩
  | 127 => ⟨S3x128, .f32⟩
  | _ => ⟨S16x255x26x26, .f32⟩

abbrev hbmTy0_1 (i : Nat) : BufTy := match i % 128 with
  | 0 => ⟨S_, .f32⟩
  | 1 => ⟨S128, .f32⟩
  | 2 => ⟨S1x128, .f32⟩
  | 3 => ⟨S3x128, .f32⟩
  | 4 => ⟨S3x128, .i1⟩
  | 5 => ⟨S3, .i32⟩
  | 6 => ⟨S3x1, .i32⟩
  | 7 => ⟨S_, .i32⟩
  | 8 => ⟨S_, .i32⟩
  | 9 => ⟨S3x128, .i32⟩
  | 10 => ⟨S3x128, .i32⟩
  | 11 => ⟨S3x128, .i32⟩
  | 12 => ⟨S_, .i32⟩
  | 13 => ⟨S128, .i32⟩
  | 14 => ⟨S128x2, .i32⟩
  | 15 => ⟨S128x1, .i32⟩
  | 16 => ⟨S128, .i32⟩
  | 17 => ⟨S_, .i32⟩
  | 18 => ⟨S128, .i32⟩
  | 19 => ⟨S128, .i1⟩
  | 20 => ⟨S128x1, .i1⟩
  | 21 => ⟨S_, .i32⟩
  | 22 => ⟨S_, .i32⟩
  | 23 => ⟨S128x2, .i1⟩
  | 24 => ⟨S128x2, .i32⟩
  | 25 => ⟨S128x2, .i32⟩
  | 26 => ⟨S128x1, .i32⟩
  | 27 => ⟨S128, .i32⟩
  | 28 => ⟨S_, .i32⟩
  | 29 => ⟨S128, .i32⟩
  | 30 => ⟨S128, .i1⟩
  | 31 => ⟨S128x1, .i1⟩
  | 32 => ⟨S_, .i32⟩
  | 33 => ⟨S_, .i32⟩
  | 34 => ⟨S128x2, .i1⟩
  | 35 => ⟨S128x2, .i32⟩
  | 36 => ⟨S128x2, .i32⟩
  | 37 => ⟨S128x1, .i32⟩
  | 38 => ⟨S128, .i32⟩
  | 39 => ⟨S_, .i32⟩
  | 40 => ⟨S128, .i32⟩
  | 41 => ⟨S128, .i1⟩
  | 42 => ⟨S128x1, .i1⟩
  | 43 => ⟨S_, .i32⟩
  | 44 => ⟨S_, .i32⟩
  | 45 => ⟨S128x2, .i1⟩
  | 46 => ⟨S128x2, .i32⟩
  | 47 => ⟨S128x2, .i32⟩
  | 48 => ⟨S128x1, .i32⟩
  | 49 => ⟨S128, .i32⟩
  | 50 => ⟨S_, .i32⟩
  | 51 => ⟨S128, .i32⟩
  | 52 => ⟨S128, .i1⟩
  | 53 => ⟨S128x1, .i1⟩
  | 54 => ⟨S_, .i32⟩
  | 55 => ⟨S_, .i32⟩
  | 56 => ⟨S128x2, .i1⟩
  | 57 => ⟨S128x2, .i32⟩
  | 58 => ⟨S128x2, .i32⟩
  | 59 => ⟨S128x1, .i32⟩
  | 60 => ⟨S128, .i32⟩
  | 61 => ⟨S128x1, .i32⟩
  | 62 => ⟨S128, .i32⟩
  | 63 => ⟨S_, .f32⟩
  | 64 => ⟨S16x3x26x26, .f32⟩
  | 65 => ⟨S_, .i32⟩
  | 66 => ⟨S128, .i32⟩
  | 67 => ⟨S128, .i1⟩
  | 68 => ⟨S_, .i32⟩
  | 69 => ⟨S128, .i32⟩
  | 70 => ⟨S128, .i32⟩
  | 71 => ⟨S128, .i32⟩
  | 72 => ⟨S_, .i32⟩
  | 73 => ⟨S128, .i32⟩
  | 74 => ⟨S128, .i1⟩
  | 75 => ⟨S_, .i32⟩
  | 76 => ⟨S128, .i32⟩
  | 77 => ⟨S128, .i32⟩
  | 78 => ⟨S128, .i32⟩
  | 79 => ⟨S_, .i32⟩
  | 80 => ⟨S128, .i32⟩
  | 81 => ⟨S128, .i1⟩
  | 82 => ⟨S_, .i32⟩
  | 83 => ⟨S128, .i32⟩
  | 84 => ⟨S128, .i32⟩
  | 85 => ⟨S128, .i32⟩
  | 86 => ⟨S_, .i32⟩
  | 87 => ⟨S128, .i32⟩
  | 88 => ⟨S128, .i1⟩
  | 89 => ⟨S_, .i32⟩
  | 90 => ⟨S128, .i32⟩
  | 91 => ⟨S128, .i32⟩
  | 92 => ⟨S128, .i32⟩
  | 93 => ⟨S128x1, .i32⟩
  | 94 => ⟨S128x1, .i32⟩
  | 95 => ⟨S128x1, .i32⟩
  | 96 => ⟨S128x1, .i32⟩
  | 97 => ⟨S128x4, .i32⟩
  | 98 => ⟨S_, .f32⟩
  | 99 => ⟨S128, .f32⟩
  | 100 => ⟨S16x3x26x26, .f32⟩
  | 101 => ⟨S_, .i32⟩
  | 102 => ⟨S16x3x26x26, .i32⟩
  | 103 => ⟨S_, .i32⟩
  | 104 => ⟨S128, .i32⟩
  | 105 => ⟨S128, .i1⟩
  | 106 => ⟨S_, .i32⟩
  | 107 => ⟨S128, .i32⟩
  | 108 => ⟨S128, .i32⟩
  | 109 => ⟨S128, .i32⟩
  | 110 => ⟨S_, .i32⟩
  | 111 => ⟨S128, .i32⟩
  | 112 => ⟨S128, .i1⟩
  | 113 => ⟨S_, .i32⟩
  | 114 => ⟨S128, .i32⟩
  | 115 => ⟨S128, .i32⟩
  | 116 => ⟨S128, .i32⟩
  | 117 => ⟨S_, .i32⟩
  | 118 => ⟨S128, .i32⟩
  | 119 => ⟨S128, .i1⟩
  | 120 => ⟨S_, .i32⟩
  | 121 => ⟨S128, .i32⟩
  | 122 => ⟨S128, .i32⟩
  | 123 => ⟨S128, .i32⟩
  | 124 => ⟨S_, .i32⟩
  | 125 => ⟨S128, .i32⟩
  | 126 => ⟨S128, .i1⟩
  | 127 => ⟨S_, .i32⟩
  | _ => ⟨S16x255x26x26, .f32⟩

abbrev hbmTy0_2 (i : Nat) : BufTy := match i % 128 with
  | 0 => ⟨S128, .i32⟩
  | 1 => ⟨S128, .i32⟩
  | 2 => ⟨S128, .i32⟩
  | 3 => ⟨S128x1, .i32⟩
  | 4 => ⟨S128x1, .i32⟩
  | 5 => ⟨S128x1, .i32⟩
  | 6 => ⟨S128x1, .i32⟩
  | 7 => ⟨S128x4, .i32⟩
  | 8 => ⟨S_, .i32⟩
  | 9 => ⟨S128, .i32⟩
  | 10 => ⟨S16x3x26x26, .i32⟩
  | 11 => ⟨S128x1, .i32⟩
  | 12 => ⟨S128x3, .i32⟩
  | 13 => ⟨S3, .i32⟩
  | 14 => ⟨S1x3, .i32⟩
  | 15 => ⟨S128x3, .i32⟩
  | 16 => ⟨S128x1, .i32⟩
  | 17 => ⟨S128x3, .i32⟩
  | 18 => ⟨S128x1, .i32⟩
  | 19 => ⟨S128x3, .i32⟩
  | 20 => ⟨S128x3, .f32⟩
  | 21 => ⟨S_, .f32⟩
  | 22 => ⟨S128x3, .f32⟩
  | 23 => ⟨S128x3, .i1⟩
  | 24 => ⟨S_, .i32⟩
  | 25 => ⟨S_, .i32⟩
  | 26 => ⟨S128x3, .i32⟩
  | 27 => ⟨S128x3, .i32⟩
  | 28 => ⟨S128x3, .i32⟩
  | 29 => ⟨S_, .i32⟩
  | 30 => ⟨S128x3, .i32⟩
  | 31 => ⟨S128x3, .i1⟩
  | 32 => ⟨S_, .i32⟩
  | 33 => ⟨S128x3, .i32⟩
  | 34 => ⟨S128x3, .i32⟩
  | 35 => ⟨S128x3, .i32⟩
  | 36 => ⟨S_, .i32⟩
  | 37 => ⟨S128x3, .i32⟩
  | 38 => ⟨S128x3, .i1⟩
  | 39 => ⟨S_, .i32⟩
  | 40 => ⟨S128x3, .i32⟩
  | 41 => ⟨S128x3, .i32⟩
  | 42 => ⟨S128x3, .i32⟩
  | 43 => ⟨S_, .i32⟩
  | 44 => ⟨S128x3, .i32⟩
  | 45 => ⟨S128x3, .i1⟩
  | 46 => ⟨S_, .i32⟩
  | 47 => ⟨S128x3, .i32⟩
  | 48 => ⟨S128x3, .i32⟩
  | 49 => ⟨S128x3, .i32⟩
  | 50 => ⟨S_, .i32⟩
  | 51 => ⟨S128x3, .i32⟩
  | 52 => ⟨S128x3, .i1⟩
  | 53 => ⟨S_, .i32⟩
  | 54 => ⟨S128x3, .i32⟩
  | 55 => ⟨S128x3, .i32⟩
  | 56 => ⟨S128x3, .i32⟩
  | 57 => ⟨S128x3x1, .i32⟩
  | 58 => ⟨S128x3x1, .i32⟩
  | 59 => ⟨S128x3x1, .i32⟩
  | 60 => ⟨S128x3x1, .i32⟩
  | 61 => ⟨S128x3x4, .i32⟩
  | 62 => ⟨S128x3, .i32⟩
  | 63 => ⟨S16x3x26x26, .i32⟩
  | 64 => ⟨S16x3x26x26, .f32⟩
  | 65 => ⟨S128x2, .f32⟩
  | 66 => ⟨S128x2, .f32⟩
  | 67 => ⟨S_, .i32⟩
  | 68 => ⟨S128, .i32⟩
  | 69 => ⟨S128, .i1⟩
  | 70 => ⟨S_, .i32⟩
  | 71 => ⟨S128, .i32⟩
  | 72 => ⟨S128, .i32⟩
  | 73 => ⟨S128, .i32⟩
  | 74 => ⟨S128x1, .i32⟩
  | 75 => ⟨S128x2, .f32⟩
  | 76 => ⟨S128x2, .f32⟩
  | 77 => ⟨S_, .f32⟩
  | 78 => ⟨S128x2, .f32⟩
  | 79 => ⟨S128x2, .f32⟩
  | 80 => ⟨S128x2, .f32⟩
  | 81 => ⟨S_, .f32⟩
  | 82 => ⟨S16x3x26x26x85, .f32⟩
  | 83 => ⟨S128x1, .f32⟩
  | 84 => ⟨S128, .f32⟩
  | 85 => ⟨S_, .i32⟩
  | 86 => ⟨S128, .i32⟩
  | 87 => ⟨S128, .i1⟩
  | 88 => ⟨S_, .i32⟩
  | 89 => ⟨S128, .i32⟩
  | 90 => ⟨S128, .i32⟩
  | 91 => ⟨S128, .i32⟩
  | 92 => ⟨S_, .i32⟩
  | 93 => ⟨S128, .i32⟩
  | 94 => ⟨S128, .i1⟩
  | 95 => ⟨S_, .i32⟩
  | 96 => ⟨S128, .i32⟩
  | 97 => ⟨S128, .i32⟩
  | 98 => ⟨S128, .i32⟩
  | 99 => ⟨S_, .i32⟩
  | 100 => ⟨S128, .i32⟩
  | 101 => ⟨S128, .i1⟩
  | 102 => ⟨S_, .i32⟩
  | 103 => ⟨S128, .i32⟩
  | 104 => ⟨S128, .i32⟩
  | 105 => ⟨S128, .i32⟩
  | 106 => ⟨S_, .i32⟩
  | 107 => ⟨S128, .i32⟩
  | 108 => ⟨S128, .i1⟩
  | 109 => ⟨S_, .i32⟩
  | 110 => ⟨S128, .i32⟩
  | 111 => ⟨S128, .i32⟩
  | 112 => ⟨S128, .i32⟩
  | 113 => ⟨S_, .i32⟩
  | 114 => ⟨S128, .i32⟩
  | 115 => ⟨S128, .i32⟩
  | 116 => ⟨S128x1, .i32⟩
  | 117 => ⟨S128x1, .i32⟩
  | 118 => ⟨S128x1, .i32⟩
  | 119 => ⟨S128x1, .i32⟩
  | 120 => ⟨S128x1, .i32⟩
  | 121 => ⟨S128x5, .i32⟩
  | 122 => ⟨S16x3x26x26x85, .f32⟩
  | 123 => ⟨S128x1, .f32⟩
  | 124 => ⟨S128, .f32⟩
  | 125 => ⟨S_, .i32⟩
  | 126 => ⟨S128, .i32⟩
  | 127 => ⟨S128, .i1⟩
  | _ => ⟨S16x255x26x26, .f32⟩

abbrev hbmTy0_3 (i : Nat) : BufTy := match i % 128 with
  | 0 => ⟨S_, .i32⟩
  | 1 => ⟨S128, .i32⟩
  | 2 => ⟨S128, .i32⟩
  | 3 => ⟨S128, .i32⟩
  | 4 => ⟨S_, .i32⟩
  | 5 => ⟨S128, .i32⟩
  | 6 => ⟨S128, .i1⟩
  | 7 => ⟨S_, .i32⟩
  | 8 => ⟨S128, .i32⟩
  | 9 => ⟨S128, .i32⟩
  | 10 => ⟨S128, .i32⟩
  | 11 => ⟨S_, .i32⟩
  | 12 => ⟨S128, .i32⟩
  | 13 => ⟨S128, .i1⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S_, .i32⟩
  | 22 => ⟨S128, .i32⟩
  | 23 => ⟨S128, .i32⟩
  | 24 => ⟨S128, .i32⟩
  | 25 => ⟨S_, .i32⟩
  | 26 => ⟨S128, .i32⟩
  | 27 => ⟨S128, .i32⟩
  | 28 => ⟨S128x1, .i32⟩
  | 29 => ⟨S128x1, .i32⟩
  | 30 => ⟨S128x1, .i32⟩
  | 31 => ⟨S128x1, .i32⟩
  | 32 => ⟨S128x1, .i32⟩
  | 33 => ⟨S128x5, .i32⟩
  | 34 => ⟨S16x3x26x26x85, .f32⟩
  | 35 => ⟨S128x1, .f32⟩
  | 36 => ⟨S128, .f32⟩
  | 37 => ⟨S_, .i32⟩
  | 38 => ⟨S128, .i32⟩
  | 39 => ⟨S128, .i1⟩
  | 40 => ⟨S_, .i32⟩
  | 41 => ⟨S128, .i32⟩
  | 42 => ⟨S128, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i32⟩
  | 50 => ⟨S128, .i32⟩
  | 51 => ⟨S_, .i32⟩
  | 52 => ⟨S128, .i32⟩
  | 53 => ⟨S128, .i1⟩
  | 54 => ⟨S_, .i32⟩
  | 55 => ⟨S128, .i32⟩
  | 56 => ⟨S128, .i32⟩
  | 57 => ⟨S128, .i32⟩
  | 58 => ⟨S_, .i32⟩
  | 59 => ⟨S128, .i32⟩
  | 60 => ⟨S128, .i1⟩
  | 61 => ⟨S_, .i32⟩
  | 62 => ⟨S128, .i32⟩
  | 63 => ⟨S128, .i32⟩
  | 64 => ⟨S128, .i32⟩
  | 65 => ⟨S_, .i32⟩
  | 66 => ⟨S128, .i32⟩
  | 67 => ⟨S128, .i32⟩
  | 68 => ⟨S128x1, .i32⟩
  | 69 => ⟨S128x1, .i32⟩
  | 70 => ⟨S128x1, .i32⟩
  | 71 => ⟨S128x1, .i32⟩
  | 72 => ⟨S128x1, .i32⟩
  | 73 => ⟨S128x5, .i32⟩
  | 74 => ⟨S16x3x26x26x85, .f32⟩
  | 75 => ⟨S128x1, .f32⟩
  | 76 => ⟨S128, .f32⟩
  | 77 => ⟨S_, .i32⟩
  | 78 => ⟨S128, .i32⟩
  | 79 => ⟨S128, .i1⟩
  | 80 => ⟨S_, .i32⟩
  | 81 => ⟨S128, .i32⟩
  | 82 => ⟨S128, .i32⟩
  | 83 => ⟨S128, .i32⟩
  | 84 => ⟨S_, .i32⟩
  | 85 => ⟨S128, .i32⟩
  | 86 => ⟨S128, .i1⟩
  | 87 => ⟨S_, .i32⟩
  | 88 => ⟨S128, .i32⟩
  | 89 => ⟨S128, .i32⟩
  | 90 => ⟨S128, .i32⟩
  | 91 => ⟨S_, .i32⟩
  | 92 => ⟨S128, .i32⟩
  | 93 => ⟨S128, .i1⟩
  | 94 => ⟨S_, .i32⟩
  | 95 => ⟨S128, .i32⟩
  | 96 => ⟨S128, .i32⟩
  | 97 => ⟨S128, .i32⟩
  | 98 => ⟨S_, .i32⟩
  | 99 => ⟨S128, .i32⟩
  | 100 => ⟨S128, .i1⟩
  | 101 => ⟨S_, .i32⟩
  | 102 => ⟨S128, .i32⟩
  | 103 => ⟨S128, .i32⟩
  | 104 => ⟨S128, .i32⟩
  | 105 => ⟨S_, .i32⟩
  | 106 => ⟨S128, .i32⟩
  | 107 => ⟨S128, .i32⟩
  | 108 => ⟨S128x1, .i32⟩
  | 109 => ⟨S128x1, .i32⟩
  | 110 => ⟨S128x1, .i32⟩
  | 111 => ⟨S128x1, .i32⟩
  | 112 => ⟨S128x1, .i32⟩
  | 113 => ⟨S128x5, .i32⟩
  | 114 => ⟨S16x3x26x26x85, .f32⟩
  | 115 => ⟨S_, .i32⟩
  | 116 => ⟨S1, .i32⟩
  | 117 => ⟨S16x3x26x26x85, .f32⟩
  | 118 => ⟨S_, .i32⟩
  | 119 => ⟨S128, .i32⟩
  | 120 => ⟨S128, .i32⟩
  | 121 => ⟨S_, .i32⟩
  | 122 => ⟨S128, .i32⟩
  | 123 => ⟨S128, .i1⟩
  | 124 => ⟨S_, .i32⟩
  | 125 => ⟨S128, .i32⟩
  | 126 => ⟨S128, .i32⟩
  | 127 => ⟨S128, .i32⟩
  | _ => ⟨S16x255x26x26, .f32⟩

abbrev hbmTy0_4 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S_, .i32⟩
  | 8 => ⟨S128, .i32⟩
  | 9 => ⟨S128, .i1⟩
  | 10 => ⟨S_, .i32⟩
  | 11 => ⟨S128, .i32⟩
  | 12 => ⟨S128, .i32⟩
  | 13 => ⟨S128, .i32⟩
  | 14 => ⟨S_, .i32⟩
  | 15 => ⟨S128, .i32⟩
  | 16 => ⟨S128, .i1⟩
  | 17 => ⟨S_, .i32⟩
  | 18 => ⟨S128, .i32⟩
  | 19 => ⟨S128, .i32⟩
  | 20 => ⟨S128, .i32⟩
  | 21 => ⟨S_, .i32⟩
  | 22 => ⟨S128, .i32⟩
  | 23 => ⟨S128, .i1⟩
  | 24 => ⟨S_, .i32⟩
  | 25 => ⟨S128, .i32⟩
  | 26 => ⟨S128, .i32⟩
  | 27 => ⟨S128, .i32⟩
  | 28 => ⟨S128x1, .i32⟩
  | 29 => ⟨S128x1, .i32⟩
  | 30 => ⟨S128x1, .i32⟩
  | 31 => ⟨S128x1, .i32⟩
  | 32 => ⟨S128x1, .i32⟩
  | 33 => ⟨S128x5, .i32⟩
  | 34 => ⟨S_, .f32⟩
  | 35 => ⟨S128, .f32⟩
  | 36 => ⟨S16x3x26x26x85, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S16x3x26x26x1, .f32⟩
  | 46 => ⟨S16x3x26x26, .f32⟩
  | 47 => ⟨S16x3x26x26x1, .f32⟩
  | 48 => ⟨S16x3x26x26, .f32⟩
  | 49 => ⟨S16x3x26x26, .f32⟩
  | 50 => ⟨S16x3x26x26, .f32⟩
  | 51 => ⟨S16x3x26x26, .f32⟩
  | 52 => ⟨S_, .f32⟩
  | 53 => ⟨S_, .f32⟩
  | 54 => ⟨S_, .f32⟩
  | 55 => ⟨S16x3x26x26x1, .f32⟩
  | 56 => ⟨S16x3x26x26, .f32⟩
  | 57 => ⟨S16x3x26x26x1, .f32⟩
  | 58 => ⟨S16x3x26x26, .f32⟩
  | 59 => ⟨S16x3x26x26, .f32⟩
  | 60 => ⟨S16x3x26x26, .f32⟩
  | 61 => ⟨S16x3x26x26, .f32⟩
  | 62 => ⟨S_, .f32⟩
  | 63 => ⟨S_, .f32⟩
  | 64 => ⟨S_, .f32⟩
  | 65 => ⟨S16x3x26x26x1, .f32⟩
  | 66 => ⟨S16x3x26x26, .f32⟩
  | 67 => ⟨S16x3x26x26x1, .f32⟩
  | 68 => ⟨S16x3x26x26, .f32⟩
  | 69 => ⟨S16x3x26x26, .f32⟩
  | 70 => ⟨S16x3x26x26, .f32⟩
  | 71 => ⟨S16x3x26x26, .f32⟩
  | 72 => ⟨S_, .f32⟩
  | 73 => ⟨S_, .f32⟩
  | 74 => ⟨S_, .f32⟩
  | 75 => ⟨S16x3x26x26x1, .f32⟩
  | 76 => ⟨S16x3x26x26, .f32⟩
  | 77 => ⟨S16x3x26x26x1, .f32⟩
  | 78 => ⟨S16x3x26x26, .f32⟩
  | 79 => ⟨S16x3x26x26, .f32⟩
  | 80 => ⟨S16x3x26x26, .f32⟩
  | 81 => ⟨S16x3x26x26, .f32⟩
  | 82 => ⟨S_, .f32⟩
  | 83 => ⟨S_, .f32⟩
  | 84 => ⟨S_, .f32⟩
  | 85 => ⟨S16x3x26x26x1, .f32⟩
  | 86 => ⟨S16x3x26x26, .f32⟩
  | 87 => ⟨S16x3x26x26x1, .f32⟩
  | 88 => ⟨S16x3x26x26, .f32⟩
  | 89 => ⟨S16x3x26x26, .f32⟩
  | 90 => ⟨S_, .f32⟩
  | 91 => ⟨S16x3x26x26, .f32⟩
  | 92 => ⟨S16x3x26x26, .f32⟩
  | 93 => ⟨S16x3x26x26, .f32⟩
  | 94 => ⟨S_, .f32⟩
  | 95 => ⟨S16x3x26x26, .f32⟩
  | 96 => ⟨S16x3x26x26, .f32⟩
  | 97 => ⟨S_, .f32⟩
  | 98 => ⟨S16x3x26x26, .f32⟩
  | 99 => ⟨S16x3x26x26, .f32⟩
  | 100 => ⟨S16x3x26x26, .f32⟩
  | 101 => ⟨S_, .f32⟩
  | 102 => ⟨S16x3x26x26, .f32⟩
  | 103 => ⟨S16x3x26x26, .f32⟩
  | 104 => ⟨S16x3x26x26, .f32⟩
  | 105 => ⟨S16x3x26x26, .f32⟩
  | 106 => ⟨S16x3x26x26, .f32⟩
  | 107 => ⟨S16x3x26x26, .f32⟩
  | 108 => ⟨S_, .f32⟩
  | 109 => ⟨S_, .f32⟩
  | 110 => ⟨S_, .f32⟩
  | 111 => ⟨S16x3x26x26x1, .f32⟩
  | 112 => ⟨S16x3x26x26, .f32⟩
  | 113 => ⟨S16x3x26x26x1, .f32⟩
  | 114 => ⟨S16x3x26x26, .f32⟩
  | 115 => ⟨S16x3x26x26, .f32⟩
  | 116 => ⟨S_, .f32⟩
  | 117 => ⟨S16x3x26x26, .f32⟩
  | 118 => ⟨S16x3x26x26, .f32⟩
  | 119 => ⟨S16x3x26x26, .f32⟩
  | 120 => ⟨S_, .f32⟩
  | 121 => ⟨S16x3x26x26, .f32⟩
  | 122 => ⟨S16x3x26x26, .f32⟩
  | 123 => ⟨S_, .f32⟩
  | 124 => ⟨S16x3x26x26, .f32⟩
  | 125 => ⟨S16x3x26x26, .f32⟩
  | 126 => ⟨S16x3x26x26, .f32⟩
  | 127 => ⟨S_, .f32⟩
  | _ => ⟨S16x255x26x26, .f32⟩

abbrev hbmTy0_5 (i : Nat) : BufTy := match i % 128 with
  | 0 => ⟨S16x3x26x26, .f32⟩
  | 1 => ⟨S16x3x26x26, .f32⟩
  | 2 => ⟨S16x3x26x26, .f32⟩
  | 3 => ⟨S16x3x26x26, .f32⟩
  | 4 => ⟨S16x3x26x26, .f32⟩
  | 5 => ⟨S16x3x26x26, .f32⟩
  | 6 => ⟨S_, .f32⟩
  | 7 => ⟨S_, .f32⟩
  | 8 => ⟨S_, .f32⟩
  | 9 => ⟨S16x3x26x26x80, .f32⟩
  | 10 => ⟨S16x3x26x26x80, .f32⟩
  | 11 => ⟨S16x3x26x26x80, .f32⟩
  | 12 => ⟨S_, .f32⟩
  | 13 => ⟨S16x3x26x26x80, .f32⟩
  | 14 => ⟨S16x3x26x26x80, .f32⟩
  | 15 => ⟨S16x3x26x26x80, .f32⟩
  | 16 => ⟨S_, .f32⟩
  | 17 => ⟨S16x3x26x26x80, .f32⟩
  | 18 => ⟨S16x3x26x26x80, .f32⟩
  | 19 => ⟨S_, .f32⟩
  | 20 => ⟨S16x3x26x26x80, .f32⟩
  | 21 => ⟨S16x3x26x26x80, .f32⟩
  | 22 => ⟨S16x3x26x26x80, .f32⟩
  | 23 => ⟨S_, .f32⟩
  | 24 => ⟨S16x3x26x26x80, .f32⟩
  | 25 => ⟨S16x3x26x26x80, .f32⟩
  | 26 => ⟨S16x3x26x26x80, .f32⟩
  | 27 => ⟨S16x3x26x26x80, .f32⟩
  | 28 => ⟨S16x3x26x26x80, .f32⟩
  | 29 => ⟨S16x3x26x26x1, .f32⟩
  | 30 => ⟨S16x3x26x26x80, .f32⟩
  | 31 => ⟨S16x3x26x26x80, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S16x3x26x26x2, .f32⟩
  | 48 => ⟨S16x3x26x26x2, .f32⟩
  | 49 => ⟨S16x3x26x26x2, .f32⟩
  | 50 => ⟨S_, .f32⟩
  | 51 => ⟨S16x3x26x26x2, .f32⟩
  | 52 => ⟨S16x3x26x26x2, .f32⟩
  | 53 => ⟨S16x3x26x26x2, .f32⟩
  | 54 => ⟨S16x3x26x26x2, .f32⟩
  | 55 => ⟨S1x3x1x1x2, .f32⟩
  | 56 => ⟨S16x3x26x26x2, .f32⟩
  | 57 => ⟨S16x3x26x26x2, .f32⟩
  | 58 => ⟨S_, .f32⟩
  | 59 => ⟨S16x3x26x26x2, .f32⟩
  | 60 => ⟨S16x3x26x26x2, .f32⟩
  | 61 => ⟨S16x3x26x26x81, .f32⟩
  | 62 => ⟨S16x3x26x26x85, .f32⟩
  | 63 => ⟨S16x2028x85, .f32⟩
  | 64 => ⟨S1x1, .f32⟩
  | _ => ⟨S16x255x26x26, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x255x26x26, .f32⟩

abbrev bufTy : (tb : Table) → Fin (tcTables nBuf tb) → BufTy
  | .hbm, ⟨i, _⟩ => hbmTy i
  | _, _ => ⟨S16x255x26x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c : Ref sig .tc := ⟨.hbm, 11, rfl⟩
abbrev main_call0_v6 : Ref sig .tc := ⟨.hbm, 12, rfl⟩
abbrev main_call0_v7 : Ref sig .tc := ⟨.hbm, 13, rfl⟩
abbrev main_call0_c_0 : Ref sig .tc := ⟨.hbm, 14, rfl⟩
abbrev main_call0_v8 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_6 : Ref sig .tc := ⟨.hbm, 112, rfl⟩
abbrev main_call1_v0 : Ref sig .tc := ⟨.hbm, 113, rfl⟩
abbrev main_call1_v1 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_7 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_c_8 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v108 : Ref sig .tc := ⟨.hbm, 139, rfl⟩
abbrev main_c_9 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_c_10 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_c_11 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_12 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_13 : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_14 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_15 : Ref sig .tc := ⟨.hbm, 171, rfl⟩
abbrev main_call5_v0 : Ref sig .tc := ⟨.hbm, 172, rfl⟩
abbrev main_call5_v1 : Ref sig .tc := ⟨.hbm, 173, rfl⟩
abbrev main_call5_v2 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_c_16 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_c_17 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_18 : Ref sig .tc := ⟨.hbm, 191, rfl⟩
abbrev main_v139 : Ref sig .tc := ⟨.hbm, 192, rfl⟩
abbrev main_c_19 : Ref sig .tc := ⟨.hbm, 193, rfl⟩
abbrev main_v140 : Ref sig .tc := ⟨.hbm, 194, rfl⟩
abbrev main_v141 : Ref sig .tc := ⟨.hbm, 195, rfl⟩
abbrev main_c_20 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_21 : Ref sig .tc := ⟨.hbm, 200, rfl⟩
abbrev main_v145 : Ref sig .tc := ⟨.hbm, 201, rfl⟩
abbrev main_v146 : Ref sig .tc := ⟨.hbm, 202, rfl⟩
abbrev main_c_22 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_c_23 : Ref sig .tc := ⟨.hbm, 207, rfl⟩
abbrev main_v150 : Ref sig .tc := ⟨.hbm, 208, rfl⟩
abbrev main_v151 : Ref sig .tc := ⟨.hbm, 209, rfl⟩
abbrev main_c_24 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_c_25 : Ref sig .tc := ⟨.hbm, 214, rfl⟩
abbrev main_v155 : Ref sig .tc := ⟨.hbm, 215, rfl⟩
abbrev main_v156 : Ref sig .tc := ⟨.hbm, 216, rfl⟩
abbrev main_c_26 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_27 : Ref sig .tc := ⟨.hbm, 226, rfl⟩
abbrev main_v165 : Ref sig .tc := ⟨.hbm, 227, rfl⟩
abbrev main_v166 : Ref sig .tc := ⟨.hbm, 228, rfl⟩
abbrev main_c_28 : Ref sig .tc := ⟨.hbm, 229, rfl⟩
abbrev main_v167 : Ref sig .tc := ⟨.hbm, 230, rfl⟩
abbrev main_c_29 : Ref sig .tc := ⟨.hbm, 231, rfl⟩
abbrev main_v168 : Ref sig .tc := ⟨.hbm, 232, rfl⟩
abbrev main_v169 : Ref sig .tc := ⟨.hbm, 233, rfl⟩
abbrev main_c_30 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_c_31 : Ref sig .tc := ⟨.hbm, 238, rfl⟩
abbrev main_v173 : Ref sig .tc := ⟨.hbm, 239, rfl⟩
abbrev main_v174 : Ref sig .tc := ⟨.hbm, 240, rfl⟩
abbrev main_c_32 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_c_33 : Ref sig .tc := ⟨.hbm, 245, rfl⟩
abbrev main_v178 : Ref sig .tc := ⟨.hbm, 246, rfl⟩
abbrev main_v179 : Ref sig .tc := ⟨.hbm, 247, rfl⟩
abbrev main_c_34 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_c_35 : Ref sig .tc := ⟨.hbm, 252, rfl⟩
abbrev main_v183 : Ref sig .tc := ⟨.hbm, 253, rfl⟩
abbrev main_v184 : Ref sig .tc := ⟨.hbm, 254, rfl⟩
abbrev main_c_36 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_c_37 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_cst_38 : Ref sig .tc := ⟨.hbm, 277, rfl⟩
abbrev main_v205 : Ref sig .tc := ⟨.hbm, 278, rfl⟩
abbrev main_v206 : Ref sig .tc := ⟨.hbm, 279, rfl⟩
abbrev main_c_39 : Ref sig .tc := ⟨.hbm, 280, rfl⟩
abbrev main_c_40 : Ref sig .tc := ⟨.hbm, 281, rfl⟩
abbrev main_call7_v0 : Ref sig .tc := ⟨.hbm, 282, rfl⟩
abbrev main_call7_v1 : Ref sig .tc := ⟨.hbm, 283, rfl⟩
abbrev main_v207 : Ref sig .tc := ⟨.hbm, 284, rfl⟩
abbrev main_c_41 : Ref sig .tc := ⟨.hbm, 285, rfl⟩
abbrev main_v208 : Ref sig .tc := ⟨.hbm, 286, rfl⟩
abbrev main_v209 : Ref sig .tc := ⟨.hbm, 287, rfl⟩
abbrev main_c_42 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_c_43 : Ref sig .tc := ⟨.hbm, 292, rfl⟩
abbrev main_v213 : Ref sig .tc := ⟨.hbm, 293, rfl⟩
abbrev main_v214 : Ref sig .tc := ⟨.hbm, 294, rfl⟩
abbrev main_c_44 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_c_45 : Ref sig .tc := ⟨.hbm, 299, rfl⟩
abbrev main_v218 : Ref sig .tc := ⟨.hbm, 300, rfl⟩
abbrev main_v219 : Ref sig .tc := ⟨.hbm, 301, rfl⟩
abbrev main_c_46 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_c_47 : Ref sig .tc := ⟨.hbm, 306, rfl⟩
abbrev main_v223 : Ref sig .tc := ⟨.hbm, 307, rfl⟩
abbrev main_v224 : Ref sig .tc := ⟨.hbm, 308, rfl⟩
abbrev main_c_48 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_c_49 : Ref sig .tc := ⟨.hbm, 323, rfl⟩
abbrev main_v238 : Ref sig .tc := ⟨.hbm, 324, rfl⟩
abbrev main_v239 : Ref sig .tc := ⟨.hbm, 325, rfl⟩
abbrev main_c_50 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_cst_51 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_cst_52 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_c_53 : Ref sig .tc := ⟨.hbm, 341, rfl⟩
abbrev main_v252 : Ref sig .tc := ⟨.hbm, 342, rfl⟩
abbrev main_v253 : Ref sig .tc := ⟨.hbm, 343, rfl⟩
abbrev main_c_54 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_c_55 : Ref sig .tc := ⟨.hbm, 348, rfl⟩
abbrev main_v257 : Ref sig .tc := ⟨.hbm, 349, rfl⟩
abbrev main_v258 : Ref sig .tc := ⟨.hbm, 350, rfl⟩
abbrev main_c_56 : Ref sig .tc := ⟨.hbm, 351, rfl⟩
abbrev main_v259 : Ref sig .tc := ⟨.hbm, 352, rfl⟩
abbrev main_v260 : Ref sig .tc := ⟨.hbm, 353, rfl⟩
abbrev main_v261 : Ref sig .tc := ⟨.hbm, 354, rfl⟩
abbrev main_c_57 : Ref sig .tc := ⟨.hbm, 355, rfl⟩
abbrev main_v262 : Ref sig .tc := ⟨.hbm, 356, rfl⟩
abbrev main_v263 : Ref sig .tc := ⟨.hbm, 357, rfl⟩
abbrev main_c_58 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_c_59 : Ref sig .tc := ⟨.hbm, 362, rfl⟩
abbrev main_v267 : Ref sig .tc := ⟨.hbm, 363, rfl⟩
abbrev main_v268 : Ref sig .tc := ⟨.hbm, 364, rfl⟩
abbrev main_c_60 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_c_61 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_v275 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_v279 : Ref sig .tc := ⟨.hbm, 377, rfl⟩
abbrev main_v280 : Ref sig .tc := ⟨.hbm, 378, rfl⟩
abbrev main_v281 : Ref sig .tc := ⟨.hbm, 379, rfl⟩
abbrev main_v282 : Ref sig .tc := ⟨.hbm, 380, rfl⟩
abbrev main_c_62 : Ref sig .tc := ⟨.hbm, 381, rfl⟩
abbrev main_v283 : Ref sig .tc := ⟨.hbm, 382, rfl⟩
abbrev main_v284 : Ref sig .tc := ⟨.hbm, 383, rfl⟩
abbrev main_c_63 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_c_64 : Ref sig .tc := ⟨.hbm, 388, rfl⟩
abbrev main_v288 : Ref sig .tc := ⟨.hbm, 389, rfl⟩
abbrev main_v289 : Ref sig .tc := ⟨.hbm, 390, rfl⟩
abbrev main_c_65 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_c_66 : Ref sig .tc := ⟨.hbm, 395, rfl⟩
abbrev main_v293 : Ref sig .tc := ⟨.hbm, 396, rfl⟩
abbrev main_v294 : Ref sig .tc := ⟨.hbm, 397, rfl⟩
abbrev main_c_67 : Ref sig .tc := ⟨.hbm, 398, rfl⟩
abbrev main_v295 : Ref sig .tc := ⟨.hbm, 399, rfl⟩
abbrev main_v296 : Ref sig .tc := ⟨.hbm, 400, rfl⟩
abbrev main_v297 : Ref sig .tc := ⟨.hbm, 401, rfl⟩
abbrev main_c_68 : Ref sig .tc := ⟨.hbm, 402, rfl⟩
abbrev main_v298 : Ref sig .tc := ⟨.hbm, 403, rfl⟩
abbrev main_v299 : Ref sig .tc := ⟨.hbm, 404, rfl⟩
abbrev main_c_69 : Ref sig .tc := ⟨.hbm, 405, rfl⟩
abbrev main_v300 : Ref sig .tc := ⟨.hbm, 406, rfl⟩
abbrev main_v301 : Ref sig .tc := ⟨.hbm, 407, rfl⟩
abbrev main_v302 : Ref sig .tc := ⟨.hbm, 408, rfl⟩
abbrev main_c_70 : Ref sig .tc := ⟨.hbm, 409, rfl⟩
abbrev main_v303 : Ref sig .tc := ⟨.hbm, 410, rfl⟩
abbrev main_v304 : Ref sig .tc := ⟨.hbm, 411, rfl⟩
abbrev main_v305 : Ref sig .tc := ⟨.hbm, 412, rfl⟩
abbrev main_v306 : Ref sig .tc := ⟨.hbm, 413, rfl⟩
abbrev main_v307 : Ref sig .tc := ⟨.hbm, 414, rfl⟩
abbrev main_v308 : Ref sig .tc := ⟨.hbm, 415, rfl⟩
abbrev main_v309 : Ref sig .tc := ⟨.hbm, 416, rfl⟩
abbrev main_v310 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_c_71 : Ref sig .tc := ⟨.hbm, 421, rfl⟩
abbrev main_v314 : Ref sig .tc := ⟨.hbm, 422, rfl⟩
abbrev main_v315 : Ref sig .tc := ⟨.hbm, 423, rfl⟩
abbrev main_c_72 : Ref sig .tc := ⟨.hbm, 424, rfl⟩
abbrev main_v316 : Ref sig .tc := ⟨.hbm, 425, rfl⟩
abbrev main_v317 : Ref sig .tc := ⟨.hbm, 426, rfl⟩
abbrev main_v318 : Ref sig .tc := ⟨.hbm, 427, rfl⟩
abbrev main_c_73 : Ref sig .tc := ⟨.hbm, 428, rfl⟩
abbrev main_v319 : Ref sig .tc := ⟨.hbm, 429, rfl⟩
abbrev main_v320 : Ref sig .tc := ⟨.hbm, 430, rfl⟩
abbrev main_c_74 : Ref sig .tc := ⟨.hbm, 431, rfl⟩
abbrev main_v321 : Ref sig .tc := ⟨.hbm, 432, rfl⟩
abbrev main_v322 : Ref sig .tc := ⟨.hbm, 433, rfl⟩
abbrev main_v323 : Ref sig .tc := ⟨.hbm, 434, rfl⟩
abbrev main_c_75 : Ref sig .tc := ⟨.hbm, 435, rfl⟩
abbrev main_v324 : Ref sig .tc := ⟨.hbm, 436, rfl⟩
abbrev main_v325 : Ref sig .tc := ⟨.hbm, 437, rfl⟩
abbrev main_c_76 : Ref sig .tc := ⟨.hbm, 438, rfl⟩
abbrev main_v326 : Ref sig .tc := ⟨.hbm, 439, rfl⟩
abbrev main_v327 : Ref sig .tc := ⟨.hbm, 440, rfl⟩
abbrev main_v328 : Ref sig .tc := ⟨.hbm, 441, rfl⟩
abbrev main_c_77 : Ref sig .tc := ⟨.hbm, 442, rfl⟩
abbrev main_v329 : Ref sig .tc := ⟨.hbm, 443, rfl⟩
abbrev main_v330 : Ref sig .tc := ⟨.hbm, 444, rfl⟩
abbrev main_c_78 : Ref sig .tc := ⟨.hbm, 445, rfl⟩
abbrev main_v331 : Ref sig .tc := ⟨.hbm, 446, rfl⟩
abbrev main_v332 : Ref sig .tc := ⟨.hbm, 447, rfl⟩
abbrev main_v333 : Ref sig .tc := ⟨.hbm, 448, rfl⟩
abbrev main_c_79 : Ref sig .tc := ⟨.hbm, 449, rfl⟩
abbrev main_v334 : Ref sig .tc := ⟨.hbm, 450, rfl⟩
abbrev main_v335 : Ref sig .tc := ⟨.hbm, 451, rfl⟩
abbrev main_v336 : Ref sig .tc := ⟨.hbm, 452, rfl⟩
abbrev main_v337 : Ref sig .tc := ⟨.hbm, 453, rfl⟩
abbrev main_v338 : Ref sig .tc := ⟨.hbm, 454, rfl⟩
abbrev main_v339 : Ref sig .tc := ⟨.hbm, 455, rfl⟩
abbrev main_v340 : Ref sig .tc := ⟨.hbm, 456, rfl⟩
abbrev main_v341 : Ref sig .tc := ⟨.hbm, 457, rfl⟩
abbrev main_v342 : Ref sig .tc := ⟨.hbm, 458, rfl⟩
abbrev main_v343 : Ref sig .tc := ⟨.hbm, 459, rfl⟩
abbrev main_v344 : Ref sig .tc := ⟨.hbm, 460, rfl⟩
abbrev main_c_80 : Ref sig .tc := ⟨.hbm, 461, rfl⟩
abbrev main_v345 : Ref sig .tc := ⟨.hbm, 462, rfl⟩
abbrev main_v346 : Ref sig .tc := ⟨.hbm, 463, rfl⟩
abbrev main_c_81 : Ref sig .tc := ⟨.hbm, 464, rfl⟩
abbrev main_v347 : Ref sig .tc := ⟨.hbm, 465, rfl⟩
abbrev main_v348 : Ref sig .tc := ⟨.hbm, 466, rfl⟩
abbrev main_v349 : Ref sig .tc := ⟨.hbm, 467, rfl⟩
abbrev main_c_82 : Ref sig .tc := ⟨.hbm, 468, rfl⟩
abbrev main_v350 : Ref sig .tc := ⟨.hbm, 469, rfl⟩
abbrev main_v351 : Ref sig .tc := ⟨.hbm, 470, rfl⟩
abbrev main_c_83 : Ref sig .tc := ⟨.hbm, 471, rfl⟩
abbrev main_v352 : Ref sig .tc := ⟨.hbm, 472, rfl⟩
abbrev main_v353 : Ref sig .tc := ⟨.hbm, 473, rfl⟩
abbrev main_v354 : Ref sig .tc := ⟨.hbm, 474, rfl⟩
abbrev main_c_84 : Ref sig .tc := ⟨.hbm, 475, rfl⟩
abbrev main_v355 : Ref sig .tc := ⟨.hbm, 476, rfl⟩
abbrev main_v356 : Ref sig .tc := ⟨.hbm, 477, rfl⟩
abbrev main_c_85 : Ref sig .tc := ⟨.hbm, 478, rfl⟩
abbrev main_v357 : Ref sig .tc := ⟨.hbm, 479, rfl⟩
abbrev main_v358 : Ref sig .tc := ⟨.hbm, 480, rfl⟩
abbrev main_v359 : Ref sig .tc := ⟨.hbm, 481, rfl⟩
abbrev main_c_86 : Ref sig .tc := ⟨.hbm, 482, rfl⟩
abbrev main_v360 : Ref sig .tc := ⟨.hbm, 483, rfl⟩
abbrev main_v361 : Ref sig .tc := ⟨.hbm, 484, rfl⟩
abbrev main_c_87 : Ref sig .tc := ⟨.hbm, 485, rfl⟩
abbrev main_v362 : Ref sig .tc := ⟨.hbm, 486, rfl⟩
abbrev main_v363 : Ref sig .tc := ⟨.hbm, 487, rfl⟩
abbrev main_v364 : Ref sig .tc := ⟨.hbm, 488, rfl⟩
abbrev main_c_88 : Ref sig .tc := ⟨.hbm, 489, rfl⟩
abbrev main_v365 : Ref sig .tc := ⟨.hbm, 490, rfl⟩
abbrev main_v366 : Ref sig .tc := ⟨.hbm, 491, rfl⟩
abbrev main_v367 : Ref sig .tc := ⟨.hbm, 492, rfl⟩
abbrev main_v368 : Ref sig .tc := ⟨.hbm, 493, rfl⟩
abbrev main_v369 : Ref sig .tc := ⟨.hbm, 494, rfl⟩
abbrev main_v370 : Ref sig .tc := ⟨.hbm, 495, rfl⟩
abbrev main_v371 : Ref sig .tc := ⟨.hbm, 496, rfl⟩
abbrev main_v372 : Ref sig .tc := ⟨.hbm, 497, rfl⟩
abbrev main_v373 : Ref sig .tc := ⟨.hbm, 498, rfl⟩
abbrev main_c_89 : Ref sig .tc := ⟨.hbm, 499, rfl⟩
abbrev main_v374 : Ref sig .tc := ⟨.hbm, 500, rfl⟩
abbrev main_v375 : Ref sig .tc := ⟨.hbm, 501, rfl⟩
abbrev main_c_90 : Ref sig .tc := ⟨.hbm, 502, rfl⟩
abbrev main_v376 : Ref sig .tc := ⟨.hbm, 503, rfl⟩
abbrev main_v377 : Ref sig .tc := ⟨.hbm, 504, rfl⟩
abbrev main_c_91 : Ref sig .tc := ⟨.hbm, 505, rfl⟩
abbrev main_v378 : Ref sig .tc := ⟨.hbm, 506, rfl⟩
abbrev main_v379 : Ref sig .tc := ⟨.hbm, 507, rfl⟩
abbrev main_c_92 : Ref sig .tc := ⟨.hbm, 508, rfl⟩
abbrev main_v380 : Ref sig .tc := ⟨.hbm, 509, rfl⟩
abbrev main_v381 : Ref sig .tc := ⟨.hbm, 510, rfl⟩
abbrev main_v382 : Ref sig .tc := ⟨.hbm, 511, rfl⟩
abbrev main_c_93 : Ref sig .tc := ⟨.hbm, 512, rfl⟩
abbrev main_v383 : Ref sig .tc := ⟨.hbm, 513, rfl⟩
abbrev main_v384 : Ref sig .tc := ⟨.hbm, 514, rfl⟩
abbrev main_c_94 : Ref sig .tc := ⟨.hbm, 515, rfl⟩
abbrev main_v385 : Ref sig .tc := ⟨.hbm, 516, rfl⟩
abbrev main_v386 : Ref sig .tc := ⟨.hbm, 517, rfl⟩
abbrev main_v387 : Ref sig .tc := ⟨.hbm, 518, rfl⟩
abbrev main_c_95 : Ref sig .tc := ⟨.hbm, 519, rfl⟩
abbrev main_v388 : Ref sig .tc := ⟨.hbm, 520, rfl⟩
abbrev main_v389 : Ref sig .tc := ⟨.hbm, 521, rfl⟩
abbrev main_c_96 : Ref sig .tc := ⟨.hbm, 522, rfl⟩
abbrev main_v390 : Ref sig .tc := ⟨.hbm, 523, rfl⟩
abbrev main_v391 : Ref sig .tc := ⟨.hbm, 524, rfl⟩
abbrev main_v392 : Ref sig .tc := ⟨.hbm, 525, rfl⟩
abbrev main_c_97 : Ref sig .tc := ⟨.hbm, 526, rfl⟩
abbrev main_v393 : Ref sig .tc := ⟨.hbm, 527, rfl⟩
abbrev main_v394 : Ref sig .tc := ⟨.hbm, 528, rfl⟩
abbrev main_c_98 : Ref sig .tc := ⟨.hbm, 529, rfl⟩
abbrev main_v395 : Ref sig .tc := ⟨.hbm, 530, rfl⟩
abbrev main_v396 : Ref sig .tc := ⟨.hbm, 531, rfl⟩
abbrev main_v397 : Ref sig .tc := ⟨.hbm, 532, rfl⟩
abbrev main_c_99 : Ref sig .tc := ⟨.hbm, 533, rfl⟩
abbrev main_v398 : Ref sig .tc := ⟨.hbm, 534, rfl⟩
abbrev main_v399 : Ref sig .tc := ⟨.hbm, 535, rfl⟩
abbrev main_c_100 : Ref sig .tc := ⟨.hbm, 536, rfl⟩
abbrev main_v400 : Ref sig .tc := ⟨.hbm, 537, rfl⟩
abbrev main_v401 : Ref sig .tc := ⟨.hbm, 538, rfl⟩
abbrev main_v402 : Ref sig .tc := ⟨.hbm, 539, rfl⟩
abbrev main_v403 : Ref sig .tc := ⟨.hbm, 540, rfl⟩
abbrev main_v404 : Ref sig .tc := ⟨.hbm, 541, rfl⟩
abbrev main_v405 : Ref sig .tc := ⟨.hbm, 542, rfl⟩
abbrev main_v406 : Ref sig .tc := ⟨.hbm, 543, rfl⟩
abbrev main_v407 : Ref sig .tc := ⟨.hbm, 544, rfl⟩
abbrev main_v408 : Ref sig .tc := ⟨.hbm, 545, rfl⟩
abbrev main_cst_101 : Ref sig .tc := ⟨.hbm, 546, rfl⟩
abbrev main_v409 : Ref sig .tc := ⟨.hbm, 547, rfl⟩
abbrev main_v410 : Ref sig .tc := ⟨.hbm, 548, rfl⟩
abbrev main_cst_102 : Ref sig .tc := ⟨.hbm, 549, rfl⟩
abbrev main_v411 : Ref sig .tc := ⟨.hbm, 550, rfl⟩
abbrev main_cst_103 : Ref sig .tc := ⟨.hbm, 551, rfl⟩
abbrev main_v412 : Ref sig .tc := ⟨.hbm, 552, rfl⟩
abbrev main_cst_104 : Ref sig .tc := ⟨.hbm, 553, rfl⟩
abbrev main_v413 : Ref sig .tc := ⟨.hbm, 554, rfl⟩
abbrev main_cst_105 : Ref sig .tc := ⟨.hbm, 555, rfl⟩
abbrev main_v414 : Ref sig .tc := ⟨.hbm, 556, rfl⟩
abbrev main_v415 : Ref sig .tc := ⟨.hbm, 557, rfl⟩
abbrev main_v416 : Ref sig .tc := ⟨.hbm, 558, rfl⟩
abbrev main_v417 : Ref sig .tc := ⟨.hbm, 559, rfl⟩
abbrev main_v418 : Ref sig .tc := ⟨.hbm, 560, rfl⟩
abbrev main_v419 : Ref sig .tc := ⟨.hbm, 561, rfl⟩
abbrev main_v420 : Ref sig .tc := ⟨.hbm, 562, rfl⟩
abbrev main_v421 : Ref sig .tc := ⟨.hbm, 563, rfl⟩
abbrev main_cst_106 : Ref sig .tc := ⟨.hbm, 564, rfl⟩
abbrev main_v422 : Ref sig .tc := ⟨.hbm, 565, rfl⟩
abbrev main_v423 : Ref sig .tc := ⟨.hbm, 566, rfl⟩
abbrev main_v424 : Ref sig .tc := ⟨.hbm, 567, rfl⟩
abbrev main_v425 : Ref sig .tc := ⟨.hbm, 568, rfl⟩
abbrev main_v426 : Ref sig .tc := ⟨.hbm, 569, rfl⟩
abbrev main_v427 : Ref sig .tc := ⟨.hbm, 570, rfl⟩
abbrev main_v428 : Ref sig .tc := ⟨.hbm, 571, rfl⟩
abbrev main_v429 : Ref sig .tc := ⟨.hbm, 572, rfl⟩
abbrev main_v430 : Ref sig .tc := ⟨.hbm, 573, rfl⟩
abbrev main_cst_107 : Ref sig .tc := ⟨.hbm, 574, rfl⟩
abbrev main_v431 : Ref sig .tc := ⟨.hbm, 575, rfl⟩
abbrev main_v432 : Ref sig .tc := ⟨.hbm, 576, rfl⟩
abbrev main_v433 : Ref sig .tc := ⟨.hbm, 577, rfl⟩
abbrev main_v434 : Ref sig .tc := ⟨.hbm, 578, rfl⟩
abbrev main_v435 : Ref sig .tc := ⟨.hbm, 579, rfl⟩
abbrev main_v436 : Ref sig .tc := ⟨.hbm, 580, rfl⟩
abbrev main_v437 : Ref sig .tc := ⟨.hbm, 581, rfl⟩
abbrev main_v438 : Ref sig .tc := ⟨.hbm, 582, rfl⟩
abbrev main_v439 : Ref sig .tc := ⟨.hbm, 583, rfl⟩
abbrev main_cst_108 : Ref sig .tc := ⟨.hbm, 584, rfl⟩
abbrev main_v440 : Ref sig .tc := ⟨.hbm, 585, rfl⟩
abbrev main_v441 : Ref sig .tc := ⟨.hbm, 586, rfl⟩
abbrev main_v442 : Ref sig .tc := ⟨.hbm, 587, rfl⟩
abbrev main_v443 : Ref sig .tc := ⟨.hbm, 588, rfl⟩
abbrev main_v444 : Ref sig .tc := ⟨.hbm, 589, rfl⟩
abbrev main_v445 : Ref sig .tc := ⟨.hbm, 590, rfl⟩
abbrev main_v446 : Ref sig .tc := ⟨.hbm, 591, rfl⟩
abbrev main_v447 : Ref sig .tc := ⟨.hbm, 592, rfl⟩
abbrev main_v448 : Ref sig .tc := ⟨.hbm, 593, rfl⟩
abbrev main_cst_109 : Ref sig .tc := ⟨.hbm, 594, rfl⟩
abbrev main_v449 : Ref sig .tc := ⟨.hbm, 595, rfl⟩
abbrev main_v450 : Ref sig .tc := ⟨.hbm, 596, rfl⟩
abbrev main_v451 : Ref sig .tc := ⟨.hbm, 597, rfl⟩
abbrev main_v452 : Ref sig .tc := ⟨.hbm, 598, rfl⟩
abbrev main_v453 : Ref sig .tc := ⟨.hbm, 599, rfl⟩
abbrev main_v454 : Ref sig .tc := ⟨.hbm, 600, rfl⟩
abbrev main_v455 : Ref sig .tc := ⟨.hbm, 601, rfl⟩
abbrev main_cst_110 : Ref sig .tc := ⟨.hbm, 602, rfl⟩
abbrev main_v456 : Ref sig .tc := ⟨.hbm, 603, rfl⟩
abbrev main_v457 : Ref sig .tc := ⟨.hbm, 604, rfl⟩
abbrev main_v458 : Ref sig .tc := ⟨.hbm, 605, rfl⟩
abbrev main_cst_111 : Ref sig .tc := ⟨.hbm, 606, rfl⟩
abbrev main_v459 : Ref sig .tc := ⟨.hbm, 607, rfl⟩
abbrev main_v460 : Ref sig .tc := ⟨.hbm, 608, rfl⟩
abbrev main_cst_112 : Ref sig .tc := ⟨.hbm, 609, rfl⟩
abbrev main_v461 : Ref sig .tc := ⟨.hbm, 610, rfl⟩
abbrev main_v462 : Ref sig .tc := ⟨.hbm, 611, rfl⟩
abbrev main_v463 : Ref sig .tc := ⟨.hbm, 612, rfl⟩
abbrev main_cst_113 : Ref sig .tc := ⟨.hbm, 613, rfl⟩
abbrev main_v464 : Ref sig .tc := ⟨.hbm, 614, rfl⟩
abbrev main_v465 : Ref sig .tc := ⟨.hbm, 615, rfl⟩
abbrev main_v466 : Ref sig .tc := ⟨.hbm, 616, rfl⟩
abbrev main_v467 : Ref sig .tc := ⟨.hbm, 617, rfl⟩
abbrev main_v468 : Ref sig .tc := ⟨.hbm, 618, rfl⟩
abbrev main_v469 : Ref sig .tc := ⟨.hbm, 619, rfl⟩
abbrev main_cst_114 : Ref sig .tc := ⟨.hbm, 620, rfl⟩
abbrev main_v470 : Ref sig .tc := ⟨.hbm, 621, rfl⟩
abbrev main_v471 : Ref sig .tc := ⟨.hbm, 622, rfl⟩
abbrev main_v472 : Ref sig .tc := ⟨.hbm, 623, rfl⟩
abbrev main_v473 : Ref sig .tc := ⟨.hbm, 624, rfl⟩
abbrev main_v474 : Ref sig .tc := ⟨.hbm, 625, rfl⟩
abbrev main_v475 : Ref sig .tc := ⟨.hbm, 626, rfl⟩
abbrev main_v476 : Ref sig .tc := ⟨.hbm, 627, rfl⟩
abbrev main_cst_115 : Ref sig .tc := ⟨.hbm, 628, rfl⟩
abbrev main_v477 : Ref sig .tc := ⟨.hbm, 629, rfl⟩
abbrev main_v478 : Ref sig .tc := ⟨.hbm, 630, rfl⟩
abbrev main_v479 : Ref sig .tc := ⟨.hbm, 631, rfl⟩
abbrev main_cst_116 : Ref sig .tc := ⟨.hbm, 632, rfl⟩
abbrev main_v480 : Ref sig .tc := ⟨.hbm, 633, rfl⟩
abbrev main_v481 : Ref sig .tc := ⟨.hbm, 634, rfl⟩
abbrev main_cst_117 : Ref sig .tc := ⟨.hbm, 635, rfl⟩
abbrev main_v482 : Ref sig .tc := ⟨.hbm, 636, rfl⟩
abbrev main_v483 : Ref sig .tc := ⟨.hbm, 637, rfl⟩
abbrev main_v484 : Ref sig .tc := ⟨.hbm, 638, rfl⟩
abbrev main_cst_118 : Ref sig .tc := ⟨.hbm, 639, rfl⟩
abbrev main_v485 : Ref sig .tc := ⟨.hbm, 640, rfl⟩
abbrev main_v486 : Ref sig .tc := ⟨.hbm, 641, rfl⟩
abbrev main_v487 : Ref sig .tc := ⟨.hbm, 642, rfl⟩
abbrev main_v488 : Ref sig .tc := ⟨.hbm, 643, rfl⟩
abbrev main_v489 : Ref sig .tc := ⟨.hbm, 644, rfl⟩
abbrev main_v490 : Ref sig .tc := ⟨.hbm, 645, rfl⟩
abbrev main_cst_119 : Ref sig .tc := ⟨.hbm, 646, rfl⟩
abbrev main_v491 : Ref sig .tc := ⟨.hbm, 647, rfl⟩
abbrev main_v492 : Ref sig .tc := ⟨.hbm, 648, rfl⟩
abbrev main_v493 : Ref sig .tc := ⟨.hbm, 649, rfl⟩
abbrev main_v494 : Ref sig .tc := ⟨.hbm, 650, rfl⟩
abbrev main_v495 : Ref sig .tc := ⟨.hbm, 651, rfl⟩
abbrev main_cst_120 : Ref sig .tc := ⟨.hbm, 652, rfl⟩
abbrev main_v496 : Ref sig .tc := ⟨.hbm, 653, rfl⟩
abbrev main_v497 : Ref sig .tc := ⟨.hbm, 654, rfl⟩
abbrev main_v498 : Ref sig .tc := ⟨.hbm, 655, rfl⟩
abbrev main_cst_121 : Ref sig .tc := ⟨.hbm, 656, rfl⟩
abbrev main_v499 : Ref sig .tc := ⟨.hbm, 657, rfl⟩
abbrev main_v500 : Ref sig .tc := ⟨.hbm, 658, rfl⟩
abbrev main_cst_122 : Ref sig .tc := ⟨.hbm, 659, rfl⟩
abbrev main_v501 : Ref sig .tc := ⟨.hbm, 660, rfl⟩
abbrev main_v502 : Ref sig .tc := ⟨.hbm, 661, rfl⟩
abbrev main_v503 : Ref sig .tc := ⟨.hbm, 662, rfl⟩
abbrev main_cst_123 : Ref sig .tc := ⟨.hbm, 663, rfl⟩
abbrev main_v504 : Ref sig .tc := ⟨.hbm, 664, rfl⟩
abbrev main_v505 : Ref sig .tc := ⟨.hbm, 665, rfl⟩
abbrev main_v506 : Ref sig .tc := ⟨.hbm, 666, rfl⟩
abbrev main_v507 : Ref sig .tc := ⟨.hbm, 667, rfl⟩
abbrev main_v508 : Ref sig .tc := ⟨.hbm, 668, rfl⟩
abbrev main_v509 : Ref sig .tc := ⟨.hbm, 669, rfl⟩
abbrev main_v510 : Ref sig .tc := ⟨.hbm, 670, rfl⟩
abbrev main_v511 : Ref sig .tc := ⟨.hbm, 671, rfl⟩
abbrev main_cst_124 : Ref sig .tc := ⟨.hbm, 672, rfl⟩
abbrev main_v512 : Ref sig .tc := ⟨.hbm, 673, rfl⟩
abbrev main_cst_125 : Ref sig .tc := ⟨.hbm, 674, rfl⟩
abbrev main_v513 : Ref sig .tc := ⟨.hbm, 675, rfl⟩
abbrev main_v514 : Ref sig .tc := ⟨.hbm, 676, rfl⟩
abbrev main_v515 : Ref sig .tc := ⟨.hbm, 677, rfl⟩
abbrev main_v516 : Ref sig .tc := ⟨.hbm, 678, rfl⟩
abbrev main_v517 : Ref sig .tc := ⟨.hbm, 679, rfl⟩
abbrev main_cst_126 : Ref sig .tc := ⟨.hbm, 680, rfl⟩
abbrev main_v518 : Ref sig .tc := ⟨.hbm, 681, rfl⟩
abbrev main_v519 : Ref sig .tc := ⟨.hbm, 682, rfl⟩
abbrev main_cst_127 : Ref sig .tc := ⟨.hbm, 683, rfl⟩
abbrev main_v520 : Ref sig .tc := ⟨.hbm, 684, rfl⟩
abbrev main_v521 : Ref sig .tc := ⟨.hbm, 685, rfl⟩
abbrev main_v522 : Ref sig .tc := ⟨.hbm, 686, rfl⟩
abbrev main_v523 : Ref sig .tc := ⟨.hbm, 687, rfl⟩
abbrev main_v524 : Ref sig .tc := ⟨.hbm, 688, rfl⟩
abbrev main_v525 : Ref sig .tc := ⟨.hbm, 689, rfl⟩
abbrev main_v526 : Ref sig .tc := ⟨.hbm, 690, rfl⟩
abbrev main_v527 : Ref sig .tc := ⟨.hbm, 691, rfl⟩
abbrev main_v528 : Ref sig .tc := ⟨.hbm, 692, rfl⟩
abbrev main_v529 : Ref sig .tc := ⟨.hbm, 693, rfl⟩
abbrev main_v530 : Ref sig .tc := ⟨.hbm, 694, rfl⟩
abbrev main_v531 : Ref sig .tc := ⟨.hbm, 695, rfl⟩
abbrev main_v532 : Ref sig .tc := ⟨.hbm, 696, rfl⟩
abbrev main_v533 : Ref sig .tc := ⟨.hbm, 697, rfl⟩
abbrev main_v534 : Ref sig .tc := ⟨.hbm, 698, rfl⟩
abbrev main_v535 : Ref sig .tc := ⟨.hbm, 699, rfl⟩
abbrev main_v536 : Ref sig .tc := ⟨.hbm, 700, rfl⟩
abbrev main_v537 : Ref sig .tc := ⟨.hbm, 701, rfl⟩
abbrev main_v538 : Ref sig .tc := ⟨.hbm, 702, rfl⟩
abbrev main_v539 : Ref sig .tc := ⟨.hbm, 703, rfl⟩
abbrev main_v540 : Ref sig .tc := ⟨.hbm, 704, rfl⟩

abbrev nD : Nat := 1
abbrev τ : Topo := Topo.v7x

variable {F : FTy → Type} [FloatOps F]
-- ==== Proof.Blocks.lean ====
/-
  What the kernel's body leaves in the first output's staging buffer at a grid point, read back off the stores the run
  found: one function of the point's block of `x`, the anchors and the stride, whichever of the three cases the point is in.
-/
module

public import proofs.«01_k».proof.Proof.Gen.KernelIdeal.Value

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-- The zero offsets of a rank-three store. -/
theorem hz3 : (![0, 0, 0] : Fin 3 → Nat) = fun _ => 0 := funext fun a => by fin_cases a <;> rfl
/-- The zero offsets of a rank-two store. -/
theorem hz2 : (![0, 0] : Fin 2 → Nat) = fun _ => 0 := funext fun a => by fin_cases a <;> rfl

/-- The stride, as the body loads it from scalar memory. -/
abbrev ldS (x3 : Vec F S1x1 .f32) : Elt F .f32 :=
  View.ld x3 (Rect.unit (s := S1x1) ![0, 0] S1x1.size inb_S1x1_S1x1_0_0) (Shape.Idx.first (s := S1x1) (by decide))
/-- Anchor 0's extent 0, as the body loads it from scalar memory. -/
abbrev ldA00 (x2 : Vec F S3x2 .f32) : Elt F .f32 :=
  View.ld x2 (Rect.unit (s := S3x2) ![0, 0] S1x1.size inb_S3x2_S1x1_0_0) (Shape.Idx.first (s := S1x1) (by decide))
/-- Anchor 0's extent 1, as the body loads it from scalar memory. -/
abbrev ldA01 (x2 : Vec F S3x2 .f32) : Elt F .f32 :=
  View.ld x2 (Rect.unit (s := S3x2) ![0, 1] S1x1.size inb_S3x2_S1x1_0_1) (Shape.Idx.first (s := S1x1) (by decide))
/-- Anchor 1's extent 0, as the body loads it from scalar memory. -/
abbrev ldA10 (x2 : Vec F S3x2 .f32) : Elt F .f32 :=
  View.ld x2 (Rect.unit (s := S3x2) ![1, 0] S1x1.size inb_S3x2_S1x1_1_0) (Shape.Idx.first (s := S1x1) (by decide))
/-- Anchor 1's extent 1, as the body loads it from scalar memory. -/
abbrev ldA11 (x2 : Vec F S3x2 .f32) : Elt F .f32 :=
  View.ld x2 (Rect.unit (s := S3x2) ![1, 1] S1x1.size inb_S3x2_S1x1_1_1) (Shape.Idx.first (s := S1x1) (by decide))
/-- Anchor 2's extent 0, as the body loads it from scalar memory. -/
abbrev ldA20 (x2 : Vec F S3x2 .f32) : Elt F .f32 :=
  View.ld x2 (Rect.unit (s := S3x2) ![2, 0] S1x1.size inb_S3x2_S1x1_2_0) (Shape.Idx.first (s := S1x1) (by decide))
/-- Anchor 2's extent 1, as the body loads it from scalar memory. -/
abbrev ldA21 (x2 : Vec F S3x2 .f32) : Elt F .f32 :=
  View.ld x2 (Rect.unit (s := S3x2) ![2, 1] S1x1.size inb_S3x2_S1x1_2_1) (Shape.Idx.first (s := S1x1) (by decide))
/-- The 85 channels of anchor 0 of the point's block of `x`. -/
abbrev ldX0 (x0 : Vec F S1x255x676 .f32) : Vec F S1x85x676 .f32 :=
  View.ld x0 (Rect.unit (s := S1x255x676) ![0, 0, 0] S1x85x676.size inb_S1x255x676_S1x85x676_0_0_0)
/-- The 85 channels of anchor 1 of the point's block of `x`. -/
abbrev ldX1 (x0 : Vec F S1x255x676 .f32) : Vec F S1x85x676 .f32 :=
  View.ld x0 (Rect.unit (s := S1x255x676) ![0, 85, 0] S1x85x676.size inb_S1x255x676_S1x85x676_0_85_0)
/-- The 85 channels of anchor 2 of the point's block of `x`. -/
abbrev ldX2 (x0 : Vec F S1x255x676 .f32) : Vec F S1x85x676 .f32 :=
  View.ld x0 (Rect.unit (s := S1x255x676) ![0, 170, 0] S1x85x676.size inb_S1x255x676_S1x85x676_0_170_0)

/-- The column of cell numbers `0 … 675`. -/
abbrev cells : IVec S1x676 32 := iota .tc S1x676 32 [1] iota_S1x676_d1_w32

/-- The block of predictions a point writes: the three anchors' 676 cells one under the other. -/
def predBlk (x0 : Vec F S1x255x676 .f32) (x2 : Vec F S3x2 .f32) (x3 : Vec F S1x1 .f32) : Vec F S1x2028x85 .f32 :=
  k0_pay2
    (k0_pay97 (ldS x3) (k0_pay92 (ldX0 x0)) (k0_pay93 (ldX0 x0)) (k0_pay94 (ldX0 x0))
      (k0_pay95 (ldS x3) cells k0_pay87 k0_pay88 1#32 (ldX0 x0)) (k0_pay96 (ldS x3) (ldA00 x2)) (ldA01 x2))
    (k0_pay103 (ldS x3) (k0_pay89 cells k0_pay87 k0_pay88 1#32) (k0_pay100 (ldX1 x0)) k0_pay101 (ldA10 x2) (ldA11 x2))
    (k0_pay110 (ldS x3) (k0_pay89 cells k0_pay87 k0_pay88 1#32) (ldX2 x0) (ldA20 x2) (ldA21 x2))

/-- In case A the predictions' staging buffer is left at `predBlk` of the point's blocks. -/
theorem out4_A (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : cond0_0 i) (hc1 : ¬cond0_1 i)
    (x0 : Vec F S1x255x676 .f32) (x1 : Vec F S6x128 .f32) (x2 : Vec F S3x2 .f32) (x3 : Vec F S1x1 .f32) :
    out0_A_4 c i arg1 harg1 arg2 harg2 arg3 harg3 arg4 harg4 arg5 harg5 arg6 harg6 arg7 harg7 arg8 harg8 arg9 harg9 hc0 hc1 x0 x1 x2 x3 = predBlk x0 x2 x3 := by
  unfold out0_A_4
  rw [View.read_writes_eq_canon _ _ _ (cover0_A_4 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero hz3]
  simp only [View.readAt_eq_ld, harg1.read_unread, harg2.read_unread, harg3.read_unread, harg4.read_unread]
  rfl

/-- In case B the predictions' staging buffer is left at `predBlk` of the point's blocks. -/
theorem out4_B (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : ¬cond0_0 i) (hc1 : ¬cond0_1 i)
    (x0 : Vec F S1x255x676 .f32) (x1 : Vec F S6x128 .f32) (x2 : Vec F S3x2 .f32) (x3 : Vec F S1x1 .f32) (xo5 : Vec F S3x85x128 .f32) (xo6 : Vec F S1x1 .f32) (xs0 : Vec F S676x128 .f32) :
    out0_B_4 c i arg1 harg1 arg2 harg2 arg3 harg3 arg4 harg4 arg5 harg5 arg6 harg6 arg7 harg7 arg8 harg8 arg9 harg9 hc0 hc1 x0 x1 x2 x3 xo5 xo6 xs0 = predBlk x0 x2 x3 := by
  unfold out0_B_4
  rw [View.read_writes_eq_canon _ _ _ (cover0_B_4 c i arg1 harg1 arg2 harg2 arg3 harg3 arg4 harg4 arg5 harg5 arg6 harg6 arg7 harg7 arg8 harg8 arg9 harg9 hc0 hc1 x0 x1 x2 x3 xo5 xo6 xs0)]
  unfold kernelRun0_B
  dsimp only
  sl_unfold_words
  rw [View.canon_unit_zero hz3]
  simp only [View.readAt_eq_ld, harg1.read_unread, harg2.read_unread, harg3.read_unread, harg4.read_unread]
  rfl

/-- In case C the predictions' staging buffer is left at `predBlk` of the point's blocks. -/
theorem out4_C (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : ¬cond0_0 i) (hc1 : cond0_1 i)
    (x0 : Vec F S1x255x676 .f32) (x1 : Vec F S6x128 .f32) (x2 : Vec F S3x2 .f32) (x3 : Vec F S1x1 .f32) (xo5 : Vec F S3x85x128 .f32) (xo6 : Vec F S1x1 .f32) (xs0 : Vec F S676x128 .f32) :
    out0_C_4 c i arg1 harg1 arg2 harg2 arg3 harg3 arg4 harg4 arg5 harg5 arg6 harg6 arg7 harg7 arg8 harg8 arg9 harg9 hc0 hc1 x0 x1 x2 x3 xo5 xo6 xs0 = predBlk x0 x2 x3 := by
  unfold out0_C_4
  rw [View.read_writes_eq_canon _ _ _ (cover0_C_4 c i arg1 harg1 arg2 harg2 arg3 harg3 arg4 harg4 arg5 harg5 arg6 harg6 arg7 harg7 arg8 harg8 arg9 harg9 hc0 hc1 x0 x1 x2 x3 xo5 xo6 xs0)]
  unfold kernelRun0_C
  dsimp only
  sl_unfold_words
  rw [View.canon_unit_zero hz3]
  simp only [View.readAt_eq_ld, harg1.read_unread, harg2.read_unread, harg3.read_unread, harg4.read_unread]
  rfl

end Cert.KernelIdeal.Value

end
-- ==== Proof.Spec.lean ====
/-
  The arithmetic both programs are compared with: the stride word, the logistic function and one entry of the
  predictions, as plain functions on extended reals.
-/
module

public import Idealize.ShloMosaic.Lib.Pointwise

@[expose] public section

noncomputable section

namespace Cert.Yolo

open Idealize.ShloMosaic

/-- The host's floor division of the image size by 26, as a word. -/
def strideWord (n : BitVec 32) : BitVec 32 :=
  Scalar.select
    (IntOp.andi
      (IntOp.cmpi .ne (if n = 0 then 0 else if BitVec.msb n = true then -1 else 1) (1 : BitVec 32))
      (IntOp.cmpi .ne (IntOp.remsi .host n 26#32) 0#32))
    (IntOp.subi (IntOp.divsi .host n 26#32) 1#32)
    (IntOp.divsi .host n 26#32)

/-- The stride: that word as a number. -/
def stride (n : BitVec 32) : EReal := FloatOps.sitofp (F := Ideal) .f32 (strideWord n)

/-- The logistic function as both programs write it. -/
def sig (x : EReal) : EReal := Ideal.div 1 (1 + Ideal.exp (-x))

/-- Entry `ch` of the prediction of a cell in row `i` and column `j`, for raw channels `X`, an anchor `A` and a stride `S`. -/
def predAt (X : Fin 85 → EReal) (A : Fin 2 → EReal) (S : EReal) (i j : ℕ) (ch : Fin 85) : EReal :=
  if ch.val < 1 then (sig (X ch) + FloatOps.sitofp (F := Ideal) .f32 (BitVec.ofNat 32 i)) * S
  else if ch.val < 2 then (sig (X ch) + FloatOps.sitofp (F := Ideal) .f32 (BitVec.ofNat 32 j)) * S
  else if ch.val < 3 then Ideal.exp (X ch) * Ideal.div (A 0) S * S
  else if ch.val < 4 then Ideal.exp (X ch) * Ideal.div (A 1) S * S
  else sig (X ch)

/-- The array of predictions, row `676·a + 26·i + j` of image `b` being the cell `(i, j)` under anchor `a`. -/
def predSpec (x : (⟨4, ![16, 255, 26, 26]⟩ : Shape).Idx → EReal) (A : (⟨2, ![3, 2]⟩ : Shape).Idx → EReal) (n : BitVec 32) :
    (⟨3, ![16, 2028, 85]⟩ : Shape).Idx → EReal := fun y =>
  have h1 : (y 1 : ℕ) < 2028 := (y 1).isLt
  have h2 : (y 2 : ℕ) < 85 := (y 2).isLt
  predAt (fun ch => x (ix4 (⟨(y 0 : ℕ), (y 0).isLt⟩ : Fin 16) (⟨(y 1 : ℕ) / 676 * 85 + ch.val, by have := ch.isLt; omega⟩ : Fin 255)
      (⟨(y 1 : ℕ) / 26 % 26, by omega⟩ : Fin 26) (⟨(y 1 : ℕ) % 26, by omega⟩ : Fin 26)))
    (fun k => A (ix2 (⟨(y 1 : ℕ) / 676, by omega⟩ : Fin 3) k)) (stride n)
    ((y 1 : ℕ) / 26 % 26) ((y 1 : ℕ) % 26) (⟨(y 2 : ℕ), h2⟩ : Fin 85)

end Cert.Yolo

end
-- ==== Proof.Inputs.lean ====
/-
  What the kernel's input windows hold at a grid point, element by element, in the launch's arguments.
-/
module

public import proofs.«01_k».proof.Proof.Blocks
public import proofs.«01_k».proof.Proof.Spec
public import Idealize.ShloMosaic.Lib.Pointwise
public import Idealize.ShloMosaic.Lib.StableHlo.ReadAt

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The launch's images, `x`. -/
abbrev argX (c : Dev nD) : S16x255x26x26.Idx → EReal := m ((c : Thread nD τ).loc main_arg0)
/-- The launch's targets. -/
abbrev argT (c : Dev nD) : S128x6.Idx → EReal := m ((c : Thread nD τ).loc main_arg1)
/-- The launch's anchors. -/
abbrev argA (c : Dev nD) : S3x2.Idx → EReal := m ((c : Thread nD τ).loc main_arg2)
/-- The launch's image size. -/
abbrev argN (c : Dev nD) : BitVec 32 := m ((c : Thread nD τ).loc main_arg3) ix0

/-- The images with a cell's two coordinates merged. -/
theorem V_v3 (c : Dev nD) (b : Fin 16) (ch : Fin 255) (q : Fin 676) :
    V m c main_v3 (ix3 b ch q) = argX m c (ix4 b ch ⟨q.val / 26, by omega⟩ ⟨q.val % 26, by omega⟩) := by
  unfold V
  after_reads_at
/-- The targets transposed. -/
theorem V_v4 (c : Dev nD) (r : Fin 6) (p : Fin 128) : V m c main_v4 (ix2 r p) = argT m c (ix2 p r) := by
  unfold V
  after_reads_at
/-- The stride. -/
theorem V_v2 (c : Dev nD) : V m c main_v2 (ix2 0 0) = Cert.Yolo.stride (argN m c) := by
  unfold V
  after_reads_at
  rfl

/-- The images' window follows the grid point. -/
theorem index0 : ∀ t : Fin cfg0.N, win0_0.index t 0 = t.val ∧ win0_0.index t 1 = 0 ∧ win0_0.index t 2 = 0 := by decide +kernel
/-- The targets' window stays put. -/
theorem index1 : ∀ t : Fin cfg0.N, win0_1.index t 0 = 0 ∧ win0_1.index t 1 = 0 := by decide +kernel
/-- The anchors' window stays put. -/
theorem index2 : ∀ t : Fin cfg0.N, win0_2.index t 0 = 0 ∧ win0_2.index t 1 = 0 := by decide +kernel
/-- The stride's window stays put. -/
theorem index3 : ∀ t : Fin cfg0.N, win0_3.index t 0 = 0 ∧ win0_3.index t 1 = 0 := by decide +kernel
/-- The predictions' window follows the grid point. -/
theorem index4 : ∀ t : Fin cfg0.N, win0_4.index t 0 = t.val ∧ win0_4.index t 1 = 0 ∧ win0_4.index t 2 = 0 := by decide +kernel

theorem lt16 (t : Fin cfg0.N) : t.val < 16 := lt_of_lt_of_eq t.isLt N_0

/-- The block of images at point `t`. -/
theorem iblk0 (c : Dev nD) (t : Fin cfg0.N) (ch : Fin 255) (q : Fin 676) :
    (iblk m c 0 t : Vec Ideal S1x255x676 .f32) (ix3 0 ch q)
      = argX m c (ix4 ⟨t.val, lt16 t⟩ ch ⟨q.val / 26, by omega⟩ ⟨q.val % 26, by omega⟩) := by
  rw [← V_v3]
  unfold iblk
  rw [View.read_apply]
  obtain ⟨h0, h1, h2⟩ := index0 t
  show V m c main_v3 _ = _
  congr 1
  funext a
  apply Fin.ext
  match a with
  | ⟨0, _⟩ => show win0_0.index t 0 * 1 + 1 * 0 = t.val; omega
  | ⟨1, _⟩ => show win0_0.index t 1 * 255 + 1 * ch.val = ch.val; omega
  | ⟨2, _⟩ => show win0_0.index t 2 * 676 + 1 * q.val = q.val; omega

/-- The block of targets. -/
theorem iblk1 (c : Dev nD) (t : Fin cfg0.N) (r : Fin 6) (p : Fin 128) :
    (iblk m c 1 t : Vec Ideal S6x128 .f32) (ix2 r p) = argT m c (ix2 p r) := by
  rw [← V_v4]
  unfold iblk
  rw [View.read_apply]
  obtain ⟨h0, h1⟩ := index1 t
  show V m c main_v4 _ = _
  congr 1
  funext a
  apply Fin.ext
  match a with
  | ⟨0, _⟩ => show win0_1.index t 0 * 6 + 1 * r.val = r.val; omega
  | ⟨1, _⟩ => show win0_1.index t 1 * 128 + 1 * p.val = p.val; omega

/-- The block of anchors. -/
theorem iblk2 (c : Dev nD) (t : Fin cfg0.N) (r : Fin 3) (p : Fin 2) :
    (iblk m c 2 t : Vec Ideal S3x2 .f32) (ix2 r p) = argA m c (ix2 r p) := by
  show _ = m ((c : Thread nD τ).loc main_arg2) (ix2 r p)
  refine Eq.trans ?_ (congrFun (V_main_arg2 m c) (ix2 r p))
  unfold iblk
  rw [View.read_apply]
  obtain ⟨h0, h1⟩ := index2 t
  show V m c main_arg2 _ = _
  congr 1
  funext a
  apply Fin.ext
  match a with
  | ⟨0, _⟩ => show win0_2.index t 0 * 3 + 1 * r.val = r.val; omega
  | ⟨1, _⟩ => show win0_2.index t 1 * 2 + 1 * p.val = p.val; omega

/-- The block with the stride. -/
theorem iblk3 (c : Dev nD) (t : Fin cfg0.N) :
    (iblk m c 3 t : Vec Ideal S1x1 .f32) (ix2 0 0) = Cert.Yolo.stride (argN m c) := by
  rw [← V_v2]
  unfold iblk
  rw [View.read_apply]
  obtain ⟨h0, h1⟩ := index3 t
  show V m c main_v2 _ = _
  congr 1
  funext a
  apply Fin.ext
  match a with
  | ⟨0, _⟩ => show win0_3.index t 0 * 1 + 1 * 0 = 0; omega
  | ⟨1, _⟩ => show win0_3.index t 1 * 1 + 1 * 0 = 0; omega

end Cert.KernelIdeal.Value
end
-- ==== Proof.PredValue.lean ====
/-
  The predictions the kernel ends with: every grid point writes one image's rows, and the rows are the specification's.
-/
module

public import proofs.«01_k».proof.Proof.Inputs

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- `0 - x` is `-x` on the extended reals, so the body's logistic function is the specification's. -/
theorem sig_sub (x : EReal) : Ideal.div 1 (1 + Ideal.exp (0 - x)) = Cert.Yolo.sig x := by
  unfold Cert.Yolo.sig
  rw [zero_sub]

/-- A cell's row: the quotient of its number by 26, through the body's floor division. -/
theorem cell_row : ∀ q : Fin 676, Scalar.select (k0_pay88 (ix2 0 q)) (IntOp.subi (k0_pay87 (ix2 0 q)) 1#32) (k0_pay87 (ix2 0 q))
    = BitVec.ofNat 32 (q.val / 26) := by
  intro q
  pointwise [k0_pay87, k0_pay88, cells]
  revert q; decide +kernel

/-- A cell's column: the remainder of its number by 26, through the body's floor modulus. -/
theorem cell_col : ∀ q : Fin 676,
    Scalar.select
      (IntOp.andi
        (IntOp.xori
          (IntOp.cmpi .slt (IntOp.remsi .vector (BitVec.ofNat 32 q.val) (Scalar.select (Scalar.cmpi .eq 26#32 0#32) 1#32 26#32)) 0#32)
          (Scalar.cmpi .slt (Scalar.select (Scalar.cmpi .eq 26#32 0#32) 1#32 26#32) 0#32))
        (IntOp.cmpi .ne (IntOp.remsi .vector (BitVec.ofNat 32 q.val) (Scalar.select (Scalar.cmpi .eq 26#32 0#32) 1#32 26#32)) 0#32))
      (IntOp.addi (IntOp.remsi .vector (BitVec.ofNat 32 q.val) (Scalar.select (Scalar.cmpi .eq 26#32 0#32) 1#32 26#32))
        (Scalar.select (Scalar.cmpi .eq 26#32 0#32) 1#32 26#32))
      (IntOp.remsi .vector (BitVec.ofNat 32 q.val) (Scalar.select (Scalar.cmpi .eq 26#32 0#32) 1#32 26#32))
    = BitVec.ofNat 32 (q.val % 26) := by decide +kernel

/-- The body's grid: a cell's row above its column. -/
theorem grid_apply (r : Fin 2) (q : Fin 676) : k0_pay89 (F := Ideal) cells k0_pay87 k0_pay88 1#32 (ix2 r q)
    = FloatOps.sitofp (F := Ideal) .f32 (BitVec.ofNat 32 (if r.val < 1 then q.val / 26 else q.val % 26)) := by
  pointwise [k0_pay89, cells]
  rw [cell_col]
  split
  · exact congrArg (FloatOps.sitofp (F := Ideal) .f32) (cell_row q)
  · rfl

/-- One anchor's slab of predictions, anchor 2's spelling. -/
theorem slab_apply (S A0 A1 : EReal) (X : Vec Ideal S1x85x676 .f32) (q : Fin 676) (ch : Fin 85) :
    k0_pay110 (F := Ideal) S (k0_pay89 cells k0_pay87 k0_pay88 1#32) X A0 A1 (ix2 q ch)
      = Cert.Yolo.predAt (fun ch => X (ix3 0 ch q)) ![A0, A1] S (q.val / 26) (q.val % 26) ch := by
  pointwise [k0_pay110, k0_pay108, k0_pay109]
  simp only [sig_sub, grid_apply]
  unfold Cert.Yolo.predAt
  have hc : ch.val = 0 ∨ ch.val = 1 ∨ ch.val = 2 ∨ ch.val = 3 ∨ 4 ≤ ch.val := by omega
  rcases hc with hk | hk | hk | hk | hk
  · obtain rfl : ch = 0 := Fin.ext hk
    rfl
  · obtain rfl : ch = 1 := Fin.ext hk
    rfl
  · obtain rfl : ch = 2 := Fin.ext hk
    rfl
  · obtain rfl : ch = 3 := Fin.ext hk
    rfl
  · rw [dif_neg (by omega), dif_neg (by omega), dif_neg (by omega), if_neg (show ¬ch.val < 1 by omega),
      if_neg (show ¬ch.val < 2 by omega), if_neg (show ¬ch.val < 3 by omega), if_neg (show ¬ch.val < 4 by omega)]
    exact congrArg (fun k => Cert.Yolo.sig (X (ix3 0 k q))) (Fin.ext (by show 4 + (ch.val - 2 - 1 - 1) = ch.val; omega))

/-- Anchor 1's slab is computed as anchor 2's. -/
theorem slab1_eq (S A0 A1 : EReal) (G : FVec Ideal S2x676 .f32) (X : Vec Ideal S1x85x676 .f32) :
    k0_pay103 (F := Ideal) S G (k0_pay100 X) k0_pay101 A0 A1 = k0_pay110 S G X A0 A1 := rfl

/-- Anchor 0's slab is computed as anchor 2's. -/
theorem slab0_eq (S A0 A1 : EReal) (X : Vec Ideal S1x85x676 .f32) :
    k0_pay97 (F := Ideal) S (k0_pay92 X) (k0_pay93 X) (k0_pay94 X) (k0_pay95 S cells k0_pay87 k0_pay88 1#32 X) (k0_pay96 S A0) A1
      = k0_pay110 S (k0_pay89 cells k0_pay87 k0_pay88 1#32) X A0 A1 := rfl

/-- Two entries of predictions agree where their ingredients do. -/
theorem predAt_congr {X X' : Fin 85 → EReal} {A A' : Fin 2 → EReal} {S : EReal} {i i' j j' : ℕ} (ch : Fin 85)
    (hX : ∀ k, X k = X' k) (h0 : A 0 = A' 0) (h1 : A 1 = A' 1) (hi : i = i') (hj : j = j') :
    Cert.Yolo.predAt X A S i j ch = Cert.Yolo.predAt X' A' S i' j' ch := by
  obtain rfl : X = X' := funext hX
  obtain rfl : A = A' := funext fun k => by fin_cases k; exacts [h0, h1]
  subst hi hj
  rfl

/-- An entry of a point's block of predictions. -/
theorem predBlk_apply (x0 : Vec Ideal S1x255x676 .f32) (x2 : Vec Ideal S3x2 .f32) (x3 : Vec Ideal S1x1 .f32)
    (q : Fin 2028) (ch : Fin 85) :
    predBlk (F := Ideal) x0 x2 x3 (ix3 0 q ch)
      = Cert.Yolo.predAt (fun ch => x0 (ix3 0 ⟨q.val / 676 * 85 + ch.val, by omega⟩ ⟨q.val % 676, by omega⟩))
          (fun k => x2 (ix2 ⟨q.val / 676, by omega⟩ k)) (x3 (ix2 0 0)) (q.val % 676 / 26) (q.val % 676 % 26) ch := by
  unfold predBlk
  rw [slab1_eq, slab0_eq]
  pointwise [k0_pay2]
  simp only [slab_apply, ldS, ldX0, ldX1, ldX2, ldA00, ldA01, ldA10, ldA11, ldA20, ldA21]
  pointwise
  have hq : q.val / 676 = 0 ∨ q.val / 676 = 1 ∨ q.val / 676 = 2 := by omega
  rcases hq with hq | hq | hq
  · rw [dif_pos (by omega)]
    exact predAt_congr ch (fun k => congrArg₂ (fun u v => x0 (ix3 0 u v)) (Fin.ext (by dsimp only; omega)) (Fin.ext (by dsimp only; omega)))
      (congrArg (fun u => x2 (ix2 u 0)) (Fin.ext (by show 0 = q.val / 676; omega)))
      (congrArg (fun u => x2 (ix2 u 1)) (Fin.ext (by show 0 = q.val / 676; omega))) (by omega) (by omega)
  · rw [dif_neg (by omega), dif_pos (by omega)]
    exact predAt_congr ch (fun k => congrArg₂ (fun u v => x0 (ix3 0 u v)) (Fin.ext (by dsimp only; omega)) (Fin.ext (by dsimp only; omega)))
      (congrArg (fun u => x2 (ix2 u 0)) (Fin.ext (by show 1 = q.val / 676; omega)))
      (congrArg (fun u => x2 (ix2 u 1)) (Fin.ext (by show 1 = q.val / 676; omega))) (by omega) (by omega)
  · rw [dif_neg (by omega), dif_neg (by omega)]
    exact predAt_congr ch (fun k => congrArg₂ (fun u v => x0 (ix3 0 u v)) (Fin.ext (by dsimp only; omega)) (Fin.ext (by dsimp only; omega)))
      (congrArg (fun u => x2 (ix2 u 0)) (Fin.ext (by show 2 = q.val / 676; omega)))
      (congrArg (fun u => x2 (ix2 u 1)) (Fin.ext (by show 2 = q.val / 676; omega))) (by omega) (by omega)

/-- What a grid point leaves in the predictions' staging buffer, in any of the three cases. -/
theorem outsAt_pred (m : (ℓ : Loc nD τ sig) → Buf (Elt Ideal) ℓ) (c : Dev nD) (t : Fin cfg0.N) :
    (outsAt0 m c t.val t.isLt).1 = predBlk (iblk m c 0 t) (iblk m c 2 t) (iblk m c 3 t) := by
  have ht := lt16 t
  by_cases h0 : t.val % 16 = 0
  · rw [outsAt0_A m c t h0 (by omega)]
    dsimp only
    rw [out4_A]
  · by_cases h1 : t.val % 16 = 15
    · rw [outsAt0_C m c t h0 h1]
      dsimp only
      rw [out4_C]
    · rw [outsAt0_B m c t h0 h1]
      dsimp only
      rw [out4_B]

/-- The predictions of the launch's arguments. -/
abbrev predR (m : (ℓ : Loc nD τ sig) → Buf (Elt Ideal) ℓ) (c : Dev nD) : Buf (Elt Ideal) ((c : Thread nD τ).loc main_v5_0) :=
  Cert.Yolo.predSpec (argX m c) (argA m c) (argN m c)

/-- Every grid point writes its block of predictions back. -/
theorem flush_pred : ∀ t : Fin cfg0.N, (cfg0.win 4).flush t = true := by decide +kernel

/-- A point's block of predictions is the specification's block. -/
theorem pred_block (m : (ℓ : Loc nD τ sig) → Buf (Elt Ideal) ℓ) (c : Dev nD) (t : Fin cfg0.N) (q : Fin 2028) (ch : Fin 85) :
    predBlk (F := Ideal) (iblk m c 0 t) (iblk m c 2 t) (iblk m c 3 t) (ix3 0 q ch) = predR m c (ix3 ⟨t.val, lt16 t⟩ q ch) := by
  rw [predBlk_apply, iblk3]
  unfold predR Cert.Yolo.predSpec
  refine predAt_congr ch (fun k => ?_) (iblk2 ..) (iblk2 ..) ?_ ?_
  · rw [iblk0]
    refine congrArg₂ (fun u v => argX m c (ix4 ⟨t.val, lt16 t⟩ ⟨q.val / 676 * 85 + k.val, by omega⟩ u v)) (Fin.ext ?_) (Fin.ext ?_)
    · show q.val % 676 / 26 = q.val / 26 % 26; omega
    · show q.val % 676 % 26 = q.val % 26; omega
  · show q.val % 676 / 26 = q.val / 26 % 26; omega
  · show q.val % 676 % 26 = q.val % 26; omega

/-- What grid point `t` writes back is block `t` of the specification's predictions. -/
theorem flushed_pred (m : (ℓ : Loc nD τ sig) → Buf (Elt Ideal) ℓ) (c : Dev nD) (t : Fin cfg0.N) (hf : (cfg0.win 4).flush t = true) :
    (dats m 0 c).flushed 4 t = ((cfg0.win 4).blk t).view.read (Elt Ideal) (predR m c) := by
  show (cfg0.win 4).cut (grid0.coords t) ((dats m 0 c).after 4 t) = _
  rw [after0_4, outsAt_pred]
  obtain ⟨i0, i1, i2⟩ := index4 t
  funext y
  obtain ⟨q, ch, rfl⟩ : ∃ (q : Fin 2028) (ch : Fin 85), y = (ix3 0 q ch : S1x2028x85.Idx) :=
    ⟨⟨(y 1).val, (y 1).isLt⟩, ⟨(y 2).val, (y 2).isLt⟩, funext fun a => match a with
      | ⟨0, _⟩ => Fin.ext (by have : (y 0 : ℕ) < 1 := (y 0).isLt; show (y 0 : ℕ) = 0; omega)
      | ⟨1, _⟩ => rfl
      | ⟨2, _⟩ => rfl⟩
  refine (pred_block m c t q ch).trans ?_
  rw [View.read_apply]
  refine congrArg (predR m c) ?_
  funext a
  apply Fin.ext
  match a with
  | ⟨0, _⟩ => show t.val = win0_4.index t 0 * 1 + 1 * 0; omega
  | ⟨1, _⟩ => show q.val = win0_4.index t 1 * 2028 + 1 * q.val; omega
  | ⟨2, _⟩ => show ch.val = win0_4.index t 2 * 85 + 1 * ch.val; omega

/-- The kernel's first result: the specification's predictions, for the sixteen blocks cover the array. -/
theorem final_pred (m : (ℓ : Loc nD τ sig) → Buf (Elt Ideal) ℓ) (c : Dev nD) : (dats m 0 c).arrAt 4 cfg0.N = predR m c :=
  (dats m 0 c).arrAt_eq_of_cover 4 (predR m c) (flushed_pred m c) fun i => by
    have hN : cfg0.N = 16 := N_0
    have h0 : (i 0 : Nat) < 16 := (i 0).isLt
    have h1 : (i 1 : Nat) < 2028 := (i 1).isLt
    have h2 : (i 2 : Nat) < 85 := (i 2).isLt
    let t : Fin cfg0.N := ⟨(i 0 : Nat), by rw [hN]; exact h0⟩
    refine ⟨t, flush_pred t, ?_⟩
    show i ∈ ((View.whole main_v5_0).slice (win0_4.rect t)).set
    rw [View.set_slice_whole, Rect.mem_set_unit]
    obtain ⟨i0, i1, i2⟩ := index4 t
    intro a
    match a with
    | ⟨0, _⟩ => show win0_4.index t 0 * 1 ≤ (i 0 : Nat) ∧ (i 0 : Nat) < win0_4.index t 0 * 1 + 1
                rw [i0]; show (i 0 : Nat) * 1 ≤ (i 0 : Nat) ∧ (i 0 : Nat) < (i 0 : Nat) * 1 + 1; omega
    | ⟨1, _⟩ => show win0_4.index t 1 * 2028 ≤ (i 1 : Nat) ∧ (i 1 : Nat) < win0_4.index t 1 * 2028 + 2028
                rw [i1]; omega
    | ⟨2, _⟩ => show win0_4.index t 2 * 85 ≤ (i 2 : Nat) ∧ (i 2 : Nat) < win0_4.index t 2 * 85 + 85
                rw [i2]; omega

end Cert.KernelIdeal.Value
end
-- ==== Proof.RefPred.lean ====
/-
  The reference's predictions, entry by entry: its stride, its activated channels and its first result.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable (V0 : Valuation τ sig (Elt Ideal))

/-- The images as the reference reads them. -/
abbrev refX : S16x255x26x26.Idx → EReal := V0 (Proc.devRef .tc main_arg0)
/-- The targets as the reference reads them. -/
abbrev refT : S128x6.Idx → EReal := V0 (Proc.devRef .tc main_arg1)
/-- The anchors as the reference reads them. -/
abbrev refA : S3x2.Idx → EReal := V0 (Proc.devRef .tc main_arg2)
/-- The image size as the reference reads it. -/
abbrev refN : BitVec 32 := V0 (Proc.devRef .tc main_arg3) ix0

/-- The reference's stride word. -/
theorem v0_apply : res_main_v0 V0 ix0 = Cert.Yolo.strideWord (refN V0) := by
  unfold res_main_v0
  pointwise [res_main_call0_v0, res_main_call0_v1]
  rfl

/-- The reference's activated channels: raw for the box's extents, the logistic function elsewhere. -/
theorem v30_apply (b : Fin 16) (a : Fin 3) (i j : Fin 26) (ch : Fin 85) :
    res_main_v30 V0 (ix5 b a i j ch)
      = if ch.val < 2 then Cert.Yolo.sig (refX V0 (ix4 b ⟨a.val * 85 + ch.val, by omega⟩ i j))
        else if ch.val < 4 then refX V0 (ix4 b ⟨a.val * 85 + ch.val, by omega⟩ i j)
        else Cert.Yolo.sig (refX V0 (ix4 b ⟨a.val * 85 + ch.val, by omega⟩ i j)) := by
  unfold res_main_v30
  pointwise [res_main_v2]
  have hc : ch.val < 2 ∨ (2 ≤ ch.val ∧ ch.val < 4) ∨ 4 ≤ ch.val := by omega
  rcases hc with hk | ⟨hk, hk'⟩ | hk
  · rw [dif_pos hk, if_pos hk]
    rfl
  · rw [dif_neg (by omega), dif_pos (by omega), if_neg (show ¬ch.val < 2 by omega), if_pos hk']
    exact congrArg (fun k => refX V0 (ix4 b k i j)) (Fin.ext (by show a.val * 85 + (2 + (ch.val - 2)) = a.val * 85 + ch.val; omega))
  · rw [dif_neg (by omega), dif_neg (by omega), if_neg (show ¬ch.val < 2 by omega), if_neg (show ¬ch.val < 4 by omega)]
    exact congrArg (fun k => Cert.Yolo.sig (refX V0 (ix4 b k i j))) (Fin.ext (by show a.val * 85 + (4 + (ch.val - 2 - 2)) = a.val * 85 + ch.val; omega))

set_option maxHeartbeats 2000000 in
/-- The reference's first result, entry by entry. -/
theorem pred_apply (b : Fin 16) (q : Fin 2028) (ch : Fin 85) :
    (shapeCast _ ((concatenate S16x3x26x26x85 4 [⟨S16x3x26x26x2, ((mulf (addf (extractStridedSlice S16x3x26x26x2 ![0, 0, 0, 0, 0] (res_main_v30 (V0)) slices_S16x3x26x26x85_S16x3x26x26x2_0_0_0_0_0) (broadcastInDim S16x3x26x26x2 ![0, 1, 2, 3, 4] bcast_S1x1x26x26x2_S16x3x26x26x2_0_1_2_3_4 (sitofp .f32 (shapeCast _ (concatenate S26x26x2 2 [⟨S26x26x1, (broadcastInDim S26x26x1 ![0, 1] bcast_S26x26_S26x26x1_0_1 (broadcastInDim S26x26 ![0] bcast_S26_S26x26_0 (iotaInDim S26 32 0)))⟩, ⟨S26x26x1, (broadcastInDim S26x26x1 ![0, 1] bcast_S26x26_S26x26x1_0_1 (broadcastInDim S26x26 ![1] bcast_S26_S26x26_1 (iotaInDim S26 32 0)))⟩] concatenates_S26x26x1_S26x26x1_S26x26x2_d2) shapeCasts_S26x26x2_S1x1x26x26x2)))) (broadcastInDim S16x3x26x26x2 ![] bcast_S_S16x3x26x26x2 (sitofp .f32 (res_main_v0 (V0))))) : (⟨S16x3x26x26x2, .f32⟩ : BufTy).Contents (Elt Ideal))⟩, ⟨S16x3x26x26x2, ((mulf (mulf (Host.exp (extractStridedSlice S16x3x26x26x2 ![0, 0, 0, 0, 2] (res_main_v30 (V0)) slices_S16x3x26x26x85_S16x3x26x26x2_0_0_0_0_2)) (broadcastInDim S16x3x26x26x2 ![0, 1, 2, 3, 4] bcast_S1x3x1x1x2_S16x3x26x26x2_0_1_2_3_4 (shapeCast _ (res_main_v14 (V0)) shapeCasts_S3x2_S1x3x1x1x2))) (broadcastInDim S16x3x26x26x2 ![] bcast_S_S16x3x26x26x2 (sitofp .f32 (res_main_v0 (V0))))) : (⟨S16x3x26x26x2, .f32⟩ : BufTy).Contents (Elt Ideal))⟩, ⟨S16x3x26x26x81, ((extractStridedSlice S16x3x26x26x81 ![0, 0, 0, 0, 4] (res_main_v30 (V0)) slices_S16x3x26x26x85_S16x3x26x26x81_0_0_0_0_4) : (⟨S16x3x26x26x81, .f32⟩ : BufTy).Contents (Elt Ideal))⟩] concatenates_S16x3x26x26x2_S16x3x26x26x2_S16x3x26x26x81_S16x3x26x26x85_d4 : (⟨S16x3x26x26x85, .f32⟩ : BufTy).Contents (Elt Ideal))) shapeCasts_S16x3x26x26x85_S16x2028x85 : FVec Ideal S16x2028x85 .f32) (ix3 b q ch) = Cert.Yolo.predSpec (refX V0) (refA V0) (refN V0) (ix3 b q ch) := by
  pointwise [res_main_v14]
  simp only [v30_apply, v0_apply]
  show _ = Cert.Yolo.predAt (fun ch => refX V0 (ix4 b ⟨q.val / 676 * 85 + ch.val, by omega⟩ ⟨q.val / 26 % 26, by omega⟩ ⟨q.val % 26, by omega⟩))
    (fun k => refA V0 (ix2 ⟨q.val / 676, by omega⟩ k)) (Cert.Yolo.stride (refN V0)) (q.val / 26 % 26) (q.val % 26) ch
  unfold Cert.Yolo.predAt
  have hc : ch.val = 0 ∨ ch.val = 1 ∨ ch.val = 2 ∨ ch.val = 3 ∨ 4 ≤ ch.val := by omega
  rcases hc with hk | hk | hk | hk | hk
  · simp only [hk, Nat.reduceLT, ↓reduceDIte, ↓reduceIte]
    rfl
  · simp only [hk, Nat.reduceLT, ↓reduceDIte, ↓reduceIte]
    rfl
  · simp only [hk, Nat.reduceLT, Nat.reduceSub, Nat.reduceAdd, ↓reduceDIte, ↓reduceIte]
    rfl
  · simp only [hk, Nat.reduceLT, Nat.reduceSub, Nat.reduceAdd, ↓reduceDIte, ↓reduceIte]
    rfl
  · rw [dif_neg (by omega), dif_neg (by omega), if_neg (by show ¬4 + (ch.val - 2 - 2) < 2; omega), if_neg (by show ¬4 + (ch.val - 2 - 2) < 4; omega), if_neg (show ¬ch.val < 1 by omega), if_neg (show ¬ch.val < 2 by omega),
      if_neg (show ¬ch.val < 3 by omega), if_neg (show ¬ch.val < 4 by omega)]
    exact congrArg (fun k => Cert.Yolo.sig (refX V0 (ix4 b k ⟨q.val / 26 % 26, by omega⟩ ⟨q.val % 26, by omega⟩))) (Fin.ext (by show q.val / 676 * 85 + (4 + (ch.val - 2 - 2)) = q.val / 676 * 85 + ch.val; omega))

end Cert.ReferenceIdeal.Value
end
-- ==== Proof.Targets.lean ====
/-
  What both programs read off the list of targets: boxes, cells, overlaps with the anchors, best anchors and slots,
  as plain functions on extended reals and words.
-/
module

public import Idealize.ShloMosaic.Lib.Pointwise
public import proofs.«01_k».proof.Proof.Spec

@[expose] public section

noncomputable section

namespace Cert.Yolo

open Idealize.ShloMosaic

/-- A list of 128 targets: image, class, and the box's corners. -/
abbrev Tgts := (⟨2, ![128, 6]⟩ : Shape).Idx → EReal
/-- Three anchors' widths and heights. -/
abbrev Anch := (⟨2, ![3, 2]⟩ : Shape).Idx → EReal

/-- A number as a word. -/
def toWord (x : EReal) : BitVec 32 := FloatOps.fptosi (F := Ideal) (φ := .f32) 32 x
/-- The target's image. -/
def img (T : Tgts) (p : Fin 128) : BitVec 32 := toWord (T (ix2 p 0))
/-- The target's class. -/
def cls (T : Tgts) (p : Fin 128) : BitVec 32 := toWord (T (ix2 p 1))
/-- The box's width, in cells. -/
def bw (T : Tgts) (S : EReal) (p : Fin 128) : EReal := Ideal.div (T (ix2 p 4)) S - Ideal.div (T (ix2 p 2)) S
/-- The box's height, in cells. -/
def bh (T : Tgts) (S : EReal) (p : Fin 128) : EReal := Ideal.div (T (ix2 p 5)) S - Ideal.div (T (ix2 p 3)) S
/-- The box's centre across, in cells. -/
def cx (T : Tgts) (S : EReal) (p : Fin 128) : EReal :=
  Ideal.div (T (ix2 p 2)) S + Ideal.div (bw T S p) (Ideal.ofBits .f32 0x40000000#32)
/-- The box's centre down, in cells. -/
def cy (T : Tgts) (S : EReal) (p : Fin 128) : EReal :=
  Ideal.div (T (ix2 p 3)) S + Ideal.div (bh T S p) (Ideal.ofBits .f32 0x40000000#32)

/-- The first clamp: a negative column sends both words to 0. -/
def clampA (g : BitVec 32 × BitVec 32) : BitVec 32 × BitVec 32 :=
  (Scalar.select (IntOp.cmpi .slt g.1 0#32) 0#32 g.1, Scalar.select (IntOp.cmpi .slt g.1 0#32) 0#32 g.2)
/-- The second clamp: a negative row sends both words to 0. -/
def clampB (g : BitVec 32 × BitVec 32) : BitVec 32 × BitVec 32 :=
  (Scalar.select (IntOp.cmpi .slt g.2 0#32) 0#32 g.1, Scalar.select (IntOp.cmpi .slt g.2 0#32) 0#32 g.2)
/-- The third clamp: a column from 26 on sends both words to 25. -/
def clampC (g : BitVec 32 × BitVec 32) : BitVec 32 × BitVec 32 :=
  (Scalar.select (IntOp.cmpi .sge g.1 26#32) 25#32 g.1, Scalar.select (IntOp.cmpi .sge g.1 26#32) 25#32 g.2)
/-- The fourth clamp: a row from 26 on sends both words to 25. -/
def clampD (g : BitVec 32 × BitVec 32) : BitVec 32 × BitVec 32 :=
  (Scalar.select (IntOp.cmpi .sge g.2 26#32) 25#32 g.1, Scalar.select (IntOp.cmpi .sge g.2 26#32) 25#32 g.2)

/-- The target's column and row, as words. -/
def gij (T : Tgts) (S : EReal) (p : Fin 128) : BitVec 32 × BitVec 32 :=
  clampD (clampC (clampB (clampA (toWord (cx T S p), toWord (cy T S p)))))

/-- Choosing by the bit of a signed comparison. -/
theorem select_slt (a b x y : BitVec 32) : Scalar.select (IntOp.cmpi .slt a b) x y = if a.toInt < b.toInt then x else y := by
  unfold Scalar.select IntOp.cmpi
  by_cases h : a.toInt < b.toInt
  · simp [BitVec.slt, h]
  · simp [BitVec.slt, h]

/-- Choosing by the bit of a signed comparison, the other way. -/
theorem select_sge (a b x y : BitVec 32) : Scalar.select (IntOp.cmpi .sge a b) x y = if b.toInt ≤ a.toInt then x else y := by
  unfold Scalar.select IntOp.cmpi
  by_cases h : b.toInt ≤ a.toInt
  · simp [BitVec.sle, h]
  · simp [BitVec.sle, h]

/-- Choosing by the bit of an equality of words. -/
theorem select_eq {α : Type} (a b : BitVec 32) (x y : α) : Scalar.select (IntOp.cmpi .eq a b) x y = if a = b then x else y := by
  unfold Scalar.select IntOp.cmpi
  by_cases h : a = b
  · simp [h]
  · have hb : (a == b) = false := beq_eq_false_iff_ne.mpr h
    simp [h, hb]

/-- The clamps leave both words in the grid. -/
theorem clamp_lt (g : BitVec 32 × BitVec 32) :
    (0 ≤ (clampD (clampC (clampB (clampA g)))).1.toInt ∧ (clampD (clampC (clampB (clampA g)))).1.toInt < 26)
      ∧ (0 ≤ (clampD (clampC (clampB (clampA g)))).2.toInt ∧ (clampD (clampC (clampB (clampA g)))).2.toInt < 26) := by
  obtain ⟨x, y⟩ := g
  have hA : 0 ≤ (clampA (x, y)).1.toInt := by
    simp only [clampA, select_slt]; split_ifs with h <;> simp at * <;> omega
  have hB : 0 ≤ (clampB (clampA (x, y))).1.toInt ∧ 0 ≤ (clampB (clampA (x, y))).2.toInt := by
    generalize clampA (x, y) = g at *
    simp only [clampB, select_slt]; split_ifs with h <;> simp at * <;> omega
  have hC : 0 ≤ (clampC (clampB (clampA (x, y)))).1.toInt ∧ 0 ≤ (clampC (clampB (clampA (x, y)))).2.toInt
      ∧ (clampC (clampB (clampA (x, y)))).1.toInt < 26 := by
    generalize clampB (clampA (x, y)) = g at *
    have h25 : (25#32 : BitVec 32).toInt = 25 := rfl
    have h26 : (26#32 : BitVec 32).toInt = 26 := rfl
    simp only [clampC, select_sge, h26]; split_ifs with h <;> (try simp only [h25]) <;> omega
  generalize clampC (clampB (clampA (x, y))) = g at *
  have h25 : (25#32 : BitVec 32).toInt = 25 := rfl
  have h26 : (26#32 : BitVec 32).toInt = 26 := rfl
  simp only [clampD, select_sge, h26]; split_ifs with h <;> (try simp only [h25]) <;> omega

/-- A word that is nonnegative and below a bound has that bound as a natural number. -/
theorem toNat_lt_of (w : BitVec 32) (n : ℕ) (h0 : 0 ≤ w.toInt) (h1 : w.toInt < n) : w.toNat < n := by
  have := BitVec.toInt_eq_toNat_cond w
  have := w.isLt
  split_ifs at * <;> omega

/-- The target's column. -/
def col (T : Tgts) (S : EReal) (p : Fin 128) : Fin 26 :=
  ⟨(gij T S p).1.toNat, toNat_lt_of _ _ (clamp_lt _).1.1 (clamp_lt _).1.2⟩
/-- The target's row. -/
def row (T : Tgts) (S : EReal) (p : Fin 128) : Fin 26 :=
  ⟨(gij T S p).2.toNat, toNat_lt_of _ _ (clamp_lt _).2.1 (clamp_lt _).2.2⟩

/-- The intersection of a box of a target's size with one of an anchor's. -/
def inter (T : Tgts) (A : Anch) (S : EReal) (a : Fin 3) (p : Fin 128) : EReal :=
  min (Ideal.div (A (ix2 a 0)) S) (bw T S p) * min (Ideal.div (A (ix2 a 1)) S) (bh T S p)
/-- The overlap of the two boxes. -/
def iou (T : Tgts) (A : Anch) (S : EReal) (a : Fin 3) (p : Fin 128) : EReal :=
  Ideal.div (inter T A S a p)
    (Ideal.div (A (ix2 a 0)) S * Ideal.div (A (ix2 a 1)) S + bw T S p * bh T S p - inter T A S a p)
/-- The anchor with the greatest overlap, the first of several. -/
def best (T : Tgts) (A : Anch) (S : EReal) (p : Fin 128) : Fin 3 :=
  if max (iou T A S 0 p) (iou T A S 1 p) < iou T A S 2 p then 2 else if iou T A S 0 p < iou T A S 1 p then 1 else 0

end Cert.Yolo

end
-- ==== Proof.LossSpec.lean ====
/-
  The loss as a function of the targets and of the raw channels at the targets' cells: sums over the targets, a slot
  counted once.
-/
module

public import proofs.«01_k».proof.Proof.Targets

@[expose] public section

noncomputable section

namespace Cert.Yolo

open Idealize.ShloMosaic

/-- The least value of a logarithm in the cross-entropies, -100. -/
def logMin : EReal := Ideal.ofBits .f32 3267887104#32
/-- The cross-entropy of a probability with 1. -/
def bceP (s : EReal) : EReal := 0 - max (Ideal.log s) logMin
/-- The cross-entropy of a probability with 0. -/
def bceN (s : EReal) : EReal := 0 - max (Ideal.log (1 - s)) logMin

/-- The centre's fractional part, across. -/
def tx (T : Tgts) (S : EReal) (p : Fin 128) : EReal := cx T S p - Ideal.liftRound Int.floor (cx T S p)
/-- The centre's fractional part, down. -/
def ty (T : Tgts) (S : EReal) (p : Fin 128) : EReal := cy T S p - Ideal.liftRound Int.floor (cy T S p)
/-- The logarithm of the box's width against the best anchor's. -/
def tw (T : Tgts) (A : Anch) (S : EReal) (p : Fin 128) : EReal :=
  Ideal.log (Ideal.div (bw T S p) (Ideal.div (A (ix2 (best T A S p) 0)) S) + Ideal.ofBits .f32 786163455#32)
/-- The logarithm of the box's height against the best anchor's. -/
def th (T : Tgts) (A : Anch) (S : EReal) (p : Fin 128) : EReal :=
  Ideal.log (Ideal.div (bh T S p) (Ideal.div (A (ix2 (best T A S p) 1)) S) + Ideal.ofBits .f32 786163455#32)

/-- The target's cell as a word: 26 times the row and the column. -/
def cellW (T : Tgts) (S : EReal) (p : Fin 128) : BitVec 32 := IntOp.addi (IntOp.muli (gij T S p).2 26#32) (gij T S p).1
/-- The key of a target under an anchor's number, a word. -/
def keyW (T : Tgts) (S : EReal) (a : BitVec 32) (p : Fin 128) : BitVec 32 :=
  IntOp.addi (IntOp.muli (IntOp.addi (IntOp.muli (img T p) 3#32) a) 676#32) (cellW T S p)
/-- The key as a number. -/
def keyE (T : Tgts) (S : EReal) (a : Fin 3) (p : Fin 128) : EReal :=
  FloatOps.sitofp (F := Ideal) .f32 (keyW T S (BitVec.ofNat 32 a.val) p)

/-- Anchor `a` is taken out of the background at the target's cell: it is the best, or overlaps more than half. -/
def act (T : Tgts) (A : Anch) (S : EReal) (a : Fin 3) (p : Fin 128) : Prop :=
  best T A S p = a ∨ Ideal.ofBits .f32 1056964608#32 < iou T A S a p

/-- Whether a pair is active is decided classically. -/
instance (T : Tgts) (A : Anch) (S : EReal) (a : Fin 3) (p : Fin 128) : Decidable (act T A S a p) := Classical.propDecidable _

/-- The key of an active pair of anchor and target, -1 for any other. -/
def key2 (T : Tgts) (A : Anch) (S : EReal) (a : Fin 3) (p : Fin 128) : EReal :=
  if act T A S a p then keyE T S a p else Ideal.ofBits .f32 3212836864#32

/-- An earlier pair has the same key. -/
def earlier (T : Tgts) (A : Anch) (S : EReal) (a : Fin 3) (p : Fin 128) : Prop :=
  ∃ (b : Fin 3) (q : Fin 128), key2 T A S b q = key2 T A S a p ∧ (if b < a then q ≤ p else q < p)

/-- Whether there is an earlier pair is decided classically. -/
instance (T : Tgts) (A : Anch) (S : EReal) (a : Fin 3) (p : Fin 128) : Decidable (earlier T A S a p) := Classical.propDecidable _

/-- 1 for the first active pair of its key. -/
def fst1 (T : Tgts) (A : Anch) (S : EReal) (a : Fin 3) (p : Fin 128) : EReal :=
  if act T A S a p ∧ ¬ earlier T A S a p then 1 else 0

open Classical in
/-- 1 for the last target of its slot's key. -/
def wt (T : Tgts) (A : Anch) (S : EReal) (p : Fin 128) : EReal :=
  if ∃ q, keyE T S (best T A S q) q = keyE T S (best T A S p) p ∧ p < q then 0 else 1

/-- The number of slots, at least 1. -/
def nObj (T : Tgts) (A : Anch) (S : EReal) : EReal := max (∑ p, wt T A S p) 1

/-- The loss from the channels `G a ch p` at the targets' cells and the background's sum `ns`. -/
def lossK (T : Tgts) (A : Anch) (S : EReal) (G : Fin 3 → Fin 85 → Fin 128 → EReal) (ns : EReal) : EReal :=
  Ideal.div
      ((∑ p, wt T A S p * ((sig (G (best T A S p) 0 p) - tx T S p) * (sig (G (best T A S p) 0 p) - tx T S p)))
        + (∑ p, wt T A S p * ((sig (G (best T A S p) 1 p) - ty T S p) * (sig (G (best T A S p) 1 p) - ty T S p)))
        + (∑ p, wt T A S p * ((G (best T A S p) 2 p - tw T A S p) * (G (best T A S p) 2 p - tw T A S p)))
        + (∑ p, wt T A S p * ((G (best T A S p) 3 p - th T A S p) * (G (best T A S p) 3 p - th T A S p)))
        + ∑ p, wt T A S p * bceP (sig (G (best T A S p) 4 p)))
      (nObj T A S)
    + Ideal.ofBits .f32 1120403456#32
      * Ideal.div (ns - ((∑ p, fst1 T A S 0 p * bceN (sig (G 0 4 p))) + (∑ p, fst1 T A S 1 p * bceN (sig (G 1 4 p)))
            + ∑ p, fst1 T A S 2 p * bceN (sig (G 2 4 p))))
          (max (Ideal.ofBits .f32 1191018496#32
            - ((∑ p, fst1 T A S 0 p) + (∑ p, fst1 T A S 1 p) + ∑ p, fst1 T A S 2 p)) 1)
    + Ideal.div (∑ k : Fin 80, ∑ p, wt T A S p
          * (if BitVec.ofNat 32 k.val = cls T p then bceP (sig (G (best T A S p) ⟨5 + k.val, by omega⟩ p))
              else bceN (sig (G (best T A S p) ⟨5 + k.val, by omega⟩ p))))
        (nObj T A S * Ideal.ofBits .f32 1117782016#32)

end Cert.Yolo

end
-- ==== Proof.RefTargets.lean ====
/-
  What the reference reads off its list of targets, entry by entry: boxes, cells, overlaps and best anchors.
-/
module

public import proofs.«01_k».proof.Proof.RefPred
public import proofs.«01_k».proof.Proof.LossSpec
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Yolo (bw bh cx cy gij iou best img cls inter toWord tx ty tw th)

variable (V0 : Valuation τ sig (Elt Ideal))

/-- The stride as the reference reads it. -/
abbrev refS : EReal := Cert.Yolo.stride (refN V0)

/-- The anchors in cells. -/
theorem v14_at (a : Fin 3) (k : Fin 2) : res_main_v14 V0 (ix2 a k) = Ideal.div (refA V0 (ix2 a k)) (refS V0) := by
  pointwise [res_main_v14]
  simp only [v0_apply]
  rfl

/-- A target's image. -/
theorem v33_at (p : Fin 128) : res_main_v33 V0 (ix1 p) = img (refT V0) p := by
  pointwise [res_main_v33]
  rfl

/-- A target's class, plus 5. -/
theorem v377_at (p : Fin 128) : res_main_v377 V0 (ix1 p) = IntOp.addi (cls (refT V0) p) 5#32 := by
  pointwise [res_main_v377]
  rfl

/-- A target's corners in cells. -/
theorem v40_at (p : Fin 128) (k : Fin 4) : res_main_v40 V0 (ix2 p k) = Ideal.div (refT V0 (ix2 p ⟨2 + k.val, by omega⟩)) (refS V0) := by
  pointwise [res_main_v40]
  simp only [v0_apply]
  rfl

/-- A target's box's width. -/
theorem v43_at0 (p : Fin 128) : res_main_v43 V0 (ix2 p 0) = bw (refT V0) (refS V0) p := by
  unfold res_main_v43
  pointwise
  simp only [v40_at]
  rfl

/-- A target's box's height. -/
theorem v43_at1 (p : Fin 128) : res_main_v43 V0 (ix2 p 1) = bh (refT V0) (refS V0) p := by
  unfold res_main_v43
  pointwise
  simp only [v40_at]
  rfl

/-- A target's centre, across. -/
theorem v47_at0 (p : Fin 128) : res_main_v47 V0 (ix2 p 0) = cx (refT V0) (refS V0) p := by
  unfold res_main_v47
  pointwise
  simp only [v40_at, v43_at0]
  rfl

/-- A target's centre, down. -/
theorem v47_at1 (p : Fin 128) : res_main_v47 V0 (ix2 p 1) = cy (refT V0) (refS V0) p := by
  unfold res_main_v47
  pointwise
  simp only [v40_at, v43_at1]
  rfl

/-- The centre's fractional part, across. -/
theorem v237_at0 (p : Fin 128) : res_main_v237 V0 (ix2 p 0) = tx (refT V0) (refS V0) p := by
  unfold res_main_v237
  pointwise
  simp only [v47_at0]
  rfl

/-- The centre's fractional part, down. -/
theorem v237_at1 (p : Fin 128) : res_main_v237 V0 (ix2 p 1) = ty (refT V0) (refS V0) p := by
  unfold res_main_v237
  pointwise
  simp only [v47_at1]
  rfl

/-- The words of a target's centre. -/
theorem v110_at (p : Fin 128) : (res_main_v110 V0 (ix2 p 0), res_main_v110 V0 (ix2 p 1)) = (toWord (cx (refT V0) (refS V0) p), toWord (cy (refT V0) (refS V0) p)) := by
  pointwise [res_main_v110]
  simp only [v47_at0, v47_at1]
  rfl

/-- The first clamp. -/
theorem v116_at (p : Fin 128) : (res_main_v116 V0 (ix2 p 0), res_main_v116 V0 (ix2 p 1)) = Cert.Yolo.clampA (res_main_v110 V0 (ix2 p 0), res_main_v110 V0 (ix2 p 1)) := by
  unfold res_main_v116
  pointwise
  rfl

/-- The second clamp. -/
theorem v122_at (p : Fin 128) : (res_main_v122 V0 (ix2 p 0), res_main_v122 V0 (ix2 p 1)) = Cert.Yolo.clampB (res_main_v116 V0 (ix2 p 0), res_main_v116 V0 (ix2 p 1)) := by
  unfold res_main_v122
  pointwise
  rfl

/-- The third clamp. -/
theorem v128_at (p : Fin 128) : (res_main_v128 V0 (ix2 p 0), res_main_v128 V0 (ix2 p 1)) = Cert.Yolo.clampC (res_main_v122 V0 (ix2 p 0), res_main_v122 V0 (ix2 p 1)) := by
  unfold res_main_v128
  pointwise
  rw [show id (constantI S_ 32 25#32) ix0 = 25#32 from rfl]
  delta Cert.Yolo.clampC
  dsimp only

/-- The fourth clamp. -/
theorem v134_at (p : Fin 128) : (res_main_v134 V0 (ix2 p 0), res_main_v134 V0 (ix2 p 1)) = Cert.Yolo.clampD (res_main_v128 V0 (ix2 p 0), res_main_v128 V0 (ix2 p 1)) := by
  unfold res_main_v134
  pointwise
  rw [show id (constantI S_ 32 25#32) ix0 = 25#32 from rfl]
  delta Cert.Yolo.clampD
  dsimp only

/-- A target's column and row. -/
theorem gij_at (p : Fin 128) : (res_main_v134 V0 (ix2 p 0), res_main_v134 V0 (ix2 p 1)) = gij (refT V0) (refS V0) p := by
  rw [v134_at, v128_at, v122_at, v116_at, v110_at]
  rfl

/-- The last clamp's first entry is the column. -/
theorem gij_at0 (p : Fin 128) : res_main_v134 V0 (ix2 p 0) = (gij (refT V0) (refS V0) p).1 := by
  rw [← gij_at]

/-- The last clamp's second entry is the row. -/
theorem gij_at1 (p : Fin 128) : res_main_v134 V0 (ix2 p 1) = (gij (refT V0) (refS V0) p).2 := by
  rw [← gij_at]

/-- A target's column. -/
theorem v136_at (p : Fin 128) : res_main_v136 V0 (ix1 p) = (gij (refT V0) (refS V0) p).1 := by
  rw [← gij_at0]
  unfold res_main_v136
  generalize res_main_v134 V0 = x
  pointwise

/-- A target's row. -/
theorem v138_at (p : Fin 128) : res_main_v138 V0 (ix1 p) = (gij (refT V0) (refS V0) p).2 := by
  rw [← gij_at1]
  unfold res_main_v138
  generalize res_main_v134 V0 = x
  pointwise

/-- A fold over three. -/
theorem fold3 {α : Type} (op : α → α → α) [Std.Commutative op] [Std.Associative op] (b : α) (f : Fin 3 → α) :
    Finset.fold op b f Finset.univ = op (f 0) (op (f 1) (op (f 2) b)) := rfl

/-- The least of three positions that hold the greatest value. -/
theorem first_max (x y z : EReal) :
    IntOp.minsi (if x = max x (max y z) then BitVec.ofNat 32 (0 : Fin 3).val else 3#32)
        (IntOp.minsi (if y = max x (max y z) then BitVec.ofNat 32 (1 : Fin 3).val else 3#32)
          (IntOp.minsi (if z = max x (max y z) then BitVec.ofNat 32 (2 : Fin 3).val else 3#32) 2147483647#32))
      = BitVec.ofNat 32 (if max x y < z then (2 : Fin 3) else if x < y then 1 else 0).val := by
  by_cases h1 : max x y < z
  · have hx : x < z := (le_max_left _ _).trans_lt h1
    have hy : y < z := (le_max_right _ _).trans_lt h1
    rw [max_eq_right hy.le, max_eq_right hx.le, if_neg hx.ne, if_neg hy.ne, if_pos rfl, if_pos h1]
    decide
  · rw [if_neg h1]
    rw [not_lt] at h1
    by_cases h2 : x < y
    · rw [max_eq_right h2.le] at h1
      rw [max_eq_left h1, max_eq_right h2.le, if_neg h2.ne, if_pos rfl, if_pos h2]
      split_ifs <;> decide
    · rw [if_neg h2]
      rw [not_lt] at h2
      rw [max_eq_left h2] at h1
      rw [max_eq_left (max_le h2 h1), if_pos rfl]
      split_ifs <;> decide

section sides
variable (hw : ∀ p, 0 ≤ bw (refT V0) (refS V0) p) (hh : ∀ p, 0 ≤ bh (refT V0) (refS V0) p)
  (ha : ∀ a k, 0 ≤ Ideal.div (refA V0 (ix2 a k)) (refS V0))

include hw hh ha

/-- The sides of the intersection of a target's box with an anchor's. -/
theorem v89_at0 (a : Fin 3) (p : Fin 128) : res_main_v89 V0 (ix3 a p 0) = min (Ideal.div (refA V0 (ix2 a 0)) (refS V0)) (bw (refT V0) (refS V0) p) := by
  unfold res_main_v89 res_main_v49 res_main_v51
  pointwise
  simp only [v14_at, v43_at0, max_self, sub_zero]
  exact (congrArg (max · _) Ideal.ofBits_zero_f32).trans <| max_eq_right (le_min (ha a 0) (hw p))

/-- The sides of the intersection, down. -/
theorem v89_at1 (a : Fin 3) (p : Fin 128) : res_main_v89 V0 (ix3 a p 1) = min (Ideal.div (refA V0 (ix2 a 1)) (refS V0)) (bh (refT V0) (refS V0) p) := by
  unfold res_main_v89 res_main_v49 res_main_v51
  pointwise
  simp only [v14_at, v43_at1, max_self, sub_zero]
  exact (congrArg (max · _) Ideal.ofBits_zero_f32).trans <| max_eq_right (le_min (ha a 1) (hh p))

/-- The intersection. -/
theorem v94_at (a : Fin 3) (p : Fin 128) : res_main_v94 V0 (ix2 a p) = inter (refT V0) (refA V0) (refS V0) a p := by
  unfold res_main_v94
  pointwise
  rw [v89_at0 V0 hw hh ha, v89_at1 V0 hw hh ha]
  rfl

/-- The overlap. -/
theorem v101_at (a : Fin 3) (p : Fin 128) : res_main_v101 V0 (ix2 a p) = iou (refT V0) (refA V0) (refS V0) a p := by
  unfold res_main_v101 res_main_v49 res_main_v51
  pointwise
  simp only [v94_at V0 hw hh ha, v14_at, v43_at0, v43_at1, sub_zero]
  rfl

/-- The best anchor. -/
theorem v109_at (p : Fin 128) : res_main_v109 V0 (ix1 p) = BitVec.ofNat 32 (best (refT V0) (refA V0) (refS V0) p).val := by
  unfold res_main_v109
  clean_types
  pointwise
  have e : Ideal.ofBits FTy.f32 4286578688#32 = ⊥ := by simp [Ideal.ofBits, Ideal.ieee]
  simp only [fold3, v101_at V0 hw hh ha, e, max_bot_right]
  rw [show id (constantI S_ 32 3#32) ix0 = 3#32 from rfl]
  unfold best
  exact first_max _ _ _

end sides

end Cert.ReferenceIdeal.Value

end
-- ==== Proof.Cells.lean ====
/-
  Sums over the targets as sums over the cells: a cell is counted through one of the targets that name it.
-/
module

public import proofs.«01_k».proof.Proof.LossSpec

@[expose] public section

noncomputable section

namespace Cert.Yolo

open Idealize.ShloMosaic

/-- A sum over items is the sum over places if at each place one item carries the place's value and every other item there weighs nothing. -/
theorem sum_rep {ι C : Type} [Fintype ι] [DecidableEq ι] [Fintype C] [DecidableEq C] (s : ι → C) (v : ι → EReal) (F : C → EReal)
    (h : ∀ c, (∃ i, s i = c ∧ v i = F c ∧ ∀ j, s j = c → j ≠ i → v j = 0) ∨ (F c = 0 ∧ ∀ j, s j = c → v j = 0)) :
    ∑ i, v i = ∑ c, F c := by
  rw [← Finset.sum_fiberwise Finset.univ s v]
  refine Finset.sum_congr rfl fun c _ => ?_
  rcases h c with ⟨i, hi, hv, ho⟩ | ⟨h0, ho⟩
  · rw [← hv]
    refine Finset.sum_eq_single_of_mem i (Finset.mem_filter.mpr ⟨Finset.mem_univ _, hi⟩) fun j hj hne => ho j (Finset.mem_filter.mp hj).2 hne
  · rw [h0]
    exact Finset.sum_eq_zero fun j hj => ho j (Finset.mem_filter.mp hj).2

/-- Among the items of a nonempty set there is one of greatest rank. -/
theorem exists_last {n : ℕ} (P : Fin n → Prop) (h : ∃ i, P i) : ∃ i, P i ∧ ∀ j, P j → j ≤ i := by
  classical
  obtain ⟨i, hi⟩ := h
  obtain ⟨k, hk, hm⟩ := Finset.exists_max_image (Finset.univ.filter P) id ⟨i, Finset.mem_filter.mpr ⟨Finset.mem_univ _, hi⟩⟩
  exact ⟨k, (Finset.mem_filter.mp hk).2, fun j hj => hm j (Finset.mem_filter.mpr ⟨Finset.mem_univ _, hj⟩)⟩

/-- Among the items of a nonempty set there is one of least rank. -/
theorem exists_first {ι : Type} [Fintype ι] (r : ι → ℕ) (P : ι → Prop) (h : ∃ i, P i) : ∃ i, P i ∧ ∀ j, P j → r i ≤ r j := by
  classical
  obtain ⟨i, hi⟩ := h
  obtain ⟨k, hk, hm⟩ := Finset.exists_min_image (Finset.univ.filter P) r ⟨i, Finset.mem_filter.mpr ⟨Finset.mem_univ _, hi⟩⟩
  exact ⟨k, (Finset.mem_filter.mp hk).2, fun j hj => hm j (Finset.mem_filter.mpr ⟨Finset.mem_univ _, hj⟩)⟩

/-- A cell of the predictions: image, anchor, row and column. -/
abbrev Cell := Fin 16 × Fin 3 × Fin 26 × Fin 26

/-- The targets name images: `J p` is target `p`'s. -/
def Images (T : Tgts) (J : Fin 128 → Fin 16) : Prop := ∀ p, img T p = BitVec.ofNat 32 (J p).val

variable (T : Tgts) (A : Anch) (S : EReal) (J : Fin 128 → Fin 16)

/-- The cell of a target under an anchor. -/
def slotA (a : Fin 3) (p : Fin 128) : Cell := (J p, a, row T S p, col T S p)
/-- The target's slot: its cell under its best anchor. -/
def slot (p : Fin 128) : Cell := slotA T S J (best T A S p) p

/-- The number of a cell. -/
def cellNum (c : Cell) : ℕ := (c.1.val * 3 + c.2.1.val) * 676 + (26 * c.2.2.1.val + c.2.2.2.val)

/-- Cells are told apart by their numbers. -/
theorem cellNum_inj {c d : Cell} (h : cellNum c = cellNum d) : c = d := by
  obtain ⟨b, a, i, j⟩ := c
  obtain ⟨b', a', i', j'⟩ := d
  unfold cellNum at h
  dsimp only at h
  have := a.isLt; have := a'.isLt; have := i.isLt; have := i'.isLt; have := j.isLt; have := j'.isLt
  have h1 : b.val = b'.val := by omega
  have h2 : a.val = a'.val := by omega
  have h3 : i.val = i'.val := by omega
  have h4 : j.val = j'.val := by omega
  rw [Fin.ext h1, Fin.ext h2, Fin.ext h3, Fin.ext h4]

/-- A cell's number is small. -/
theorem cellNum_lt (c : Cell) : cellNum c < 32448 := by
  obtain ⟨b, a, i, j⟩ := c
  unfold cellNum
  dsimp only
  have := b.isLt; have := a.isLt; have := i.isLt; have := j.isLt
  omega

/-- A target's row is its second word. -/
theorem row_toNat (p : Fin 128) : (row T S p).val = (gij T S p).2.toNat := by delta row; dsimp only
/-- A target's column is its first word. -/
theorem col_toNat (p : Fin 128) : (col T S p).val = (gij T S p).1.toNat := by delta col; dsimp only

/-- Words' sums and products of small numbers. -/
theorem key_words (b a : ℕ) (u v : BitVec 32) (hb : b < 16) (ha : a < 3) (hu : u.toNat < 26) (hv : v.toNat < 26) :
    IntOp.addi (IntOp.muli (IntOp.addi (IntOp.muli (BitVec.ofNat 32 b) 3#32) (BitVec.ofNat 32 a)) 676#32) (IntOp.addi (IntOp.muli u 26#32) v)
      = BitVec.ofNat 32 ((b * 3 + a) * 676 + (26 * u.toNat + v.toNat)) := by
  apply BitVec.eq_of_toNat_eq
  unfold IntOp.addi IntOp.muli
  simp only [BitVec.toNat_add, BitVec.toNat_mul, BitVec.toNat_ofNat]
  omega

/-- What the targets are asked: they name images and classes, boxes and anchors have no negative side, and targets of
    one slot agree on the class. -/
structure Fine : Prop where
  image : Images T J
  named : ∀ p, (cls T p).toNat < 80
  wide : ∀ p, 0 ≤ bw T S p
  high : ∀ p, 0 ≤ bh T S p
  anchor : ∀ (a : Fin 3) (k : Fin 2), 0 ≤ Ideal.div (A (ix2 a k)) S
  agree : ∀ p q, slot T A S J p = slot T A S J q → cls T p = cls T q

variable {J}

/-- A key is the cell's number. -/
theorem keyE_eq (hJ : Images T J) (a : Fin 3) (p : Fin 128) : keyE T S a p = ((cellNum (slotA T S J a p) : ℝ) : EReal) := by
  have h1 := (row T S p).isLt
  have h2 := (col T S p).isLt
  rw [row_toNat] at h1
  rw [col_toNat] at h2
  have hk : keyW T S (BitVec.ofNat 32 a.val) p = BitVec.ofNat 32 (cellNum (slotA T S J a p)) := by
    unfold keyW cellW
    rw [hJ p, key_words _ _ _ _ (J p).isLt a.isLt h1 h2, ← row_toNat, ← col_toNat]
    rfl
  have hlt := cellNum_lt (slotA T S J a p)
  unfold keyE
  rw [hk]
  generalize cellNum (slotA T S J a p) = n at hlt
  show (((BitVec.ofNat 32 n).toInt : ℝ) : EReal) = _
  have e : (BitVec.ofNat 32 n).toNat = n := by rw [BitVec.toNat_ofNat]; omega
  rw [BitVec.toInt_eq_toNat_of_lt (by rw [e]; omega), e]
  simp

/-- Two keys are equal when the cells are. -/
theorem keyE_iff (hJ : Images T J) (a b : Fin 3) (p q : Fin 128) : keyE T S b q = keyE T S a p ↔ slotA T S J b q = slotA T S J a p := by
  rw [keyE_eq T S hJ, keyE_eq T S hJ]
  constructor
  · intro h
    exact cellNum_inj (by exact_mod_cast h)
  · intro h
    rw [h]

/-- The key of no pair is -1. -/
theorem keyE_ne (hJ : Images T J) (a : Fin 3) (p : Fin 128) : keyE T S a p ≠ Ideal.ofBits .f32 3212836864#32 := by
  rw [keyE_eq T S hJ]
  have e : Ideal.ofBits .f32 3212836864#32 = ((-1 : ℝ) : EReal) := by
    simp [Ideal.ofBits, Ideal.ieee, -EReal.coe_mul, -EReal.coe_neg]
    norm_num
  rw [e]
  intro h
  have h' : ((cellNum (slotA T S J a p) : ℕ) : ℝ) = -1 := by exact_mod_cast h
  have : (0 : ℝ) ≤ ((cellNum (slotA T S J a p) : ℕ) : ℝ) := Nat.cast_nonneg _
  linarith

/-- The weight of the last target of a slot is 1. -/
theorem wt_last (hJ : Images T J) (p : Fin 128) (h : ∀ q, slot T A S J q = slot T A S J p → q ≤ p) : wt T A S p = 1 := by
  unfold wt
  rw [if_neg]
  rintro ⟨q, hq, hlt⟩
  exact absurd (h q ((keyE_iff T S hJ _ _ p q).mp hq)) (not_le.mpr hlt)

/-- The weight of any other target is 0. -/
theorem wt_other (hJ : Images T J) (p q : Fin 128) (h : slot T A S J q = slot T A S J p) (hlt : p < q) : wt T A S p = 0 := by
  unfold wt
  rw [if_pos ⟨q, (keyE_iff T S hJ _ _ p q).mpr h, hlt⟩]

open Classical in
/-- A weighted sum over the targets is the sum over the cells of the last target's value. -/
theorem sum_wt (hJ : Images T J) (g : Fin 128 → EReal) (F : Cell → EReal)
    (hl : ∀ p, (∀ q, slot T A S J q = slot T A S J p → q ≤ p) → g p = F (slot T A S J p))
    (h0 : ∀ c, (∀ p, slot T A S J p ≠ c) → F c = 0) : ∑ p, wt T A S p * g p = ∑ c, F c := by
  refine sum_rep (slot T A S J) _ F fun c => ?_
  by_cases hc : ∃ p, slot T A S J p = c
  · obtain ⟨p, hp, hm⟩ := exists_last _ hc
    have hm' : ∀ q, slot T A S J q = slot T A S J p → q ≤ p := fun q hq => hm q (hq.trans hp)
    refine Or.inl ⟨p, hp, ?_, fun q hq hne => ?_⟩
    · rw [wt_last T A S hJ p hm', one_mul, hl p hm', hp]
    · rw [wt_other T A S hJ q p (hp.trans hq.symm) (lt_of_le_of_ne (hm q hq) hne), zero_mul]
  · push Not at hc
    exact Or.inr ⟨h0 c hc, fun q hq => absurd hq (hc q)⟩

/-- A pair that is active has a key that only active pairs of its cell share. -/
theorem key2_iff (hJ : Images T J) (a b : Fin 3) (p q : Fin 128) (h : act T A S a p) :
    key2 T A S b q = key2 T A S a p ↔ act T A S b q ∧ slotA T S J b q = slotA T S J a p := by
  unfold key2
  rw [if_pos h]
  by_cases hb : act T A S b q
  · rw [if_pos hb, keyE_iff T S hJ]
    exact ⟨fun e => ⟨hb, e⟩, fun e => e.2⟩
  · rw [if_neg hb]
    exact ⟨fun e => absurd e.symm (keyE_ne T S hJ a p), fun e => absurd e.1 hb⟩

/-- A cell taken out of the background: some target there is active under the cell's anchor. -/
def taken (J : Fin 128 → Fin 16) (c : Cell) : Prop := ∃ a p, act T A S a p ∧ slotA T S J a p = c

open Classical in
/-- A sum over the first active pairs is the sum over the cells taken out. -/
theorem sum_fst (hJ : Images T J) (g : Fin 3 → Fin 128 → EReal) (F : Cell → EReal) (hg : ∀ a p, g a p = F (slotA T S J a p)) :
    (∑ p, fst1 T A S 0 p * g 0 p) + (∑ p, fst1 T A S 1 p * g 1 p) + (∑ p, fst1 T A S 2 p * g 2 p)
      = ∑ c, if taken T A S J c then F c else 0 := by
  have e : (∑ p, fst1 T A S 0 p * g 0 p) + (∑ p, fst1 T A S 1 p * g 1 p) + (∑ p, fst1 T A S 2 p * g 2 p)
      = ∑ i : Fin 3 × Fin 128, fst1 T A S i.1 i.2 * g i.1 i.2 := by
    rw [Fintype.sum_prod_type, Fin.sum_univ_three]
  rw [e]
  refine sum_rep (fun i => slotA T S J i.1 i.2) _ _ fun c => ?_
  by_cases hc : taken T A S J c
  · obtain ⟨a0, p0, h0⟩ := hc
    obtain ⟨⟨a, p⟩, ⟨hact, hs⟩, hm⟩ := exists_first (fun i : Fin 3 × Fin 128 => 3 * i.2.val + i.1.val)
      (fun i => act T A S i.1 i.2 ∧ slotA T S J i.1 i.2 = c) ⟨(a0, p0), h0⟩
    dsimp only at hact hs hm
    refine Or.inl ⟨(a, p), hs, ?_, ?_⟩
    · have : fst1 T A S a p = 1 := by
        unfold fst1
        rw [if_pos]
        refine ⟨hact, ?_⟩
        rintro ⟨b, q, hk, ho⟩
        obtain ⟨hb, hs'⟩ := (key2_iff T A S hJ a b p q hact).mp hk
        have hle := hm (b, q) ⟨hb, hs'.trans hs⟩
        dsimp only at hle
        have := a.isLt; have := b.isLt
        split_ifs at ho with hba
        · rw [Fin.lt_def] at hba; rw [Fin.le_def] at ho; omega
        · rw [Fin.lt_def] at hba ho; omega
      dsimp only
      rw [this, one_mul, if_pos ⟨a0, p0, h0⟩, hg, hs]
    · rintro ⟨b, q⟩ hs' hne
      dsimp only at hs' ⊢
      have : fst1 T A S b q = 0 := by
        unfold fst1
        rw [if_neg]
        rintro ⟨hb, hno⟩
        refine hno ⟨a, p, (key2_iff T A S hJ b a q p hb).mpr ⟨hact, hs.trans hs'.symm⟩, ?_⟩
        have hle := hm (b, q) ⟨hb, hs'⟩
        dsimp only at hle
        have := a.isLt; have := b.isLt
        split_ifs with hab
        · rw [Fin.lt_def] at hab; rw [Fin.le_def]; omega
        · rw [Fin.lt_def] at hab ⊢
          by_contra hpq
          have h1 : p.val = q.val := by omega
          have h2 : a.val = b.val := by omega
          exact hne (Prod.ext (Fin.ext h2.symm) (Fin.ext h1.symm))
      rw [this, zero_mul]
  · refine Or.inr ⟨if_neg hc, ?_⟩
    rintro ⟨b, q⟩ hs
    dsimp only at hs ⊢
    have : fst1 T A S b q = 0 := by
      unfold fst1
      rw [if_neg]
      rintro ⟨hb, _⟩
      exact hc ⟨b, q, hb, hs⟩
    rw [this, zero_mul]

end Cert.Yolo

end
-- ==== Proof.Scatters.lean ====
/-
  Scatters read at one element: where an update lands when its index words name every axis, which update is kept when
  several land at one element, and the least of zeros and ones.
-/
module

public import Idealize.ShloMosaic.Lib.Pointwise
public import Idealize.ShloMosaic.Lib.Routing.OpsSet

@[expose] public section

namespace Cert.Scat

open Idealize.ShloMosaic

/-- A fold over no hits keeps its value. -/
theorem fold_none {α ι : Type} (hit : ι → Prop) [DecidablePred hit] (f : α → ι → α) (L : List ι) (h : ∀ m ∈ L, ¬ hit m) (x : α) :
    L.foldl (fun a m => if hit m then f a m else a) x = x := by
  induction L generalizing x with
  | nil => rfl
  | cons m L ih =>
    rw [List.foldl_cons, if_neg (h m List.mem_cons_self)]
    exact ih (fun k hk => h k (List.mem_cons_of_mem _ hk)) x

/-- A fold that writes keeps the last value written. -/
theorem fold_last {α : Type} {n : ℕ} (hit : Fin n → Prop) [DecidablePred hit] (v : Fin n → α) (k : Fin n) (hk : hit k)
    (hl : ∀ m, hit m → m ≤ k) (L : List (Fin n)) (hL : L.Pairwise (· < ·)) (hm : k ∈ L) (x : α) :
    L.foldl (fun a m => if hit m then v m else a) x = v k := by
  induction L generalizing x with
  | nil => cases hm
  | cons m L ih =>
    rw [List.foldl_cons]
    rw [List.pairwise_cons] at hL
    by_cases e : k ∈ L
    · exact ih hL.2 e _
    · have hkm : k = m := (List.mem_cons.mp hm).resolve_right e
      subst hkm
      rw [if_pos hk]
      exact fold_none hit (fun _ m => v m) L (fun j hj hh => absurd (hl j hh) (not_le.mpr (hL.1 j hj))) _

/-- A scatter that sets, read where several updates land: the last one's value. -/
theorem scatter_last {α : Type} {s si u : Shape} {w : ℕ} (d : ScatterDims s si u) (x0 : s.Idx → α) (idx : IVec si w) (upd : u.Idx → α)
    (ι : s.Idx) (k : u.Idx) (hk : d.resultIdx? k idx = some ι)
    (hl : ∀ k', d.resultIdx? k' idx = some ι → u.rowMajor k' ≤ u.rowMajor k) :
    Host.scatter d (fun _ b => b) x0 idx upd ι = upd k := by
  rw [Routing.scatter_at]
  have := fold_last (fun n => d.resultIdx? (u.rowMajor.symm n) idx = some ι) (fun n => upd (u.rowMajor.symm n)) (u.rowMajor k)
    (by rw [Equiv.symm_apply_apply]; exact hk) (fun m hm => by have := hl _ hm; rwa [Equiv.apply_symm_apply] at this)
    (List.finRange u.numel) (List.pairwise_lt_finRange _) (List.mem_finRange _) (x0 ι)
  rw [Equiv.symm_apply_apply] at this
  exact this

/-- The least of zeros and ones is zero if one of them is. -/
theorem fold_min {ι : Type} (hit : ι → Prop) [DecidablePred hit] (v : ι → BitVec 32) (hv : ∀ m, v m = 0#32 ∨ v m = 1#32) (L : List ι)
    (x : BitVec 32) (hx : x = 0#32 ∨ x = 1#32) :
    (L.foldl (fun a m => if hit m then IntOp.minsi a (v m) else a) x = 0#32 ∧ (x = 0#32 ∨ ∃ m ∈ L, hit m ∧ v m = 0#32))
      ∨ (L.foldl (fun a m => if hit m then IntOp.minsi a (v m) else a) x = 1#32 ∧ ¬ (x = 0#32 ∨ ∃ m ∈ L, hit m ∧ v m = 0#32)) := by
  induction L generalizing x with
  | nil =>
    rcases hx with h | h
    · exact Or.inl ⟨h, Or.inl h⟩
    · refine Or.inr ⟨h, ?_⟩
      rintro (h0 | ⟨m, hm, _⟩)
      · rw [h] at h0; exact absurd h0 (by decide)
      · cases hm
  | cons m L ih =>
    rw [List.foldl_cons]
    by_cases hh : hit m
    · rw [if_pos hh]
      have hx' : IntOp.minsi x (v m) = 0#32 ∨ IntOp.minsi x (v m) = 1#32 := by
        rcases hx with h | h <;> rcases hv m with h' | h' <;> rw [h, h'] <;> decide
      have h0 : IntOp.minsi x (v m) = 0#32 ↔ x = 0#32 ∨ v m = 0#32 := by
        rcases hx with h | h <;> rcases hv m with h' | h' <;> rw [h, h'] <;> decide
      have e : (IntOp.minsi x (v m) = 0#32 ∨ ∃ k ∈ L, hit k ∧ v k = 0#32) ↔ (x = 0#32 ∨ ∃ k ∈ m :: L, hit k ∧ v k = 0#32) := by
        rw [h0]
        constructor
        · rintro ((h | h) | ⟨k, hk, h⟩)
          · exact Or.inl h
          · exact Or.inr ⟨m, List.mem_cons_self, hh, h⟩
          · exact Or.inr ⟨k, List.mem_cons_of_mem _ hk, h⟩
        · rintro (h | ⟨k, hk, h⟩)
          · exact Or.inl (Or.inl h)
          · rcases List.mem_cons.mp hk with rfl | hk
            · exact Or.inl (Or.inr h.2)
            · exact Or.inr ⟨k, hk, h⟩
      rcases ih _ hx' with ⟨h, h'⟩ | ⟨h, h'⟩
      · exact Or.inl ⟨h, e.mp h'⟩
      · exact Or.inr ⟨h, fun q => h' (e.mpr q)⟩
    · rw [if_neg hh]
      have e : (x = 0#32 ∨ ∃ k ∈ L, hit k ∧ v k = 0#32) ↔ (x = 0#32 ∨ ∃ k ∈ m :: L, hit k ∧ v k = 0#32) := by
        constructor
        · rintro (h | ⟨k, hk, h⟩)
          · exact Or.inl h
          · exact Or.inr ⟨k, List.mem_cons_of_mem _ hk, h⟩
        · rintro (h | ⟨k, hk, h⟩)
          · exact Or.inl h
          · rcases List.mem_cons.mp hk with rfl | hk
            · exact absurd h.1 hh
            · exact Or.inr ⟨k, hk, h⟩
      rcases ih _ hx with ⟨h, h'⟩ | ⟨h, h'⟩
      · exact Or.inl ⟨h, e.mp h'⟩
      · exact Or.inr ⟨h, fun q => h' (e.mpr q)⟩

/-- A scatter of the least, zeros and ones: zero where the operand is, or where an update that lands is. -/
theorem scatter_min {s si u : Shape} {w : ℕ} (d : ScatterDims s si u) (x0 : s.Idx → BitVec 32) (idx : IVec si w) (upd : u.Idx → BitVec 32)
    (ι : s.Idx) (hx : x0 ι = 0#32 ∨ x0 ι = 1#32) (hv : ∀ k, upd k = 0#32 ∨ upd k = 1#32) :
    (Host.scatter d IntOp.minsi x0 idx upd ι = 0#32 ∧ (x0 ι = 0#32 ∨ ∃ k, d.resultIdx? k idx = some ι ∧ upd k = 0#32))
      ∨ (Host.scatter d IntOp.minsi x0 idx upd ι = 1#32 ∧ ¬ (x0 ι = 0#32 ∨ ∃ k, d.resultIdx? k idx = some ι ∧ upd k = 0#32)) := by
  rw [Routing.scatter_at]
  have e : (x0 ι = 0#32 ∨ ∃ m ∈ List.finRange u.numel, d.resultIdx? (u.rowMajor.symm m) idx = some ι ∧ upd (u.rowMajor.symm m) = 0#32)
      ↔ (x0 ι = 0#32 ∨ ∃ k, d.resultIdx? k idx = some ι ∧ upd k = 0#32) := by
    constructor
    · rintro (h | ⟨m, _, h⟩)
      · exact Or.inl h
      · exact Or.inr ⟨_, h⟩
    · rintro (h | ⟨k, h⟩)
      · exact Or.inl h
      · exact Or.inr ⟨u.rowMajor k, List.mem_finRange _, by rw [Equiv.symm_apply_apply]; exact h⟩
  rw [← e]
  exact fold_min (fun n => d.resultIdx? (u.rowMajor.symm n) idx = some ι) (fun n => upd (u.rowMajor.symm n)) (fun n => hv _) _ _ hx

/-- Where every operand axis is named by an index word and none by a window, an update lands where its words, read signed,
    say; `g a` is the place of the word for axis `a`. -/
theorem lands {s si u : Shape} {w : ℕ} (d : ScatterDims s si u) (idx : IVec si w) (k : u.Idx) (g : Fin s.rank → si.Idx)
    (hk : d.sKept = []) (hm : ∀ a, a ∈ d.scatterDimsToOperandDims)
    (hg : ∀ a, d.siIdx k ⟨d.scatterDimsToOperandDims.idxOf a, List.idxOf_lt_length_iff.2 (hm a)⟩ = g a) (ι : s.Idx) :
    d.resultIdx? k idx = some ι ↔ ∀ a, (idx (g a)).toInt = ((ι a).val : ℤ) := by
  refine (Routing.resultIdx?_eq_some d k idx ι).trans (forall_congr' fun a => ?_)
  have hs : d.start k idx a = (idx (g a)).toInt := (dif_pos (hm a)).trans (congrArg (fun x => (idx x).toInt) (hg a))
  have hw : d.window k a = 0 := dif_neg (by rw [hk]; exact List.not_mem_nil)
  rw [hs, hw, Nat.cast_zero, add_zero]

/-- A small word read signed is its number. -/
theorem toInt_small {x : BitVec 32} {n : ℕ} (h : x.toNat = n) (hn : n < 2 ^ 31) : x.toInt = (n : ℤ) := by
  rw [BitVec.toInt_eq_toNat_of_lt (by omega), h]

end Cert.Scat

end
-- ==== Proof.RefGrids.lean ====
/-
  The reference's grids of targets, entry by entry.
-/
module

public import proofs.«01_k».proof.Proof.RefTargets
public import proofs.«01_k».proof.Proof.Cells
public import proofs.«01_k».proof.Proof.Scatters

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Yolo (bw bh cx cy gij iou best img cls inter toWord tx ty tw th Cell Fine slot slotA act taken row col row_toNat col_toNat)
open Cert.Scat

variable (V0 : Valuation τ sig (Elt Ideal))

/-- The slots' index words. -/
def idx4 : IVec S128x4 32 :=
  ((concatenate S128x4 1 [⟨S128x1, ((broadcastInDim S128x1 ![0] bcast_S128_S128x1_0 (select (cmpi .slt (res_main_v33 V0) (broadcastInDim S128 ![] bcast_S_S128 (constantI S_ 32 0#32))) (addi (res_main_v33 V0) (broadcastInDim S128 ![] bcast_S_S128 (constantI S_ 32 16#32))) (res_main_v33 V0))) : (⟨S128x1, .i32⟩ : BufTy).Contents (Elt Ideal))⟩, ⟨S128x1, ((broadcastInDim S128x1 ![0] bcast_S128_S128x1_0 (select (cmpi .slt (res_main_v109 V0) (broadcastInDim S128 ![] bcast_S_S128 (constantI S_ 32 0#32))) (addi (res_main_v109 V0) (broadcastInDim S128 ![] bcast_S_S128 (constantI S_ 32 3#32))) (res_main_v109 V0))) : (⟨S128x1, .i32⟩ : BufTy).Contents (Elt Ideal))⟩, ⟨S128x1, ((broadcastInDim S128x1 ![0] bcast_S128_S128x1_0 (select (cmpi .slt (res_main_v138 V0) (broadcastInDim S128 ![] bcast_S_S128 (constantI S_ 32 0#32))) (addi (res_main_v138 V0) (broadcastInDim S128 ![] bcast_S_S128 (constantI S_ 32 26#32))) (res_main_v138 V0))) : (⟨S128x1, .i32⟩ : BufTy).Contents (Elt Ideal))⟩, ⟨S128x1, ((broadcastInDim S128x1 ![0] bcast_S128_S128x1_0 (select (cmpi .slt (res_main_v136 V0) (broadcastInDim S128 ![] bcast_S_S128 (constantI S_ 32 0#32))) (addi (res_main_v136 V0) (broadcastInDim S128 ![] bcast_S_S128 (constantI S_ 32 26#32))) (res_main_v136 V0))) : (⟨S128x1, .i32⟩ : BufTy).Contents (Elt Ideal))⟩] concatenates_S128x1_S128x1_S128x1_S128x1_S128x4_d1 : (⟨S128x4, .i32⟩ : BufTy).Contents (Elt Ideal)))
/-- The index words of every target under every anchor. -/
def idx34 : IVec S128x3x4 32 :=
  ((concatenate S128x3x4 2 [⟨S128x3x1, ((broadcastInDim S128x3x1 ![0, 1] bcast_S128x3_S128x3x1_0_1 (select (cmpi .slt (res_main_v196 V0) (broadcastInDim S128x3 ![] bcast_S_S128x3 (constantI S_ 32 0#32))) (addi (res_main_v196 V0) (broadcastInDim S128x3 ![] bcast_S_S128x3 (constantI S_ 32 16#32))) (res_main_v196 V0))) : (⟨S128x3x1, .i32⟩ : BufTy).Contents (Elt Ideal))⟩, ⟨S128x3x1, ((broadcastInDim S128x3x1 ![0, 1] bcast_S128x3_S128x3x1_0_1 (select (cmpi .slt (res_main_v199 V0) (broadcastInDim S128x3 ![] bcast_S_S128x3 (constantI S_ 32 0#32))) (addi (res_main_v199 V0) (broadcastInDim S128x3 ![] bcast_S_S128x3 (constantI S_ 32 3#32))) (res_main_v199 V0))) : (⟨S128x3x1, .i32⟩ : BufTy).Contents (Elt Ideal))⟩, ⟨S128x3x1, ((broadcastInDim S128x3x1 ![0, 1] bcast_S128x3_S128x3x1_0_1 (select (cmpi .slt (res_main_v201 V0) (broadcastInDim S128x3 ![] bcast_S_S128x3 (constantI S_ 32 0#32))) (addi (res_main_v201 V0) (broadcastInDim S128x3 ![] bcast_S_S128x3 (constantI S_ 32 26#32))) (res_main_v201 V0))) : (⟨S128x3x1, .i32⟩ : BufTy).Contents (Elt Ideal))⟩, ⟨S128x3x1, ((broadcastInDim S128x3x1 ![0, 1] bcast_S128x3_S128x3x1_0_1 (select (cmpi .slt (res_main_v203 V0) (broadcastInDim S128x3 ![] bcast_S_S128x3 (constantI S_ 32 0#32))) (addi (res_main_v203 V0) (broadcastInDim S128x3 ![] bcast_S_S128x3 (constantI S_ 32 26#32))) (res_main_v203 V0))) : (⟨S128x3x1, .i32⟩ : BufTy).Contents (Elt Ideal))⟩] concatenates_S128x3x1_S128x3x1_S128x3x1_S128x3x1_S128x3x4_d2 : (⟨S128x3x4, .i32⟩ : BufTy).Contents (Elt Ideal)))
/-- The slots' index words with a channel's. -/
def idx5 (w : IVec S128 32) : IVec S128x5 32 :=
  ((concatenate S128x5 1 [⟨S128x1, ((broadcastInDim S128x1 ![0] bcast_S128_S128x1_0 (select (cmpi .slt (res_main_v33 V0) (broadcastInDim S128 ![] bcast_S_S128 (constantI S_ 32 0#32))) (addi (res_main_v33 V0) (broadcastInDim S128 ![] bcast_S_S128 (constantI S_ 32 16#32))) (res_main_v33 V0))) : (⟨S128x1, .i32⟩ : BufTy).Contents (Elt Ideal))⟩, ⟨S128x1, ((broadcastInDim S128x1 ![0] bcast_S128_S128x1_0 (select (cmpi .slt (res_main_v109 V0) (broadcastInDim S128 ![] bcast_S_S128 (constantI S_ 32 0#32))) (addi (res_main_v109 V0) (broadcastInDim S128 ![] bcast_S_S128 (constantI S_ 32 3#32))) (res_main_v109 V0))) : (⟨S128x1, .i32⟩ : BufTy).Contents (Elt Ideal))⟩, ⟨S128x1, ((broadcastInDim S128x1 ![0] bcast_S128_S128x1_0 (select (cmpi .slt (res_main_v138 V0) (broadcastInDim S128 ![] bcast_S_S128 (constantI S_ 32 0#32))) (addi (res_main_v138 V0) (broadcastInDim S128 ![] bcast_S_S128 (constantI S_ 32 26#32))) (res_main_v138 V0))) : (⟨S128x1, .i32⟩ : BufTy).Contents (Elt Ideal))⟩, ⟨S128x1, ((broadcastInDim S128x1 ![0] bcast_S128_S128x1_0 (select (cmpi .slt (res_main_v136 V0) (broadcastInDim S128 ![] bcast_S_S128 (constantI S_ 32 0#32))) (addi (res_main_v136 V0) (broadcastInDim S128 ![] bcast_S_S128 (constantI S_ 32 26#32))) (res_main_v136 V0))) : (⟨S128x1, .i32⟩ : BufTy).Contents (Elt Ideal))⟩, ⟨S128x1, ((broadcastInDim S128x1 ![0] bcast_S128_S128x1_0 w) : (⟨S128x1, .i32⟩ : BufTy).Contents (Elt Ideal))⟩] concatenates_S128x1_S128x1_S128x1_S128x1_S128x1_S128x5_d1 : (⟨S128x5, .i32⟩ : BufTy).Contents (Elt Ideal)))

/-- 0 for an overlap above a half, else 1. -/
def over34 : IVec S128x3 32 :=
  (select (cmpf (F := Ideal) .ogt (transpose S128x3 [1, 0] (res_main_v101 V0) transposes_S3x128_S128x3_1_0) (broadcastInDim S128x3 ![] bcast_S_S128x3 (constant (F := Ideal) S_ .f32 0x3F000000#32))) (broadcastInDim S128x3 ![] bcast_S_S128x3 (constantI S_ 32 0#32)) (broadcastInDim S128x3 ![] bcast_S_S128x3 (constantI S_ 32 1#32)))

/-- The slots' grid from its index words. -/
def g166 : S16x3x26x26.Idx → EReal :=
  Host.scatter scatter_S16x3x26x26_S128x4_S128_n_0123_0123_1 (fun _ b => b) (broadcastInDim S16x3x26x26 ![] bcast_S_S16x3x26x26 (constant (F := Ideal) S_ .f32 0x00000000#32)) (idx4 V0) (broadcastInDim S128 ![] bcast_S_S128 (constant (F := Ideal) S_ .f32 0x3F800000#32))
/-- It is the reference's. -/
theorem v166_eq : res_main_v166 V0 = g166 V0 := rfl
/-- The background's grid from its index words. -/
def g235 : S16x3x26x26.Idx → EReal :=
  sitofp (F := Ideal) .f32 (Host.scatter scatter_S16x3x26x26_S128x3x4_S128x3_n_0123_0123_2 IntOp.minsi (Host.scatter scatter_S16x3x26x26_S128x4_S128_n_0123_0123_1 (fun _ b => b) (broadcastInDim S16x3x26x26 ![] bcast_S_S16x3x26x26 (constantI S_ 32 1#32)) (idx4 V0) (broadcastInDim S128 ![] bcast_S_S128 (constantI S_ 32 0#32))) (idx34 V0) (over34 V0))
/-- It is the reference's. -/
theorem v235_eq : res_main_v235 V0 = g235 V0 := rfl
/-- The grid of the first three channels' targets from its index words. -/
def g342 : S16x3x26x26x85.Idx → EReal :=
  Host.scatter (α := EReal) scatter_S16x3x26x26x85_S128x5_S128_n_01234_01234_1 (fun _ b => b) (Host.scatter (α := EReal) scatter_S16x3x26x26x85_S128x5_S128_n_01234_01234_1 (fun _ b => b) (Host.scatter (α := EReal) scatter_S16x3x26x26x85_S128x5_S128_n_01234_01234_1 (fun _ b => b) (broadcastInDim S16x3x26x26x85 ![] bcast_S_S16x3x26x26x85 (constant (F := Ideal) S_ .f32 0x00000000#32)) (idx5 V0 (id (broadcastInDim S128 ![] bcast_S_S128 (constantI S_ 32 0#32)))) (shapeCast _ (extractStridedSlice S128x1 ![0, 0] (res_main_v237 V0) slices_S128x2_S128x1_0_0) shapeCasts_S128x1_S128)) (idx5 V0 (id (broadcastInDim S128 ![] bcast_S_S128 (constantI S_ 32 1#32)))) (shapeCast _ (extractStridedSlice S128x1 ![0, 1] (res_main_v237 V0) slices_S128x2_S128x1_0_1) shapeCasts_S128x1_S128)) (idx5 V0 (id (broadcastInDim S128 ![] bcast_S_S128 (constantI S_ 32 2#32)))) (shapeCast _ (extractStridedSlice S128x1 ![0, 0] (res_main_v248 V0) slices_S128x2_S128x1_0_0) shapeCasts_S128x1_S128)
/-- It is the reference's. -/
theorem v342_eq : res_main_v342 V0 = g342 V0 := rfl
/-- The targets' grid from its index words. -/
def g410 : S16x3x26x26x85.Idx → EReal :=
  Host.scatter (α := EReal) scatter_S16x3x26x26x85_S128x5_S128_n_01234_01234_1 (fun _ b => b) (Host.scatter (α := EReal) scatter_S16x3x26x26x85_S1_S16x3x26x26_0123_4_4_0 (fun _ b => b) (Host.scatter (α := EReal) scatter_S16x3x26x26x85_S128x5_S128_n_01234_01234_1 (fun _ b => b) (res_main_v342 V0) (idx5 V0 (id (broadcastInDim S128 ![] bcast_S_S128 (constantI S_ 32 3#32)))) (shapeCast _ (extractStridedSlice S128x1 ![0, 1] (res_main_v248 V0) slices_S128x2_S128x1_0_1) shapeCasts_S128x1_S128)) (broadcastInDim S1 ![] bcast_S_S1 (constantI S_ 32 4#32)) (res_main_v166 V0)) (idx5 V0 (select (cmpi .slt (res_main_v377 V0) (broadcastInDim S128 ![] bcast_S_S128 (constantI S_ 32 0#32))) (addi (res_main_v377 V0) (broadcastInDim S128 ![] bcast_S_S128 (constantI S_ 32 85#32))) (res_main_v377 V0))) (broadcastInDim S128 ![] bcast_S_S128 (constant (F := Ideal) S_ .f32 0x3F800000#32))
/-- It is the reference's. -/
theorem v410_eq : res_main_v410 V0 = g410 V0 := rfl

/-- A constant channel's word. -/
theorem const_int (w : BitVec 32) (p : Fin 128) : ((id (broadcastInDim S128 ![] bcast_S_S128 (constantI S_ 32 w)) : IVec S128 32) (ix1 p)).toInt = w.toInt := rfl

/-- Where a target's four words send its update. -/
theorem hit4 (idx : IVec S128x4 32) (p : Fin 128) (ι : S16x3x26x26.Idx) :
    scatter_S16x3x26x26_S128x4_S128_n_0123_0123_1.resultIdx? (ix1 p) idx = some ι ↔ ∀ a : Fin 4, (idx (ix2 p a)).toInt = ((ι a).val : ℤ) :=
  lands scatter_S16x3x26x26_S128x4_S128_n_0123_0123_1 idx (ix1 p) (fun a => ix2 p a) (by decide) (by decide)
    (fun a => funext fun b => by fin_cases a <;> fin_cases b <;> rfl) ι

/-- Where a target's five words send its update. -/
theorem hit5 (idx : IVec S128x5 32) (p : Fin 128) (ι : S16x3x26x26x85.Idx) :
    scatter_S16x3x26x26x85_S128x5_S128_n_01234_01234_1.resultIdx? (ix1 p) idx = some ι ↔ ∀ a : Fin 5, (idx (ix2 p a)).toInt = ((ι a).val : ℤ) :=
  lands scatter_S16x3x26x26x85_S128x5_S128_n_01234_01234_1 idx (ix1 p) (fun a => ix2 p a) (by decide) (by decide)
    (fun a => funext fun b => by fin_cases a <;> fin_cases b <;> rfl) ι

/-- Where the four words of a target and an anchor send their update. -/
theorem hit34 (idx : IVec S128x3x4 32) (p : Fin 128) (q : Fin 3) (ι : S16x3x26x26.Idx) :
    scatter_S16x3x26x26_S128x3x4_S128x3_n_0123_0123_2.resultIdx? (ix2 p q) idx = some ι ↔ ∀ a : Fin 4, (idx (ix3 p q a)).toInt = ((ι a).val : ℤ) :=
  lands scatter_S16x3x26x26_S128x3x4_S128x3_n_0123_0123_2 idx (ix2 p q) (fun a => ix3 p q a) (by decide) (by decide)
    (fun a => funext fun b => by fin_cases a <;> fin_cases b <;> rfl) ι

section grids

variable {J : Fin 128 → Fin 16} (hF : Fine (refT V0) (refA V0) (refS V0) J)
include hF

/-- A small word is not wrapped. -/
theorem wrap_small (x a : BitVec 32) (h : x.toNat < 2 ^ 31) : Scalar.select (IntOp.cmpi .slt x 0#32) a x = x := Routing.wrap_of_lt x a h

/-- The image's word. -/
theorem img_nat (p : Fin 128) : (img (refT V0) p).toNat = (J p).val := by
  rw [hF.image p, BitVec.toNat_ofNat]
  have := (J p).isLt
  omega

/-- The best anchor's word. -/
theorem best_nat (p : Fin 128) : (res_main_v109 V0 (ix1 p)).toNat = (best (refT V0) (refA V0) (refS V0) p).val := by
  rw [v109_at V0 hF.wide hF.high hF.anchor, BitVec.toNat_ofNat]
  have := (best (refT V0) (refA V0) (refS V0) p).isLt
  omega

/-- A slot's first word. -/
theorem idx4_0 (p : Fin 128) : (idx4 V0 (ix2 p 0)).toInt = ((J p).val : ℤ) := by
  have h := img_nat V0 hF p
  have := (J p).isLt
  unfold idx4
  pointwise
  rw [v33_at, Routing.wrap_of_lt _ _ (by omega)]
  exact toInt_small h (by omega)

/-- A slot's second word. -/
theorem idx4_1 (p : Fin 128) : (idx4 V0 (ix2 p 1)).toInt = ((best (refT V0) (refA V0) (refS V0) p).val : ℤ) := by
  have h := best_nat V0 hF p
  have := (best (refT V0) (refA V0) (refS V0) p).isLt
  unfold idx4
  pointwise
  rw [Routing.wrap_of_lt _ _ (by omega)]
  exact toInt_small h (by omega)

/-- A slot's third word. -/
theorem idx4_2 (p : Fin 128) : (idx4 V0 (ix2 p 2)).toInt = ((row (refT V0) (refS V0) p).val : ℤ) := by
  have h := (row_toNat (refT V0) (refS V0) p).symm
  have := (row (refT V0) (refS V0) p).isLt
  unfold idx4
  pointwise
  rw [v138_at, Routing.wrap_of_lt _ _ (by omega)]
  exact toInt_small h (by omega)

/-- A slot's fourth word. -/
theorem idx4_3 (p : Fin 128) : (idx4 V0 (ix2 p 3)).toInt = ((col (refT V0) (refS V0) p).val : ℤ) := by
  have h := (col_toNat (refT V0) (refS V0) p).symm
  have := (col (refT V0) (refS V0) p).isLt
  unfold idx4
  pointwise
  rw [v136_at, Routing.wrap_of_lt _ _ (by omega)]
  exact toInt_small h (by omega)

/-- A target's update lands at its slot. -/
theorem lands4 (p : Fin 128) (b : Fin 16) (a : Fin 3) (i j : Fin 26) :
    scatter_S16x3x26x26_S128x4_S128_n_0123_0123_1.resultIdx? (ix1 p) (idx4 V0) = some (ix4 b a i j)
      ↔ slot (refT V0) (refA V0) (refS V0) J p = (b, a, i, j) := by
  refine (hit4 (idx4 V0) p (ix4 b a i j)).trans ⟨fun h => ?_, fun h => ?_⟩
  · have h0 := (idx4_0 V0 hF p).symm.trans (h 0)
    have h1 := (idx4_1 V0 hF p).symm.trans (h 1)
    have h2 := (idx4_2 V0 hF p).symm.trans (h 2)
    have h3 := (idx4_3 V0 hF p).symm.trans (h 3)
    unfold slot slotA
    rw [Fin.ext (by exact_mod_cast h0 : (J p).val = b.val), Fin.ext (by exact_mod_cast h1 : (best (refT V0) (refA V0) (refS V0) p).val = a.val),
      Fin.ext (by exact_mod_cast h2 : (row (refT V0) (refS V0) p).val = i.val), Fin.ext (by exact_mod_cast h3 : (col (refT V0) (refS V0) p).val = j.val)]
  · obtain ⟨rfl, rfl, rfl, rfl⟩ : J p = b ∧ best (refT V0) (refA V0) (refS V0) p = a ∧ row (refT V0) (refS V0) p = i ∧ col (refT V0) (refS V0) p = j := by
      unfold slot slotA at h
      simpa using h
    intro k
    fin_cases k
    · exact idx4_0 V0 hF p
    · exact idx4_1 V0 hF p
    · exact idx4_2 V0 hF p
    · exact idx4_3 V0 hF p

/-- A slot's words with a channel's. -/
theorem idx5_fst (w : IVec S128 32) (p : Fin 128) (k : Fin 4) : idx5 V0 w (ix2 p ⟨k.val, by omega⟩) = idx4 V0 (ix2 p k) := by
  fin_vals k with hk
  all_goals
    unfold idx5 idx4
    pointwise
    simp [hk]

/-- The channel's word. -/
theorem idx5_4 (w : IVec S128 32) (p : Fin 128) : idx5 V0 w (ix2 p 4) = w (ix1 p) := by
  unfold idx5
  pointwise

/-- A target's update lands at its slot's channel. -/
theorem lands5 (w : IVec S128 32) (p : Fin 128) (b : Fin 16) (a : Fin 3) (i j : Fin 26) (ch : Fin 85) :
    scatter_S16x3x26x26x85_S128x5_S128_n_01234_01234_1.resultIdx? (ix1 p) (idx5 V0 w) = some (ix5 b a i j ch)
      ↔ slot (refT V0) (refA V0) (refS V0) J p = (b, a, i, j) ∧ (w (ix1 p)).toInt = (ch.val : ℤ) := by
  refine (hit5 (idx5 V0 w) p (ix5 b a i j ch)).trans ⟨fun h => ⟨?_, ?_⟩, fun h => ?_⟩
  · refine (lands4 V0 hF p b a i j).mp ((hit4 (idx4 V0) p (ix4 b a i j)).mpr fun k => ?_)
    have hk := h ⟨k.val, by have := k.isLt; exact Nat.lt_succ_of_lt this⟩
    rw [← idx5_fst V0 hF w p k]
    refine hk.trans ?_
    fin_cases k <;> rfl
  · have h4 := h 4
    exact (congrArg BitVec.toInt (idx5_4 V0 hF w p)).symm.trans h4
  · have h' := (hit4 (idx4 V0) p (ix4 b a i j)).mp ((lands4 V0 hF p b a i j).mpr h.1)
    intro k
    fin_cases k
    · exact (congrArg BitVec.toInt (idx5_fst V0 hF w p 0)).trans (h' 0)
    · exact (congrArg BitVec.toInt (idx5_fst V0 hF w p 1)).trans (h' 1)
    · exact (congrArg BitVec.toInt (idx5_fst V0 hF w p 2)).trans (h' 2)
    · exact (congrArg BitVec.toInt (idx5_fst V0 hF w p 3)).trans (h' 3)
    · exact (congrArg BitVec.toInt (idx5_4 V0 hF w p)).trans h.2

open Classical in
/-- The slots' grid: 1 at a target's slot. -/
theorem v166_at (b : Fin 16) (a : Fin 3) (i j : Fin 26) : res_main_v166 V0 (ix4 b a i j)
    = if ∃ p, slot (refT V0) (refA V0) (refS V0) J p = (b, a, i, j) then (1 : EReal) else (0 : EReal) := by
  rw [v166_eq]
  unfold g166
  split_ifs with h
  · obtain ⟨p, hp⟩ := h
    refine Routing.scatter_set_hit _ _ _ _ _ (1 : EReal) (fun k _ => ?_) (ix1 p) ((lands4 V0 hF p b a i j).mpr hp)
    idx_vars k
    pointwise
  · refine (Routing.scatter_set_miss _ _ _ _ _ fun k hk => ?_).trans ?_
    · idx_vars k
      exact h ⟨_, (lands4 V0 hF _ b a i j).mp hk⟩
    · pointwise

open Classical in
/-- The background's grid before the overlaps: 0 at a target's slot. -/
theorem base_at (b : Fin 16) (a : Fin 3) (i j : Fin 26) :
    Host.scatter scatter_S16x3x26x26_S128x4_S128_n_0123_0123_1 (fun _ b => b) (broadcastInDim S16x3x26x26 ![] bcast_S_S16x3x26x26 (constantI S_ 32 1#32))
        (idx4 V0) (broadcastInDim S128 ![] bcast_S_S128 (constantI S_ 32 0#32)) (ix4 b a i j)
      = if ∃ p, slot (refT V0) (refA V0) (refS V0) J p = (b, a, i, j) then 0#32 else 1#32 := by
  split_ifs with h
  · obtain ⟨p, hp⟩ := h
    refine Routing.scatter_set_hit _ _ _ _ _ 0#32 (fun k _ => ?_) (ix1 p) ((lands4 V0 hF p b a i j).mpr hp)
    idx_vars k
    pointwise
  · refine (Routing.scatter_set_miss _ _ _ _ _ fun k hk => ?_).trans ?_
    · idx_vars k
      exact h ⟨_, (lands4 V0 hF _ b a i j).mp hk⟩
    · pointwise

/-- A pair's first word. -/
theorem idx34_0 (p : Fin 128) (q : Fin 3) : (idx34 V0 (ix3 p q 0)).toInt = ((J p).val : ℤ) := by
  have h := img_nat V0 hF p
  have := (J p).isLt
  unfold idx34 res_main_v196
  pointwise
  rw [v33_at, Routing.wrap_of_lt _ _ (by omega)]
  exact toInt_small h (by omega)

/-- A pair's second word. -/
theorem idx34_1 (p : Fin 128) (q : Fin 3) : (idx34 V0 (ix3 p q 1)).toInt = (q.val : ℤ) := by
  have h : (BitVec.ofNat 32 q.val).toNat = q.val := by rw [BitVec.toNat_ofNat]; omega
  unfold idx34 res_main_v199
  pointwise
  rw [Routing.wrap_of_lt _ _ (by omega)]
  exact toInt_small h (by omega)

/-- A pair's third word. -/
theorem idx34_2 (p : Fin 128) (q : Fin 3) : (idx34 V0 (ix3 p q 2)).toInt = ((row (refT V0) (refS V0) p).val : ℤ) := by
  have h := (row_toNat (refT V0) (refS V0) p).symm
  have := (row (refT V0) (refS V0) p).isLt
  unfold idx34 res_main_v201
  pointwise
  rw [v138_at, Routing.wrap_of_lt _ _ (by omega)]
  exact toInt_small h (by omega)

/-- A pair's fourth word. -/
theorem idx34_3 (p : Fin 128) (q : Fin 3) : (idx34 V0 (ix3 p q 3)).toInt = ((col (refT V0) (refS V0) p).val : ℤ) := by
  have h := (col_toNat (refT V0) (refS V0) p).symm
  have := (col (refT V0) (refS V0) p).isLt
  unfold idx34 res_main_v203
  pointwise
  rw [v136_at, Routing.wrap_of_lt _ _ (by omega)]
  exact toInt_small h (by omega)

/-- A pair's update lands at the target's cell under the anchor. -/
theorem lands34 (p : Fin 128) (q : Fin 3) (b : Fin 16) (a : Fin 3) (i j : Fin 26) :
    scatter_S16x3x26x26_S128x3x4_S128x3_n_0123_0123_2.resultIdx? (ix2 p q) (idx34 V0) = some (ix4 b a i j)
      ↔ slotA (refT V0) (refS V0) J q p = (b, a, i, j) := by
  refine (hit34 (idx34 V0) p q (ix4 b a i j)).trans ⟨fun h => ?_, fun h => ?_⟩
  · have h0 := (idx34_0 V0 hF p q).symm.trans (h 0)
    have h1 := (idx34_1 V0 hF p q).symm.trans (h 1)
    have h2 := (idx34_2 V0 hF p q).symm.trans (h 2)
    have h3 := (idx34_3 V0 hF p q).symm.trans (h 3)
    unfold slotA
    rw [Fin.ext (by exact_mod_cast h0 : (J p).val = b.val), Fin.ext (by exact_mod_cast h1 : q.val = a.val),
      Fin.ext (by exact_mod_cast h2 : (row (refT V0) (refS V0) p).val = i.val), Fin.ext (by exact_mod_cast h3 : (col (refT V0) (refS V0) p).val = j.val)]
  · obtain ⟨rfl, rfl, rfl, rfl⟩ : J p = b ∧ q = a ∧ row (refT V0) (refS V0) p = i ∧ col (refT V0) (refS V0) p = j := by
      unfold slotA at h
      simpa using h
    intro k
    fin_cases k
    · exact idx34_0 V0 hF p q
    · exact idx34_1 V0 hF p q
    · exact idx34_2 V0 hF p q
    · exact idx34_3 V0 hF p q

/-- An overlap above a half. -/
theorem over_at (p : Fin 128) (q : Fin 3) :
    over34 V0 (ix2 p q)
      = if Ideal.ofBits .f32 1056964608#32 < iou (refT V0) (refA V0) (refS V0) q p then 0#32 else 1#32 := by
  unfold over34
  pointwise
  rw [v101_at V0 hF.wide hF.high hF.anchor]

open Classical in
/-- The least of the base and of the overlaps' zeros is 0 at a cell that is taken. -/
theorem taken_min (x0 : IVec S16x3x26x26 32) (u : IVec S128x3 32) (b : Fin 16) (a : Fin 3) (i j : Fin 26)
    (hb : x0 (ix4 b a i j) = if ∃ p, slot (refT V0) (refA V0) (refS V0) J p = (b, a, i, j) then 0#32 else 1#32)
    (hu : ∀ (p : Fin 128) (q : Fin 3), u (ix2 p q) = if Ideal.ofBits .f32 1056964608#32 < iou (refT V0) (refA V0) (refS V0) q p then 0#32 else 1#32) :
    Host.scatter scatter_S16x3x26x26_S128x3x4_S128x3_n_0123_0123_2 IntOp.minsi x0 (idx34 V0) u (ix4 b a i j)
      = if taken (refT V0) (refA V0) (refS V0) J (b, a, i, j) then 0#32 else 1#32 := by
  have hx : x0 (ix4 b a i j) = 0#32 ∨ x0 (ix4 b a i j) = 1#32 := by
    rw [hb]; split_ifs; exacts [Or.inl rfl, Or.inr rfl]
  have hv : ∀ k, u k = 0#32 ∨ u k = 1#32 := fun k => by
    idx_vars k
    rw [hu]; split_ifs; exacts [Or.inl rfl, Or.inr rfl]
  have e : (x0 (ix4 b a i j) = 0#32 ∨ ∃ k, scatter_S16x3x26x26_S128x3x4_S128x3_n_0123_0123_2.resultIdx? k (idx34 V0) = some (ix4 b a i j) ∧ u k = 0#32)
      ↔ taken (refT V0) (refA V0) (refS V0) J (b, a, i, j) := by
    constructor
    · rintro (h | ⟨k, hk, h⟩)
      · rw [hb] at h
        split_ifs at h with h'
        · obtain ⟨p, hp⟩ := h'
          exact ⟨_, p, Or.inl rfl, hp⟩
        · exact absurd h (by decide)
      · idx_vars k
        rw [hu] at h
        split_ifs at h with h'
        · exact ⟨_, _, Or.inr h', (lands34 V0 hF _ _ b a i j).mp hk⟩
        · exact absurd h (by decide)
    · rintro ⟨q, p, h | h, hs⟩
      · refine Or.inl ?_
        rw [hb, if_pos]
        refine ⟨p, ?_⟩
        unfold slot
        rw [h]
        exact hs
      · refine Or.inr ⟨ix2 p q, (lands34 V0 hF p q b a i j).mpr hs, ?_⟩
        rw [hu, if_pos h]
  rcases scatter_min scatter_S16x3x26x26_S128x3x4_S128x3_n_0123_0123_2 x0 (idx34 V0) u (ix4 b a i j) hx hv with ⟨h, h'⟩ | ⟨h, h'⟩
  · rw [h, if_pos (e.mp h')]
  · rw [h, if_neg fun q => h' (e.mpr q)]

open Classical in
/-- The background's grid: 0 at a cell that is taken. -/
theorem v235_at (b : Fin 16) (a : Fin 3) (i j : Fin 26) : res_main_v235 V0 (ix4 b a i j)
    = if taken (refT V0) (refA V0) (refS V0) J (b, a, i, j) then (0 : EReal) else (1 : EReal) := by
  rw [v235_eq]
  unfold g235
  refine (congrArg (FloatOps.sitofp (F := Ideal) .f32) (taken_min V0 hF _ _ b a i j (base_at V0 hF b a i j) (over_at V0 hF))).trans ?_
  split_ifs
  · show (((0#32 : BitVec 32).toInt : ℝ) : EReal) = 0
    simp
  · show (((1#32 : BitVec 32).toInt : ℝ) : EReal) = 1
    simp

/-- The best anchor's side. -/
theorem gather_at (p : Fin 128) (k : Fin 2) :
    (Host.gather gather_S3x2_S128x1_S128x2_1_0_n_n_0_1_12 (res_main_v14 V0) (broadcastInDim S128x1 ![0] bcast_S128_S128x1_0 (select (cmpi .slt (res_main_v109 V0) (broadcastInDim S128 ![] bcast_S_S128 (constantI S_ 32 0#32))) (addi (res_main_v109 V0) (broadcastInDim S128 ![] bcast_S_S128 (constantI S_ 32 3#32))) (res_main_v109 V0))) (ix2 p k) : EReal)
      = Ideal.div (refA V0 (ix2 (best (refT V0) (refA V0) (refS V0) p) k)) (refS V0) := by
  have h := best_nat V0 hF p
  have hl := (best (refT V0) (refA V0) (refS V0) p).isLt
  have hb : (broadcastInDim S128x1 ![0] bcast_S128_S128x1_0 (select (cmpi .slt (res_main_v109 V0) (broadcastInDim S128 ![] bcast_S_S128 (constantI S_ 32 0#32))) (addi (res_main_v109 V0) (broadcastInDim S128 ![] bcast_S_S128 (constantI S_ 32 3#32))) (res_main_v109 V0))) (ix2 p 0)
      = BitVec.ofNat 32 (best (refT V0) (refA V0) (refS V0) p).val := by
    pointwise
    rw [Routing.wrap_of_lt _ _ (by omega)]
    exact v109_at V0 hF.wide hF.high hF.anchor p
  exact (Routing.gather_row (nb := 3) (B := 2) (n := 128) gather_S3x2_S128x1_S128x2_1_0_n_n_0_1_12 rfl rfl rfl rfl rfl (res_main_v14 V0) _ p k
    (best (refT V0) (refA V0) (refS V0) p) hb (by norm_num)).trans (v14_at V0 _ k)

/-- The logarithm of the width against the best anchor's. -/
theorem v248_at0 (p : Fin 128) : (res_main_v248 V0 (ix2 p 0) : EReal) = tw (refT V0) (refA V0) (refS V0) p := by
  unfold res_main_v248
  pointwise
  rw [gather_at V0 hF, v43_at0]
  rfl

/-- The logarithm of the height against the best anchor's. -/
theorem v248_at1 (p : Fin 128) : (res_main_v248 V0 (ix2 p 1) : EReal) = th (refT V0) (refA V0) (refS V0) p := by
  unfold res_main_v248
  pointwise
  rw [gather_at V0 hF, v43_at1]
  rfl

/-- No two channels' updates meet: a scatter into another channel leaves this one. -/
theorem set5_other (x0 : S16x3x26x26x85.Idx → EReal) (w : IVec S128 32) (u : S128.Idx → EReal) (b : Fin 16) (a : Fin 3) (i j : Fin 26) (ch : Fin 85)
    (h : ∀ p, (w (ix1 p)).toInt ≠ (ch.val : ℤ)) :
    Host.scatter (α := EReal) scatter_S16x3x26x26x85_S128x5_S128_n_01234_01234_1 (fun _ b => b) x0 (idx5 V0 w) u (ix5 b a i j ch) = x0 (ix5 b a i j ch) := by
  refine Routing.scatter_set_miss _ _ _ _ _ fun k hk => ?_
  idx_vars k
  exact h _ ((lands5 V0 hF w _ b a i j ch).mp hk).2

/-- A scatter into one channel: the last target's value at its slot. -/
theorem set5_last (x0 : S16x3x26x26x85.Idx → EReal) (w : IVec S128 32) (u : S128.Idx → EReal) (p : Fin 128) (ch : Fin 85)
    (hl : ∀ q, slot (refT V0) (refA V0) (refS V0) J q = slot (refT V0) (refA V0) (refS V0) J p → q ≤ p)
    (h : (w (ix1 p)).toInt = (ch.val : ℤ)) :
    Host.scatter (α := EReal) scatter_S16x3x26x26x85_S128x5_S128_n_01234_01234_1 (fun _ b => b) x0 (idx5 V0 w) u
        (ix5 (J p) (best (refT V0) (refA V0) (refS V0) p) (row (refT V0) (refS V0) p) (col (refT V0) (refS V0) p) ch) = u (ix1 p) := by
  refine scatter_last _ _ _ _ _ (ix1 p) ((lands5 V0 hF w p _ _ _ _ ch).mpr ⟨rfl, h⟩) fun k hk => ?_
  idx_vars k
  have := hl k0 ((lands5 V0 hF w _ _ _ _ _ ch).mp hk).1
  rw [Fin.le_def, Shape.rowMajor_val_one, Shape.rowMajor_val_one]
  exact this

/-- The window scatter writes channel 4 whole. -/
theorem lands_w (c : S16x3x26x26.Idx) (b : Fin 16) (a : Fin 3) (i j : Fin 26) (ch : Fin 85) :
    scatter_S16x3x26x26x85_S1_S16x3x26x26_0123_4_4_0.resultIdx? c (broadcastInDim S1 ![] bcast_S_S1 (constantI S_ 32 4#32)) = some (ix5 b a i j ch)
      ↔ c = ix4 b a i j ∧ ch = 4 := by
  rw [Routing.resultIdx?_eq_some]
  idx_vars c
  have w0 : scatter_S16x3x26x26x85_S1_S16x3x26x26_0123_4_4_0.window (ix4 c0 c1 c2 c3) 0 = c0.val := by
    unfold ScatterDims.window; rw [dif_pos (by decide)]; rfl
  have w1 : scatter_S16x3x26x26x85_S1_S16x3x26x26_0123_4_4_0.window (ix4 c0 c1 c2 c3) 1 = c1.val := by
    unfold ScatterDims.window; rw [dif_pos (by decide)]; rfl
  have w2 : scatter_S16x3x26x26x85_S1_S16x3x26x26_0123_4_4_0.window (ix4 c0 c1 c2 c3) 2 = c2.val := by
    unfold ScatterDims.window; rw [dif_pos (by decide)]; rfl
  have w3 : scatter_S16x3x26x26x85_S1_S16x3x26x26_0123_4_4_0.window (ix4 c0 c1 c2 c3) 3 = c3.val := by
    unfold ScatterDims.window; rw [dif_pos (by decide)]; rfl
  have w4 : scatter_S16x3x26x26x85_S1_S16x3x26x26_0123_4_4_0.window (ix4 c0 c1 c2 c3) 4 = 0 := by
    unfold ScatterDims.window; rw [dif_neg (by decide)]
  have s0 : scatter_S16x3x26x26x85_S1_S16x3x26x26_0123_4_4_0.start (ix4 c0 c1 c2 c3) (broadcastInDim S1 ![] bcast_S_S1 (constantI S_ 32 4#32)) 0 = 0 := by
    unfold ScatterDims.start; rw [dif_neg (by decide)]
  have s1 : scatter_S16x3x26x26x85_S1_S16x3x26x26_0123_4_4_0.start (ix4 c0 c1 c2 c3) (broadcastInDim S1 ![] bcast_S_S1 (constantI S_ 32 4#32)) 1 = 0 := by
    unfold ScatterDims.start; rw [dif_neg (by decide)]
  have s2 : scatter_S16x3x26x26x85_S1_S16x3x26x26_0123_4_4_0.start (ix4 c0 c1 c2 c3) (broadcastInDim S1 ![] bcast_S_S1 (constantI S_ 32 4#32)) 2 = 0 := by
    unfold ScatterDims.start; rw [dif_neg (by decide)]
  have s3 : scatter_S16x3x26x26x85_S1_S16x3x26x26_0123_4_4_0.start (ix4 c0 c1 c2 c3) (broadcastInDim S1 ![] bcast_S_S1 (constantI S_ 32 4#32)) 3 = 0 := by
    unfold ScatterDims.start; rw [dif_neg (by decide)]
  have s4 : scatter_S16x3x26x26x85_S1_S16x3x26x26_0123_4_4_0.start (ix4 c0 c1 c2 c3) (broadcastInDim S1 ![] bcast_S_S1 (constantI S_ 32 4#32)) 4 = 4 := by
    unfold ScatterDims.start; rw [dif_pos (by decide)]; rfl
  constructor
  · intro h
    have e0 := h 0
    have e1 := h 1
    have e2 := h 2
    have e3 := h 3
    have e4 := h 4
    rw [s0, w0, zero_add] at e0
    rw [s1, w1, zero_add] at e1
    rw [s2, w2, zero_add] at e2
    rw [s3, w3, zero_add] at e3
    rw [s4, w4] at e4
    rw [Fin.ext (by exact_mod_cast e0 : c0.val = b.val), Fin.ext (by exact_mod_cast e1 : c1.val = a.val), Fin.ext (by exact_mod_cast e2 : c2.val = i.val),
      Fin.ext (by exact_mod_cast e3 : c3.val = j.val)]
    have e5 : (4 : ℤ) + 0 = ch.val := e4
    exact ⟨rfl, Fin.ext (by show ch.val = 4; omega)⟩
  · rintro ⟨h, rfl⟩ k
    have e0 : c0 = b := congrFun h 0
    have e1 : c1 = a := congrFun h 1
    have e2 : c2 = i := congrFun h 2
    have e3 : c3 = j := congrFun h 3
    subst e0 e1 e2 e3
    fin_cases k
    · refine (congrArg₂ (· + ·) s0 (congrArg _ w0)).trans (zero_add _)
    · refine (congrArg₂ (· + ·) s1 (congrArg _ w1)).trans (zero_add _)
    · refine (congrArg₂ (· + ·) s2 (congrArg _ w2)).trans (zero_add _)
    · refine (congrArg₂ (· + ·) s3 (congrArg _ w3)).trans (zero_add _)
    · refine (congrArg₂ (· + ·) s4 (congrArg _ w4)).trans rfl

/-- A class's channel as a word. -/
theorem cls_int (p : Fin 128) :
    ((select (cmpi .slt (res_main_v377 V0) (broadcastInDim S128 ![] bcast_S_S128 (constantI S_ 32 0#32))) (addi (res_main_v377 V0) (broadcastInDim S128 ![] bcast_S_S128 (constantI S_ 32 85#32))) (res_main_v377 V0) : IVec S128 32) (ix1 p)).toInt
      = (((cls (refT V0) p).toNat + 5 : ℕ) : ℤ) := by
  have h := hF.named p
  have e : (IntOp.addi (cls (refT V0) p) 5#32).toNat = (cls (refT V0) p).toNat + 5 := by
    unfold IntOp.addi
    rw [BitVec.toNat_add]
    show (_ + 5) % _ = _
    omega
  pointwise
  rw [v377_at, Routing.wrap_of_lt _ _ (by omega)]
  exact toInt_small e (by omega)

/-- The slot's places in the grid. -/
abbrev at5 (p : Fin 128) (ch : Fin 85) : S16x3x26x26x85.Idx :=
  ix5 (J p) (best (refT V0) (refA V0) (refS V0) p) (row (refT V0) (refS V0) p) (col (refT V0) (refS V0) p) ch

/-- Below channel 5 the classes write nothing. -/
theorem v410_low (b : Fin 16) (a : Fin 3) (i j : Fin 26) (ch : Fin 85) (h : ch.val < 5) :
    res_main_v410 V0 (ix5 b a i j ch)
      = Host.scatter (α := EReal) scatter_S16x3x26x26x85_S1_S16x3x26x26_0123_4_4_0 (fun _ b => b) (Host.scatter (α := EReal) scatter_S16x3x26x26x85_S128x5_S128_n_01234_01234_1 (fun _ b => b) (res_main_v342 V0) (idx5 V0 (id (broadcastInDim S128 ![] bcast_S_S128 (constantI S_ 32 3#32)))) (shapeCast _ (extractStridedSlice S128x1 ![0, 1] (res_main_v248 V0) slices_S128x2_S128x1_0_1) shapeCasts_S128x1_S128)) (broadcastInDim S1 ![] bcast_S_S1 (constantI S_ 32 4#32)) (res_main_v166 V0) (ix5 b a i j ch) := by
  rw [v410_eq]
  unfold g410
  refine set5_other V0 hF _ _ _ b a i j ch fun p => ?_
  rw [cls_int V0 hF]
  omega

/-- But for channel 4 the slots' grid writes nothing. -/
theorem set4_other (x0 : S16x3x26x26x85.Idx → EReal) (b : Fin 16) (a : Fin 3) (i j : Fin 26) (ch : Fin 85) (h : ch ≠ 4) :
    Host.scatter (α := EReal) scatter_S16x3x26x26x85_S1_S16x3x26x26_0123_4_4_0 (fun _ b => b) x0 (broadcastInDim S1 ![] bcast_S_S1 (constantI S_ 32 4#32)) (res_main_v166 V0) (ix5 b a i j ch)
      = x0 (ix5 b a i j ch) :=
  Routing.scatter_set_miss _ _ _ _ _ fun k hk => h ((lands_w V0 hF k b a i j ch).mp hk).2

/-- Channel 4 is the slots' grid. -/
theorem v410_4 (b : Fin 16) (a : Fin 3) (i j : Fin 26) : res_main_v410 V0 (ix5 b a i j 4) = res_main_v166 V0 (ix4 b a i j) := by
  rw [v410_low V0 hF _ _ _ _ _ (by decide)]
  refine Routing.scatter_set_hit _ _ _ _ _ (res_main_v166 V0 (ix4 b a i j)) (fun k hk => ?_) (ix4 b a i j) ((lands_w V0 hF _ b a i j 4).mpr ⟨rfl, rfl⟩)
  rw [((lands_w V0 hF k b a i j 4).mp hk).1]

/-- Channel 0 at a slot. -/
theorem v410_0 (p : Fin 128) (hl : ∀ q, slot (refT V0) (refA V0) (refS V0) J q = slot (refT V0) (refA V0) (refS V0) J p → q ≤ p) :
    res_main_v410 V0 (at5 V0 (J := J) p 0) = tx (refT V0) (refS V0) p := by
  rw [v410_low V0 hF _ _ _ _ _ (by decide), set4_other V0 hF _ _ _ _ _ _ (by decide), set5_other V0 hF _ _ _ _ _ _ _ _ (fun q => by rw [const_int]; decide),
    v342_eq]
  unfold g342
  rw [set5_other V0 hF _ _ _ _ _ _ _ _ (fun q => by rw [const_int]; decide), set5_other V0 hF _ _ _ _ _ _ _ _ (fun q => by rw [const_int]; decide),
    set5_last V0 hF _ _ _ p 0 hl (by rw [const_int]; decide)]
  pointwise
  exact v237_at0 V0 p

/-- Channel 1 at a slot. -/
theorem v410_1 (p : Fin 128) (hl : ∀ q, slot (refT V0) (refA V0) (refS V0) J q = slot (refT V0) (refA V0) (refS V0) J p → q ≤ p) :
    res_main_v410 V0 (at5 V0 (J := J) p 1) = ty (refT V0) (refS V0) p := by
  rw [v410_low V0 hF _ _ _ _ _ (by decide), set4_other V0 hF _ _ _ _ _ _ (by decide), set5_other V0 hF _ _ _ _ _ _ _ _ (fun q => by rw [const_int]; decide),
    v342_eq]
  unfold g342
  rw [set5_other V0 hF _ _ _ _ _ _ _ _ (fun q => by rw [const_int]; decide), set5_last V0 hF _ _ _ p 1 hl (by rw [const_int]; decide)]
  pointwise
  exact v237_at1 V0 p

/-- Channel 2 at a slot. -/
theorem v410_2 (p : Fin 128) (hl : ∀ q, slot (refT V0) (refA V0) (refS V0) J q = slot (refT V0) (refA V0) (refS V0) J p → q ≤ p) :
    res_main_v410 V0 (at5 V0 (J := J) p 2) = tw (refT V0) (refA V0) (refS V0) p := by
  rw [v410_low V0 hF _ _ _ _ _ (by decide), set4_other V0 hF _ _ _ _ _ _ (by decide), set5_other V0 hF _ _ _ _ _ _ _ _ (fun q => by rw [const_int]; decide),
    v342_eq]
  unfold g342
  rw [set5_last V0 hF _ _ _ p 2 hl (by rw [const_int]; decide)]
  pointwise
  exact v248_at0 V0 hF p

/-- Channel 3 at a slot. -/
theorem v410_3 (p : Fin 128) (hl : ∀ q, slot (refT V0) (refA V0) (refS V0) J q = slot (refT V0) (refA V0) (refS V0) J p → q ≤ p) :
    res_main_v410 V0 (at5 V0 (J := J) p 3) = th (refT V0) (refA V0) (refS V0) p := by
  rw [v410_low V0 hF _ _ _ _ _ (by decide), set4_other V0 hF _ _ _ _ _ _ (by decide), set5_last V0 hF _ _ _ p 3 hl (by rw [const_int]; decide)]
  pointwise
  exact v248_at1 V0 hF p

/-- A class's channel at a slot: 1 for the slot's class. -/
theorem v410_cls (p : Fin 128) (k : Fin 80) :
    res_main_v410 V0 (at5 V0 (J := J) p ⟨5 + k.val, by omega⟩) = if BitVec.ofNat 32 k.val = cls (refT V0) p then (1 : EReal) else (0 : EReal) := by
  have hk := k.isLt
  rw [v410_eq]
  unfold g410
  split_ifs with h
  · refine Routing.scatter_set_hit _ _ _ _ _ (1 : EReal) (fun k _ => ?_) (ix1 p) ((lands5 V0 hF _ p _ _ _ _ _).mpr ⟨rfl, ?_⟩)
    · idx_vars k
      pointwise
    · rw [cls_int V0 hF, ← h, BitVec.toNat_ofNat]
      show ((_ : ℕ) : ℤ) = ((5 + k.val : ℕ) : ℤ)
      omega
  · refine (Routing.scatter_set_miss _ _ _ _ _ fun q hq => ?_).trans ?_
    · idx_vars q
      obtain ⟨hs, hi⟩ := (lands5 V0 hF _ _ _ _ _ _ _).mp hq
      rw [cls_int V0 hF] at hi
      have hi' : (((cls (refT V0) q0).toNat + 5 : ℕ) : ℤ) = ((5 + k.val : ℕ) : ℤ) := hi
      rw [hF.agree q0 p hs] at hi'
      refine h (BitVec.eq_of_toNat_eq ?_)
      rw [BitVec.toNat_ofNat]
      omega
    · have hc (n : ℕ) (hn : n < 5) (w : BitVec 32) (hw : w.toInt = n) (q : Fin 128) :
          ((id (broadcastInDim S128 ![] bcast_S_S128 (constantI S_ 32 w)) : IVec S128 32) (ix1 q)).toInt ≠ ((5 + k.val : ℕ) : ℤ) := by
        rw [const_int, hw]
        omega
      rw [set4_other V0 hF _ _ _ _ _ _ (by intro h; have := congrArg Fin.val h; have h5 : 5 + k.val = 4 := this; omega),
        set5_other V0 hF _ _ _ _ _ _ _ _ (hc 3 (by omega) 3#32 (by decide)), v342_eq]
      unfold g342
      rw [set5_other V0 hF _ _ _ _ _ _ _ _ (hc 2 (by omega) 2#32 (by decide)), set5_other V0 hF _ _ _ _ _ _ _ _ (hc 1 (by omega) 1#32 (by decide)),
        set5_other V0 hF _ _ _ _ _ _ _ _ (hc 0 (by omega) 0#32 (by decide))]
      pointwise

end grids

end Cert.ReferenceIdeal.Value

end
-- ==== Proof.LossCells.lean ====
/-
  The loss as sums over all cells, from the predictions, the targets' grid and the two masks.
-/
module

public import proofs.«01_k».proof.Proof.Cells

@[expose] public section

noncomputable section

namespace Cert.Yolo

open Idealize.ShloMosaic

/-- The cross-entropy of a probability `s` with a target `t`. -/
def bce (t s : EReal) : EReal := -(t * max (Ideal.log s) logMin + (1 - t) * max (Ideal.log (1 - s)) logMin)

section cells

variable (P Q : Cell → Fin 85 → EReal) (O N : Cell → EReal)

/-- The squared error of a channel over the masked cells. -/
def sqSum (k : Fin 85) : EReal := ∑ c, (P c k - Q c k) * (P c k - Q c k) * O c
/-- The number of masked cells, at least 1. -/
def nCells : EReal := max (∑ c, O c) 1

/-- The loss over the cells: `P` the predictions, `Q` the targets' grid, `O` the slots' mask and `N` the background's. -/
def lossCells : EReal :=
  Ideal.div (sqSum P Q O 0) (nCells O) + Ideal.div (sqSum P Q O 1) (nCells O) + Ideal.div (sqSum P Q O 2) (nCells O)
    + Ideal.div (sqSum P Q O 3) (nCells O)
    + 1 * Ideal.div (∑ c, bce (Q c 4) (P c 4) * O c) (nCells O)
    + Ideal.ofBits .f32 1120403456#32 * Ideal.div (∑ c, bce (Q c 4) (P c 4) * N c) (nCells N)
    + Ideal.div (∑ c, ∑ k : Fin 80, bce (Q c ⟨5 + k.val, by omega⟩) (P c ⟨5 + k.val, by omega⟩) * O c)
        (nCells O * Ideal.ofBits .f32 1117782016#32)

end cells

end Cert.Yolo

end
-- ==== Proof.RefLoss.lean ====
/-
  The reference's second result: the loss as sums over the cells.
-/
module

public import proofs.«01_k».proof.Proof.RefGrids
public import proofs.«01_k».proof.Proof.LossCells
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Yolo (Cell)

variable (V0 : Valuation τ sig (Elt Ideal))

/-- The reference's predictions at a cell. -/
def cellP (c : Cell) (ch : Fin 85) : EReal := res_main_v30 V0 (ix5 c.1 c.2.1 c.2.2.1 c.2.2.2 ch)
/-- The targets' grid at a cell. -/
def cellQ (c : Cell) (ch : Fin 85) : EReal := res_main_v410 V0 (ix5 c.1 c.2.1 c.2.2.1 c.2.2.2 ch)
/-- The slots' mask at a cell. -/
def cellO (c : Cell) : EReal := res_main_v166 V0 (ix4 c.1 c.2.1 c.2.2.1 c.2.2.2)
/-- The background's mask at a cell. -/
def cellN (c : Cell) : EReal := res_main_v235 V0 (ix4 c.1 c.2.1 c.2.2.1 c.2.2.2)

/-- A sum over a grid of cells. -/
theorem sum_cells (h : S16x3x26x26.ReducesTo [0, 1, 2, 3] S_) (v : S16x3x26x26.Idx → EReal) :
    Ideal.hostReduceAdd h v 0 ix0 = ∑ c : Cell, v (ix4 c.1 c.2.1 c.2.2.1 c.2.2.2) := by
  unfold Ideal.hostReduceAdd
  rw [zero_add, Finset.filter_true_of_mem fun i _ => funext fun a => a.elim0]
  refine Fintype.sum_equiv ⟨fun i => (i 0, i 1, i 2, i 3), fun c => ix4 c.1 c.2.1 c.2.2.1 c.2.2.2, fun i => ?_, fun c => rfl⟩ _ _ fun i => ?_
  · idx_vars i
  · idx_vars i
    rfl

/-- A sum over a grid of cells and classes. -/
theorem sum_classes (h : S16x3x26x26x80.ReducesTo [0, 1, 2, 3, 4] S_) (v : S16x3x26x26x80.Idx → EReal) :
    Ideal.hostReduceAdd h v 0 ix0 = ∑ c : Cell, ∑ k : Fin 80, v (ix5 c.1 c.2.1 c.2.2.1 c.2.2.2 k) := by
  unfold Ideal.hostReduceAdd
  rw [zero_add, Finset.filter_true_of_mem fun i _ => funext fun a => a.elim0, ← Fintype.sum_prod_type' (fun (c : Cell) (k : Fin 80) => v (ix5 c.1 c.2.1 c.2.2.1 c.2.2.2 k))]
  refine Fintype.sum_equiv ⟨fun i => ((i 0, i 1, i 2, i 3), i 4), fun c => ix5 c.1.1 c.1.2.1 c.1.2.2.1 c.1.2.2.2 c.2, fun i => ?_, fun c => rfl⟩ _ _ fun i => ?_
  · idx_vars i
  · idx_vars i
    rfl

/-- The number of slots. -/
theorem v412_at : res_main_v412 V0 ix0 = Cert.Yolo.nCells (cellO V0) := by
  unfold res_main_v412
  clean_types
  pointwise
  rw [sum_cells]
  rfl

/-- The squared error of channel 0. -/
theorem sq0_at : Ideal.hostReduceAdd reducesTo_S16x3x26x26_S_d0_1_2_3 (mulf (F := Ideal) (φ := .f32) (mulf (F := Ideal) (φ := .f32) (res_main_v419 V0) (res_main_v419 V0)) (res_main_v166 V0)) 0 ix0
    = Cert.Yolo.sqSum (cellP V0) (cellQ V0) (cellO V0) 0 := by
  rw [sum_cells]
  unfold Cert.Yolo.sqSum
  refine Finset.sum_congr rfl fun c _ => ?_
  obtain ⟨b, a, i, j⟩ := c
  unfold res_main_v419
  pointwise
  rfl

/-- The squared error of channel 1. -/
theorem sq1_at : Ideal.hostReduceAdd reducesTo_S16x3x26x26_S_d0_1_2_3 (mulf (F := Ideal) (φ := .f32) (mulf (F := Ideal) (φ := .f32) (res_main_v428 V0) (res_main_v428 V0)) (res_main_v166 V0)) 0 ix0
    = Cert.Yolo.sqSum (cellP V0) (cellQ V0) (cellO V0) 1 := by
  rw [sum_cells]
  unfold Cert.Yolo.sqSum
  refine Finset.sum_congr rfl fun c _ => ?_
  obtain ⟨b, a, i, j⟩ := c
  unfold res_main_v428
  pointwise
  rfl

/-- The squared error of channel 2. -/
theorem sq2_at : Ideal.hostReduceAdd reducesTo_S16x3x26x26_S_d0_1_2_3 (mulf (F := Ideal) (φ := .f32) (mulf (F := Ideal) (φ := .f32) (res_main_v437 V0) (res_main_v437 V0)) (res_main_v166 V0)) 0 ix0
    = Cert.Yolo.sqSum (cellP V0) (cellQ V0) (cellO V0) 2 := by
  rw [sum_cells]
  unfold Cert.Yolo.sqSum
  refine Finset.sum_congr rfl fun c _ => ?_
  obtain ⟨b, a, i, j⟩ := c
  unfold res_main_v437
  pointwise
  rfl

/-- The squared error of channel 3. -/
theorem sq3_at : Ideal.hostReduceAdd reducesTo_S16x3x26x26_S_d0_1_2_3 (mulf (F := Ideal) (φ := .f32) (mulf (F := Ideal) (φ := .f32) (res_main_v446 V0) (res_main_v446 V0)) (res_main_v166 V0)) 0 ix0
    = Cert.Yolo.sqSum (cellP V0) (cellQ V0) (cellO V0) 3 := by
  rw [sum_cells]
  unfold Cert.Yolo.sqSum
  refine Finset.sum_congr rfl fun c _ => ?_
  obtain ⟨b, a, i, j⟩ := c
  unfold res_main_v446
  pointwise
  rfl

/-- The slots' cross-entropies. -/
theorem obj_at : Ideal.hostReduceAdd reducesTo_S16x3x26x26_S_d0_1_2_3 (mulf (F := Ideal) (Host.negf (F := Ideal) (addf (F := Ideal) (mulf (F := Ideal) (res_main_v454 V0) (maximumf (F := Ideal) (Host.log (F := Ideal) (res_main_v452 V0)) (broadcastInDim S16x3x26x26 ![] bcast_S_S16x3x26x26 (constant (F := Ideal) S_ .f32 0xC2C80000#32)))) (mulf (F := Ideal) (subf (F := Ideal) (broadcastInDim S16x3x26x26 ![] bcast_S_S16x3x26x26 (constant (F := Ideal) S_ .f32 0x3F800000#32)) (res_main_v454 V0)) (maximumf (F := Ideal) (Host.log (F := Ideal) (subf (F := Ideal) (broadcastInDim S16x3x26x26 ![] bcast_S_S16x3x26x26 (constant (F := Ideal) S_ .f32 0x3F800000#32)) (res_main_v452 V0))) (broadcastInDim S16x3x26x26 ![] bcast_S_S16x3x26x26 (constant (F := Ideal) S_ .f32 0xC2C80000#32)))))) (res_main_v166 V0)) 0 ix0
    = ∑ c, Cert.Yolo.bce (cellQ V0 c 4) (cellP V0 c 4) * cellO V0 c := by
  rw [sum_cells]
  refine Finset.sum_congr rfl fun c _ => ?_
  obtain ⟨b, a, i, j⟩ := c
  unfold res_main_v454 res_main_v452
  pointwise
  rfl

/-- The background's cross-entropies. -/
theorem noobj_at : Ideal.hostReduceAdd reducesTo_S16x3x26x26_S_d0_1_2_3 (mulf (F := Ideal) (Host.negf (F := Ideal) (addf (F := Ideal) (mulf (F := Ideal) (res_main_v475 V0) (maximumf (F := Ideal) (Host.log (F := Ideal) (res_main_v473 V0)) (broadcastInDim S16x3x26x26 ![] bcast_S_S16x3x26x26 (constant (F := Ideal) S_ .f32 0xC2C80000#32)))) (mulf (F := Ideal) (subf (F := Ideal) (broadcastInDim S16x3x26x26 ![] bcast_S_S16x3x26x26 (constant (F := Ideal) S_ .f32 0x3F800000#32)) (res_main_v475 V0)) (maximumf (F := Ideal) (Host.log (F := Ideal) (subf (F := Ideal) (broadcastInDim S16x3x26x26 ![] bcast_S_S16x3x26x26 (constant (F := Ideal) S_ .f32 0x3F800000#32)) (res_main_v473 V0))) (broadcastInDim S16x3x26x26 ![] bcast_S_S16x3x26x26 (constant (F := Ideal) S_ .f32 0xC2C80000#32)))))) (res_main_v235 V0)) 0 ix0
    = ∑ c, Cert.Yolo.bce (cellQ V0 c 4) (cellP V0 c 4) * cellN V0 c := by
  rw [sum_cells]
  refine Finset.sum_congr rfl fun c _ => ?_
  obtain ⟨b, a, i, j⟩ := c
  unfold res_main_v475 res_main_v473
  pointwise
  rfl

/-- The classes' cross-entropies. -/
theorem cls_at : Ideal.hostReduceAdd reducesTo_S16x3x26x26x80_S_d0_1_2_3_4 (mulf (F := Ideal) (Host.negf (F := Ideal) (addf (F := Ideal) (mulf (F := Ideal) (res_main_v494 V0) (maximumf (F := Ideal) (Host.log (F := Ideal) (res_main_v493 V0)) (broadcastInDim S16x3x26x26x80 ![] bcast_S_S16x3x26x26x80 (constant (F := Ideal) S_ .f32 0xC2C80000#32)))) (mulf (F := Ideal) (subf (F := Ideal) (broadcastInDim S16x3x26x26x80 ![] bcast_S_S16x3x26x26x80 (constant (F := Ideal) S_ .f32 0x3F800000#32)) (res_main_v494 V0)) (maximumf (F := Ideal) (Host.log (F := Ideal) (subf (F := Ideal) (broadcastInDim S16x3x26x26x80 ![] bcast_S_S16x3x26x26x80 (constant (F := Ideal) S_ .f32 0x3F800000#32)) (res_main_v493 V0))) (broadcastInDim S16x3x26x26x80 ![] bcast_S_S16x3x26x26x80 (constant (F := Ideal) S_ .f32 0xC2C80000#32)))))) (broadcastInDim S16x3x26x26x80 ![0, 1, 2, 3, 4] bcast_S16x3x26x26x1_S16x3x26x26x80_0_1_2_3_4 (broadcastInDim S16x3x26x26x1 ![0, 1, 2, 3] bcast_S16x3x26x26_S16x3x26x26x1_0_1_2_3 (res_main_v166 V0)))) 0 ix0
    = ∑ c, ∑ k : Fin 80, Cert.Yolo.bce (cellQ V0 c ⟨5 + k.val, by omega⟩) (cellP V0 c ⟨5 + k.val, by omega⟩) * cellO V0 c := by
  rw [sum_classes]
  refine Finset.sum_congr rfl fun c _ => Finset.sum_congr rfl fun k _ => ?_
  obtain ⟨b, a, i, j⟩ := c
  unfold res_main_v494 res_main_v493
  pointwise
  rfl

/-- The reference's second result. -/
theorem loss_apply : (shapeCast _ (addf (addf (addf (addf (addf (addf (Host.divf (Host.reduceAdd (mulf (mulf (res_main_v419 V0) (res_main_v419 V0)) (res_main_v166 V0)) (constant (F := Ideal) S_ .f32 0x00000000#32) reducesTo_S16x3x26x26_S_d0_1_2_3 h_S_) (res_main_v412 V0)) (Host.divf (Host.reduceAdd (mulf (mulf (res_main_v428 V0) (res_main_v428 V0)) (res_main_v166 V0)) (constant (F := Ideal) S_ .f32 0x00000000#32) reducesTo_S16x3x26x26_S_d0_1_2_3 h_S_) (res_main_v412 V0))) (Host.divf (Host.reduceAdd (mulf (mulf (res_main_v437 V0) (res_main_v437 V0)) (res_main_v166 V0)) (constant (F := Ideal) S_ .f32 0x00000000#32) reducesTo_S16x3x26x26_S_d0_1_2_3 h_S_) (res_main_v412 V0))) (Host.divf (Host.reduceAdd (mulf (mulf (res_main_v446 V0) (res_main_v446 V0)) (res_main_v166 V0)) (constant (F := Ideal) S_ .f32 0x00000000#32) reducesTo_S16x3x26x26_S_d0_1_2_3 h_S_) (res_main_v412 V0))) (mulf (constant (F := Ideal) S_ .f32 0x3F800000#32) (Host.divf (Host.reduceAdd (mulf (Host.negf (addf (mulf (res_main_v454 V0) (maximumf (Host.log (res_main_v452 V0)) (broadcastInDim S16x3x26x26 ![] bcast_S_S16x3x26x26 (constant (F := Ideal) S_ .f32 0xC2C80000#32)))) (mulf (subf (broadcastInDim S16x3x26x26 ![] bcast_S_S16x3x26x26 (constant (F := Ideal) S_ .f32 0x3F800000#32)) (res_main_v454 V0)) (maximumf (Host.log (subf (broadcastInDim S16x3x26x26 ![] bcast_S_S16x3x26x26 (constant (F := Ideal) S_ .f32 0x3F800000#32)) (res_main_v452 V0))) (broadcastInDim S16x3x26x26 ![] bcast_S_S16x3x26x26 (constant (F := Ideal) S_ .f32 0xC2C80000#32)))))) (res_main_v166 V0)) (constant (F := Ideal) S_ .f32 0x00000000#32) reducesTo_S16x3x26x26_S_d0_1_2_3 h_S_) (res_main_v412 V0)))) (mulf (constant (F := Ideal) S_ .f32 0x42C80000#32) (Host.divf (Host.reduceAdd (mulf (Host.negf (addf (mulf (res_main_v475 V0) (maximumf (Host.log (res_main_v473 V0)) (broadcastInDim S16x3x26x26 ![] bcast_S_S16x3x26x26 (constant (F := Ideal) S_ .f32 0xC2C80000#32)))) (mulf (subf (broadcastInDim S16x3x26x26 ![] bcast_S_S16x3x26x26 (constant (F := Ideal) S_ .f32 0x3F800000#32)) (res_main_v475 V0)) (maximumf (Host.log (subf (broadcastInDim S16x3x26x26 ![] bcast_S_S16x3x26x26 (constant (F := Ideal) S_ .f32 0x3F800000#32)) (res_main_v473 V0))) (broadcastInDim S16x3x26x26 ![] bcast_S_S16x3x26x26 (constant (F := Ideal) S_ .f32 0xC2C80000#32)))))) (res_main_v235 V0)) (constant (F := Ideal) S_ .f32 0x00000000#32) reducesTo_S16x3x26x26_S_d0_1_2_3 h_S_) (maximumf (Host.reduceAdd (res_main_v235 V0) (constant (F := Ideal) S_ .f32 0x00000000#32) reducesTo_S16x3x26x26_S_d0_1_2_3 h_S_) (constant (F := Ideal) S_ .f32 0x3F800000#32))))) (Host.divf (Host.reduceAdd (mulf (Host.negf (addf (mulf (res_main_v494 V0) (maximumf (Host.log (res_main_v493 V0)) (broadcastInDim S16x3x26x26x80 ![] bcast_S_S16x3x26x26x80 (constant (F := Ideal) S_ .f32 0xC2C80000#32)))) (mulf (subf (broadcastInDim S16x3x26x26x80 ![] bcast_S_S16x3x26x26x80 (constant (F := Ideal) S_ .f32 0x3F800000#32)) (res_main_v494 V0)) (maximumf (Host.log (subf (broadcastInDim S16x3x26x26x80 ![] bcast_S_S16x3x26x26x80 (constant (F := Ideal) S_ .f32 0x3F800000#32)) (res_main_v493 V0))) (broadcastInDim S16x3x26x26x80 ![] bcast_S_S16x3x26x26x80 (constant (F := Ideal) S_ .f32 0xC2C80000#32)))))) (broadcastInDim S16x3x26x26x80 ![0, 1, 2, 3, 4] bcast_S16x3x26x26x1_S16x3x26x26x80_0_1_2_3_4 (broadcastInDim S16x3x26x26x1 ![0, 1, 2, 3] bcast_S16x3x26x26_S16x3x26x26x1_0_1_2_3 (res_main_v166 V0)))) (constant (F := Ideal) S_ .f32 0x00000000#32) reducesTo_S16x3x26x26x80_S_d0_1_2_3_4 h_S_) (mulf (res_main_v412 V0) (constant (F := Ideal) S_ .f32 0x42A00000#32)))) shapeCasts_S_S1x1 : FVec Ideal S1x1 .f32) (ix2 0 0)
    = Cert.Yolo.lossCells (cellP V0) (cellQ V0) (cellO V0) (cellN V0) := by
  clean_types
  pointwise
  rw [sq0_at, sq1_at, sq2_at, sq3_at, obj_at, noobj_at, cls_at, v412_at, sum_cells]
  unfold Cert.Yolo.lossCells
  rw [one_mul]
  rfl

end Cert.ReferenceIdeal.Value
end
-- ==== Proof.Bounds.lean ====
/-
  The cross-entropies of a logistic value are numbers, none negative, and a division by a number spreads over a sum of such.
-/
module

public import proofs.«01_k».proof.Proof.LossCells

@[expose] public section

noncomputable section

namespace Cert.Yolo

open Idealize.ShloMosaic

/-- The logistic function's values lie between 0 and 1. -/
theorem sig_real (x : EReal) : ∃ r : ℝ, sig x = (r : EReal) ∧ 0 ≤ r ∧ r ≤ 1 := by
  induction x using EReal.rec with
  | bot =>
    refine ⟨0, ?_, le_refl _, zero_le_one⟩
    unfold sig
    show Ideal.div 1 (1 + Ideal.exp (-⊥)) = _
    rw [EReal.neg_bot]
    show Ideal.div 1 (1 + ⊤) = _
    rw [EReal.add_top_of_ne_bot (by decide)]
    unfold Ideal.div
    rw [if_neg (by decide), EReal.inv_top, mul_zero]
    rfl
  | coe r =>
    have hp := Real.exp_pos (-r)
    refine ⟨(1 + Real.exp (-r))⁻¹, ?_, by positivity, inv_le_one_of_one_le₀ (by linarith)⟩
    unfold sig
    rw [← EReal.coe_neg]
    show Ideal.div 1 (1 + ((Real.exp (-r) : ℝ) : EReal)) = _
    rw [← EReal.coe_one, ← EReal.coe_add]
    unfold Ideal.div
    rw [if_neg (by exact_mod_cast (by linarith : (1 + Real.exp (-r)) ≠ 0)), ← EReal.coe_inv, ← EReal.coe_mul, one_mul]
  | top =>
    refine ⟨1, ?_, zero_le_one, le_refl _⟩
    unfold sig
    rw [EReal.neg_top]
    show Ideal.div 1 (1 + 0) = _
    rw [add_zero]
    unfold Ideal.div
    rw [if_neg one_ne_zero, one_mul, ← EReal.coe_one, ← EReal.coe_inv, inv_one]

/-- The least logarithm's value. -/
theorem logMin_eq : logMin = ((-100 : ℝ) : EReal) := by
  unfold logMin
  simp [Ideal.ofBits, Ideal.ieee, -EReal.coe_mul, -EReal.coe_neg]
  norm_num

/-- A capped logarithm of a number up to 1 is a number, not positive. -/
theorem capped (t : ℝ) (h : t ≤ 1) : ∃ r : ℝ, 0 - max (Ideal.log (t : EReal)) logMin = (r : EReal) ∧ 0 ≤ r := by
  rw [logMin_eq]
  have e : Ideal.log (t : EReal) = if t ≤ 0 then ⊥ else ((Real.log t : ℝ) : EReal) := rfl
  rw [e]
  split_ifs with h0
  · exact ⟨100, by rw [max_eq_right bot_le, zero_sub, ← EReal.coe_neg, neg_neg], by norm_num⟩
  · have hl : Real.log t ≤ 0 := Real.log_nonpos (by linarith) h
    refine ⟨-max (Real.log t) (-100), ?_, ?_⟩
    · rw [zero_sub, ← EReal.coe_strictMono.monotone.map_max, ← EReal.coe_neg]
    · rw [neg_nonneg]
      exact max_le hl (by norm_num)

/-- The cross-entropy with 1 is a number, not negative. -/
theorem bceP_real (x : EReal) : ∃ r : ℝ, bceP (sig x) = (r : EReal) ∧ 0 ≤ r := by
  obtain ⟨s, hs, _, h1⟩ := sig_real x
  unfold bceP
  rw [hs]
  exact capped s h1

/-- The cross-entropy with 0 is a number, not negative. -/
theorem bceN_real (x : EReal) : ∃ r : ℝ, bceN (sig x) = (r : EReal) ∧ 0 ≤ r := by
  obtain ⟨s, hs, h0, _⟩ := sig_real x
  unfold bceN
  rw [hs, ← EReal.coe_one, ← EReal.coe_sub]
  exact capped (1 - s) (by linarith)

/-- The cross-entropy with a target 1. -/
theorem bce_one (s : EReal) : bce 1 s = bceP s := by
  unfold bce bceP
  rw [one_mul, show (1 : EReal) - 1 = 0 by rw [← EReal.coe_one, ← EReal.coe_sub, sub_self, EReal.coe_zero], zero_mul, add_zero, zero_sub]

/-- The cross-entropy with a target 0. -/
theorem bce_zero (s : EReal) : bce 0 s = bceN s := by
  unfold bce bceN
  rw [zero_mul, sub_zero, one_mul, zero_add, zero_sub]

/-- A square is not negative. -/
theorem sq_nonneg' (x : EReal) : 0 ≤ x * x := by
  rcases le_total 0 x with h | h
  · exact mul_nonneg h h
  · rw [← neg_mul_neg]
    have h' : 0 ≤ -x := by rwa [EReal.neg_nonneg]
    exact mul_nonneg h' h'

/-- Dividing five sums, none negative, by a number that is not 0 is dividing their sum. -/
theorem div_five (a b c d e n : EReal) (ha : 0 ≤ a) (hb : 0 ≤ b) (hc : 0 ≤ c) (hd : 0 ≤ d) (he : 0 ≤ e) (hn : n ≠ 0) :
    Ideal.div a n + Ideal.div b n + Ideal.div c n + Ideal.div d n + 1 * Ideal.div e n = Ideal.div (a + b + c + d + e) n := by
  unfold Ideal.div
  simp only [if_neg hn, one_mul]
  rw [EReal.right_distrib_of_nonneg (add_nonneg (add_nonneg (add_nonneg ha hb) hc) hd) he, EReal.right_distrib_of_nonneg (add_nonneg (add_nonneg ha hb) hc) hd,
    EReal.right_distrib_of_nonneg (add_nonneg ha hb) hc, EReal.right_distrib_of_nonneg ha hb]

/-- A sum of numbers as an extended real. -/
theorem coe_sum (f : Cell → ℝ) : ∑ c, (f c : EReal) = ((∑ c, f c : ℝ) : EReal) := by
  induction (Finset.univ : Finset Cell) using Finset.induction_on with
  | empty => simp
  | insert a s ha ih => rw [Finset.sum_insert ha, Finset.sum_insert ha, ih, EReal.coe_add]

open Classical in
/-- A sum of numbers over the cells that are not taken: the whole less the part taken. -/
theorem sum_rest (r : Cell → ℝ) (K : Cell → Prop) :
    ∑ c, (if K c then (0 : EReal) else (r c : EReal)) = ∑ c, (r c : EReal) - ∑ c, (if K c then (r c : EReal) else 0) := by
  have e1 : ∀ c, (if K c then (0 : EReal) else (r c : EReal)) = ((if K c then 0 else r c : ℝ) : EReal) := fun c => by split_ifs <;> simp
  have e2 : ∀ c, (if K c then (r c : EReal) else 0) = ((if K c then r c else 0 : ℝ) : EReal) := fun c => by split_ifs <;> simp
  simp only [e1, e2]
  rw [coe_sum, coe_sum, coe_sum, ← EReal.coe_sub, ← Finset.sum_sub_distrib]
  congr 1
  refine Finset.sum_congr rfl fun c _ => ?_
  split_ifs <;> simp

end Cert.Yolo

end
-- ==== Proof.LossTerm.lean ====
/-
  The loss that the body stores at the last grid point, as one value: the lines of its last branch, each a function of the
  targets' rows, the anchors, the stride, the three gathered slabs and the sum over all cells.
-/
module

public import proofs.«01_k».proof.Proof.Blocks
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-- Row 0 of the transposed targets, as the body loads it. -/
abbrev ldT0 (x1 : Vec F S6x128 .f32) : Vec F S1x128 .f32 :=
  View.ld x1 (Rect.unit (s := S6x128) ![0, 0] S1x128.size inb_S6x128_S1x128_0_0)
/-- Row 1 of the transposed targets, as the body loads it. -/
abbrev ldT1 (x1 : Vec F S6x128 .f32) : Vec F S1x128 .f32 :=
  View.ld x1 (Rect.unit (s := S6x128) ![1, 0] S1x128.size inb_S6x128_S1x128_1_0)
/-- Row 2 of the transposed targets, as the body loads it. -/
abbrev ldT2 (x1 : Vec F S6x128 .f32) : Vec F S1x128 .f32 :=
  View.ld x1 (Rect.unit (s := S6x128) ![2, 0] S1x128.size inb_S6x128_S1x128_2_0)
/-- Row 3 of the transposed targets, as the body loads it. -/
abbrev ldT3 (x1 : Vec F S6x128 .f32) : Vec F S1x128 .f32 :=
  View.ld x1 (Rect.unit (s := S6x128) ![3, 0] S1x128.size inb_S6x128_S1x128_3_0)
/-- Row 4 of the transposed targets, as the body loads it. -/
abbrev ldT4 (x1 : Vec F S6x128 .f32) : Vec F S1x128 .f32 :=
  View.ld x1 (Rect.unit (s := S6x128) ![4, 0] S1x128.size inb_S6x128_S1x128_4_0)
/-- Row 5 of the transposed targets, as the body loads it. -/
abbrev ldT5 (x1 : Vec F S6x128 .f32) : Vec F S1x128 .f32 :=
  View.ld x1 (Rect.unit (s := S6x128) ![5, 0] S1x128.size inb_S6x128_S1x128_5_0)

section

/-- The row numbers of a square of targets. -/
abbrev rowIx : IVec S128x128 32 := iota .tc S128x128 32 [0] iota_S128x128_d0_w32
/-- The column numbers of a square of targets. -/
abbrev colIx : IVec S128x128 32 := iota .tc S128x128 32 [1] iota_S128x128_d1_w32

/-- The targets' images. -/
def k3 (x1 : Vec F S6x128 .f32) : IVec S1x128 32 :=
  k0_pay72 (ldT0 x1)
/-- The boxes' widths. -/
def k20 (x1 : Vec F S6x128 .f32) (x3 : Vec F S1x1 .f32) : FVec F S1x128 .f32 :=
  k0_pay75 (ldS x3) (ldT2 x1) (ldT4 x1)
/-- The boxes' heights. -/
def k21 (x1 : Vec F S6x128 .f32) (x3 : Vec F S1x1 .f32) : FVec F S1x128 .f32 :=
  k0_pay76 (ldS x3) (ldT3 x1) (ldT5 x1)
/-- The boxes' centres, across. -/
def k24 (x1 : Vec F S6x128 .f32) (x3 : Vec F S1x1 .f32) : FVec F S1x128 .f32 :=
  k0_pay77 (ldS x3) (ldT2 x1) (ldT4 x1)
/-- The boxes' centres, down. -/
def k27 (x1 : Vec F S6x128 .f32) (x3 : Vec F S1x1 .f32) : FVec F S1x128 .f32 :=
  k0_pay78 (ldS x3) (ldT3 x1) (ldT5 x1)
/-- The cells' columns after the first clamp. -/
def k35 (x1 : Vec F S6x128 .f32) (x3 : Vec F S1x1 .f32) : IVec S1x128 32 :=
  k0_pay81 (ldS x3) (ldT2 x1) (ldT3 x1) (ldT4 x1) (ldT5 x1)
/-- Where the second clamp acts. -/
def k37 (x1 : Vec F S6x128 .f32) (x3 : Vec F S1x1 .f32) : IVec S1x128 1 :=
  k0_pay82 (ldS x3) (ldT2 x1) (ldT3 x1) (ldT4 x1) (ldT5 x1)
/-- The cells' rows after the second clamp. -/
def k39 (x1 : Vec F S6x128 .f32) (x3 : Vec F S1x1 .f32) : IVec S1x128 32 :=
  k0_pay83 (ldS x3) (ldT2 x1) (ldT3 x1) (ldT4 x1) (ldT5 x1)
/-- The targets' cells. -/
def k56 (x1 : Vec F S6x128 .f32) (x3 : Vec F S1x1 .f32) : IVec S1x128 32 :=
  k0_pay84 (k35 x1 x3) (k37 x1 x3) (k39 x1 x3)
/-- The diagonal. -/
def k287 : IVec S128x128 1 :=
  k0_pay4
/-- The targets' classes. -/
def k290 (x1 : Vec F S6x128 .f32) : IVec S1x128 32 :=
  k0_pay5 (ldT1 x1)
/-- The overlaps with anchor 0. -/
def k305 (x1 : Vec F S6x128 .f32) (x2 : Vec F S3x2 .f32) (x3 : Vec F S1x1 .f32) : FVec F S1x128 .f32 :=
  k0_pay6 (ldS x3) (k20 x1 x3) (k21 x1 x3) (ldA00 x2) (ldA01 x2)
/-- The overlaps with anchor 1. -/
def k320 (x1 : Vec F S6x128 .f32) (x2 : Vec F S3x2 .f32) (x3 : Vec F S1x1 .f32) : FVec F S1x128 .f32 :=
  k0_pay7 (ldS x3) (k20 x1 x3) (k21 x1 x3) (ldA10 x2) (ldA11 x2)
/-- The intersections with anchor 2. -/
def k329 (x1 : Vec F S6x128 .f32) (x2 : Vec F S3x2 .f32) (x3 : Vec F S1x1 .f32) : FVec F S1x128 .f32 :=
  k0_pay10 (ldS x3) (k20 x1 x3) (k21 x1 x3) (ldA20 x2) (ldA21 x2)
/-- The area of anchor 2. -/
def k330 (x2 : Vec F S3x2 .f32) (x3 : Vec F S1x1 .f32) : F .f32 :=
  k0_pay11 (ldS x3) (ldA20 x2) (ldA21 x2)
/-- The overlaps with anchor 2. -/
def k335 (x1 : Vec F S6x128 .f32) (x2 : Vec F S3x2 .f32) (x3 : Vec F S1x1 .f32) : FVec F S1x128 .f32 :=
  k0_pay12 (k20 x1 x3) (k21 x1 x3) (k329 x1 x2 x3) (k330 x2 x3)
/-- The best anchors. -/
def k343 (x1 : Vec F S6x128 .f32) (x2 : Vec F S3x2 .f32) (x3 : Vec F S1x1 .f32) : IVec S1x128 32 :=
  k0_pay13 (k20 x1 x3) (k21 x1 x3) (k305 x1 x2 x3) (k320 x1 x2 x3) (k329 x1 x2 x3) (k330 x2 x3)
/-- The weights: 1 for the last target of a slot. -/
def k371 (x1 : Vec F S6x128 .f32) (x2 : Vec F S3x2 .f32) (x3 : Vec F S1x1 .f32) : FVec F S1x128 .f32 :=
  k0_pay14 (k3 x1) (k20 x1 x3) (k21 x1 x3) (k56 x1 x3) rowIx colIx k287 (k305 x1 x2 x3) (k320 x1 x2 x3) (k329 x1 x2 x3) (k330 x2 x3)
/-- The sum of the weights. -/
def k375 (x1 : Vec F S6x128 .f32) (x2 : Vec F S3x2 .f32) (x3 : Vec F S1x1 .f32) : F .f32 :=
  k0_pay15 (k3 x1) (k20 x1 x3) (k21 x1 x3) (k56 x1 x3) rowIx colIx k287 (k305 x1 x2 x3) (k320 x1 x2 x3) (k329 x1 x2 x3) (k330 x2 x3)
/-- The number of slots, at least 1. -/
def k376 (x1 : Vec F S6x128 .f32) (x2 : Vec F S3x2 .f32) (x3 : Vec F S1x1 .f32) : F .f32 :=
  k0_pay16 (k375 x1 x2 x3) (Scalar.ofBits .f32 0x3F800000#32)
/-- The best anchor's width, first term. -/
def k394 (x1 : Vec F S6x128 .f32) (x2 : Vec F S3x2 .f32) (x3 : Vec F S1x1 .f32) : FVec F S1x128 .f32 :=
  k0_pay18 (ldS x3) (k343 x1 x2 x3) (ldA00 x2)
/-- The best anchor's height, first term. -/
def k400 (x1 : Vec F S6x128 .f32) (x2 : Vec F S3x2 .f32) (x3 : Vec F S1x1 .f32) : FVec F S1x128 .f32 :=
  k0_pay19 (ldS x3) (k343 x1 x2 x3) (ldA01 x2)
/-- Where the best anchor is 1. -/
def k402 (x1 : Vec F S6x128 .f32) (x2 : Vec F S3x2 .f32) (x3 : Vec F S1x1 .f32) : IVec S1x128 1 :=
  k0_pay20 (k343 x1 x2 x3)
/-- The gathered channels of the best anchor, first two terms. -/
def k409 (x1 : Vec F S6x128 .f32) (x2 : Vec F S3x2 .f32) (x3 : Vec F S1x1 .f32) (g0 : Vec F S1x85x128 .f32) (g1 : Vec F S1x85x128 .f32) : FVec F S85x128 .f32 :=
  k0_pay21 (k343 x1 x2 x3) g0 g1
/-- The width of anchor 1. -/
def k412 (x2 : Vec F S3x2 .f32) (x3 : Vec F S1x1 .f32) : FVec F S1x128 .f32 :=
  k0_pay22 (ldS x3) (ldA10 x2)
/-- A row of zeros. -/
def k413 : FVec F S1x128 .f32 :=
  k0_pay23
/-- The gathered channels of the best anchor. -/
def k430 (x1 : Vec F S6x128 .f32) (x2 : Vec F S3x2 .f32) (x3 : Vec F S1x1 .f32) (g0 : Vec F S1x85x128 .f32) (g1 : Vec F S1x85x128 .f32) (g2 : Vec F S1x85x128 .f32) : FVec F S85x128 .f32 :=
  k0_pay25 (k343 x1 x2 x3) (k409 x1 x2 x3 g0 g1) g2
/-- The centres' fractional parts, across. -/
def k444 (x1 : Vec F S6x128 .f32) (x3 : Vec F S1x1 .f32) : FVec F S1x128 .f32 :=
  k0_pay26 (k24 x1 x3)
/-- The centres' fractional parts, down. -/
def k446 (x1 : Vec F S6x128 .f32) (x3 : Vec F S1x1 .f32) : FVec F S1x128 .f32 :=
  k0_pay27 (k27 x1 x3)
/-- The logarithms of the relative widths. -/
def k450 (x1 : Vec F S6x128 .f32) (x2 : Vec F S3x2 .f32) (x3 : Vec F S1x1 .f32) : FVec F S1x128 .f32 :=
  k0_pay28 (ldS x3) (k20 x1 x3) (k343 x1 x2 x3) (k394 x1 x2 x3) (k402 x1 x2 x3) (k412 x2 x3) k413 (ldA20 x2)
/-- The logarithms of the relative heights. -/
def k454 (x1 : Vec F S6x128 .f32) (x2 : Vec F S3x2 .f32) (x3 : Vec F S1x1 .f32) : FVec F S1x128 .f32 :=
  k0_pay29 (ldS x3) (k21 x1 x3) (k343 x1 x2 x3) (k400 x1 x2 x3) (k402 x1 x2 x3) (ldA11 x2) (ldA21 x2)
/-- The first gathered channel, negated. -/
def k455 (x1 : Vec F S6x128 .f32) (x2 : Vec F S3x2 .f32) (x3 : Vec F S1x1 .f32) (g0 : Vec F S1x85x128 .f32) (g1 : Vec F S1x85x128 .f32) (g2 : Vec F S1x85x128 .f32) : FVec F S1x128 .f32 :=
  k0_pay30 (k343 x1 x2 x3) (k409 x1 x2 x3 g0 g1) g2
/-- A row of zeros. -/
def k456 : FVec F S1x128 .f32 :=
  k0_pay31
/-- The loss of the first coordinate. -/
def k469 (x1 : Vec F S6x128 .f32) (x2 : Vec F S3x2 .f32) (x3 : Vec F S1x1 .f32) (g0 : Vec F S1x85x128 .f32) (g1 : Vec F S1x85x128 .f32) (g2 : Vec F S1x85x128 .f32) : F .f32 :=
  k0_pay32 (k371 x1 x2 x3) (k444 x1 x3) (k455 x1 x2 x3 g0 g1 g2) k456
/-- The loss of the second coordinate. -/
def k484 (x1 : Vec F S6x128 .f32) (x2 : Vec F S3x2 .f32) (x3 : Vec F S1x1 .f32) (g0 : Vec F S1x85x128 .f32) (g1 : Vec F S1x85x128 .f32) (g2 : Vec F S1x85x128 .f32) : F .f32 :=
  k0_pay33 (k371 x1 x2 x3) (k430 x1 x2 x3 g0 g1 g2) (k446 x1 x3)
/-- The loss of the widths. -/
def k492 (x1 : Vec F S6x128 .f32) (x2 : Vec F S3x2 .f32) (x3 : Vec F S1x1 .f32) (g0 : Vec F S1x85x128 .f32) (g1 : Vec F S1x85x128 .f32) (g2 : Vec F S1x85x128 .f32) : F .f32 :=
  k0_pay34 (k371 x1 x2 x3) (k430 x1 x2 x3 g0 g1 g2) (k450 x1 x2 x3)
/-- The loss of the heights. -/
def k500 (x1 : Vec F S6x128 .f32) (x2 : Vec F S3x2 .f32) (x3 : Vec F S1x1 .f32) (g0 : Vec F S1x85x128 .f32) (g1 : Vec F S1x85x128 .f32) (g2 : Vec F S1x85x128 .f32) : F .f32 :=
  k0_pay35 (k371 x1 x2 x3) (k430 x1 x2 x3 g0 g1 g2) (k454 x1 x2 x3)
/-- The exponential of the negated objectness. -/
def k504 (x1 : Vec F S6x128 .f32) (x2 : Vec F S3x2 .f32) (x3 : Vec F S1x1 .f32) (g0 : Vec F S1x85x128 .f32) (g1 : Vec F S1x85x128 .f32) (g2 : Vec F S1x85x128 .f32) : FVec F S1x128 .f32 :=
  k0_pay36 (k430 x1 x2 x3 g0 g1 g2)
/-- A row of ones. -/
def k505 : FVec F S1x128 .f32 :=
  k0_pay37
/-- The loss of the objectness. -/
def k518 (x1 : Vec F S6x128 .f32) (x2 : Vec F S3x2 .f32) (x3 : Vec F S1x1 .f32) (g0 : Vec F S1x85x128 .f32) (g1 : Vec F S1x85x128 .f32) (g2 : Vec F S1x85x128 .f32) : F .f32 :=
  k0_pay38 (k371 x1 x2 x3) (k504 x1 x2 x3 g0 g1 g2) k505
/-- The classes' cross-entropies. -/
def k549 (x1 : Vec F S6x128 .f32) (x2 : Vec F S3x2 .f32) (x3 : Vec F S1x1 .f32) (g0 : Vec F S1x85x128 .f32) (g1 : Vec F S1x85x128 .f32) (g2 : Vec F S1x85x128 .f32) : FVec F S80x128 .f32 :=
  k0_pay39 (k290 x1) (k430 x1 x2 x3 g0 g1 g2)
/-- The weights, for every class. -/
def k550 (x1 : Vec F S6x128 .f32) (x2 : Vec F S3x2 .f32) (x3 : Vec F S1x1 .f32) : FVec F S80x128 .f32 :=
  k0_pay40 (k371 x1 x2 x3)
/-- The loss of the classes. -/
def k555 (x1 : Vec F S6x128 .f32) (x2 : Vec F S3x2 .f32) (x3 : Vec F S1x1 .f32) (g0 : Vec F S1x85x128 .f32) (g1 : Vec F S1x85x128 .f32) (g2 : Vec F S1x85x128 .f32) : F .f32 :=
  k0_pay41 (k549 x1 x2 x3 g0 g1 g2) (k550 x1 x2 x3)
/-- Where anchor 0 is active. -/
def k560 (x1 : Vec F S6x128 .f32) (x2 : Vec F S3x2 .f32) (x3 : Vec F S1x1 .f32) : IVec S1x128 1 :=
  k0_pay42 (k305 x1 x2 x3) (k343 x1 x2 x3)
/-- The keys of anchor 0. -/
def k570 (x1 : Vec F S6x128 .f32) (x2 : Vec F S3x2 .f32) (x3 : Vec F S1x1 .f32) : FVec F S1x128 .f32 :=
  k0_pay43 (k3 x1) (k56 x1 x3) (k305 x1 x2 x3) (k343 x1 x2 x3)
/-- Where anchor 1 is active. -/
def k575 (x1 : Vec F S6x128 .f32) (x2 : Vec F S3x2 .f32) (x3 : Vec F S1x1 .f32) : IVec S1x128 1 :=
  k0_pay44 (k320 x1 x2 x3) (k343 x1 x2 x3)
/-- The keys of anchor 1. -/
def k585 (x1 : Vec F S6x128 .f32) (x2 : Vec F S3x2 .f32) (x3 : Vec F S1x1 .f32) : FVec F S1x128 .f32 :=
  k0_pay45 (k3 x1) (k56 x1 x3) (k320 x1 x2 x3) (k343 x1 x2 x3)
/-- Where anchor 2 is active. -/
def k590 (x1 : Vec F S6x128 .f32) (x2 : Vec F S3x2 .f32) (x3 : Vec F S1x1 .f32) : IVec S1x128 1 :=
  k0_pay46 (k335 x1 x2 x3) (k343 x1 x2 x3)
/-- Three times the image. -/
def k592 (x1 : Vec F S6x128 .f32) : IVec S1x128 32 :=
  k0_pay47 (k3 x1)
/-- A row of twos. -/
def k593 : IVec S1x128 32 :=
  k0_pay48
/-- The keys of anchor 2. -/
def k600 (x1 : Vec F S6x128 .f32) (x2 : Vec F S3x2 .f32) (x3 : Vec F S1x1 .f32) : FVec F S1x128 .f32 :=
  k0_pay49 (k56 x1 x3) (k590 x1 x2 x3) (k592 x1) k593
/-- The keys of anchor 0 as a column. -/
def k606 (x1 : Vec F S6x128 .f32) (x2 : Vec F S3x2 .f32) (x3 : Vec F S1x1 .f32) : FVec F S128x1 .f32 :=
  k0_pay50 k287 (k570 x1 x2 x3)
/-- The keys of anchor 1 as a column. -/
def k612 (x1 : Vec F S6x128 .f32) (x2 : Vec F S3x2 .f32) (x3 : Vec F S1x1 .f32) : FVec F S128x1 .f32 :=
  k0_pay51 k287 (k585 x1 x2 x3)
/-- The keys of anchor 2 as a column. -/
def k618 (x1 : Vec F S6x128 .f32) (x2 : Vec F S3x2 .f32) (x3 : Vec F S1x1 .f32) : FVec F S128x1 .f32 :=
  k0_pay52 (k56 x1 x3) k287 (k590 x1 x2 x3) (k592 x1) k593
/-- Earlier targets with the key, anchor 0. -/
def k632 (x1 : Vec F S6x128 .f32) (x2 : Vec F S3x2 .f32) (x3 : Vec F S1x1 .f32) : IVec S1x128 1 :=
  k0_pay53 rowIx colIx k287 (k570 x1 x2 x3)
/-- Earlier targets with the key, anchor 1 against 0. -/
def k637 (x1 : Vec F S6x128 .f32) (x2 : Vec F S3x2 .f32) (x3 : Vec F S1x1 .f32) : IVec S128x128 1 :=
  k0_pay54 rowIx colIx k287 (k570 x1 x2 x3) (k585 x1 x2 x3)
/-- A square of ones. -/
def k638 : FVec F S128x128 .f32 :=
  k0_pay55
/-- The first active targets of anchor 0. -/
def k663 (x1 : Vec F S6x128 .f32) (x2 : Vec F S3x2 .f32) (x3 : Vec F S1x1 .f32) : FVec F S1x128 .f32 :=
  k0_pay56 rowIx colIx (k560 x1 x2 x3) (k570 x1 x2 x3) (k618 x1 x2 x3) (k632 x1 x2 x3) (k637 x1 x2 x3) (Scalar.ofBits .f32 0x00000000#32) k638
/-- Their number. -/
def k668 (x1 : Vec F S6x128 .f32) (x2 : Vec F S3x2 .f32) (x3 : Vec F S1x1 .f32) : F .f32 :=
  k0_pay57 rowIx colIx (k560 x1 x2 x3) (k570 x1 x2 x3) (k618 x1 x2 x3) (k632 x1 x2 x3) (k637 x1 x2 x3) (Scalar.ofBits .f32 0x00000000#32) k638
/-- One less the objectness of anchor 0. -/
def k680 (g0 : Vec F S1x85x128 .f32) : FVec F S1x128 .f32 :=
  k0_pay58 g0
/-- Their cross-entropies. -/
def k691 (x1 : Vec F S6x128 .f32) (x2 : Vec F S3x2 .f32) (x3 : Vec F S1x1 .f32) (g0 : Vec F S1x85x128 .f32) : F .f32 :=
  k0_pay59 (k663 x1 x2 x3) (k680 g0)
/-- Earlier targets with the key, anchor 1. -/
def k718 (x1 : Vec F S6x128 .f32) (x2 : Vec F S3x2 .f32) (x3 : Vec F S1x1 .f32) : IVec S1x128 1 :=
  k0_pay60 rowIx colIx (k585 x1 x2 x3) (k606 x1 x2 x3) (k612 x1 x2 x3)
/-- Earlier targets with the key, anchor 2 against 1. -/
def k723 (x1 : Vec F S6x128 .f32) (x2 : Vec F S3x2 .f32) (x3 : Vec F S1x1 .f32) : IVec S128x128 1 :=
  k0_pay61 rowIx colIx (k585 x1 x2 x3) (k618 x1 x2 x3)
/-- A square of ones. -/
def k724 : FVec F S128x128 .f32 :=
  k0_pay62
/-- A square of zeros. -/
def k725 : FVec F S128x128 .f32 :=
  k0_pay63
/-- The number of first active targets of anchors 0 and 1. -/
def k741 (x1 : Vec F S6x128 .f32) (x2 : Vec F S3x2 .f32) (x3 : Vec F S1x1 .f32) : F .f32 :=
  k0_pay65 (k575 x1 x2 x3) (k668 x1 x2 x3) (k718 x1 x2 x3) (k723 x1 x2 x3) k724 k725
/-- Their cross-entropies. -/
def k764 (x1 : Vec F S6x128 .f32) (x2 : Vec F S3x2 .f32) (x3 : Vec F S1x1 .f32) (g0 : Vec F S1x85x128 .f32) (g1 : Vec F S1x85x128 .f32) : F .f32 :=
  k0_pay66 (k575 x1 x2 x3) (k691 x1 x2 x3 g0) (k718 x1 x2 x3) (k723 x1 x2 x3) k724 k725 g1
/-- A row of false. -/
def k765 : IVec S1x128 1 :=
  k0_pay67
/-- Equal keys, anchor 0 against 2. -/
def k768 (x1 : Vec F S6x128 .f32) (x2 : Vec F S3x2 .f32) (x3 : Vec F S1x1 .f32) : IVec S128x128 1 :=
  k0_pay68 (k600 x1 x2 x3) (k606 x1 x2 x3)
/-- The first active targets of anchor 2. -/
def k809 (x1 : Vec F S6x128 .f32) (x2 : Vec F S3x2 .f32) (x3 : Vec F S1x1 .f32) : FVec F S1x128 .f32 :=
  k0_pay69 rowIx colIx (k590 x1 x2 x3) (k600 x1 x2 x3) (k612 x1 x2 x3) (k618 x1 x2 x3) k765 (k768 x1 x2 x3)
/-- Their number. -/
def k812 (x1 : Vec F S6x128 .f32) (x2 : Vec F S3x2 .f32) (x3 : Vec F S1x1 .f32) : FVec F S1x1x1 .f32 :=
  k0_pay70 rowIx colIx (k590 x1 x2 x3) (k600 x1 x2 x3) (k612 x1 x2 x3) (k618 x1 x2 x3) k765 (k768 x1 x2 x3)
/-- The loss. -/
def lossVal (x1 : Vec F S6x128 .f32) (x2 : Vec F S3x2 .f32) (x3 : Vec F S1x1 .f32) (g0 : Vec F S1x85x128 .f32) (g1 : Vec F S1x85x128 .f32) (g2 : Vec F S1x85x128 .f32) (ns : F .f32) : F .f32 :=
  k0_pay71 (k376 x1 x2 x3) (k469 x1 x2 x3 g0 g1 g2) (k484 x1 x2 x3 g0 g1 g2) (k492 x1 x2 x3 g0 g1 g2) (k500 x1 x2 x3 g0 g1 g2) (k518 x1 x2 x3 g0 g1 g2) (k555 x1 x2 x3 g0 g1 g2) (k741 x1 x2 x3) (k764 x1 x2 x3 g0 g1) (k809 x1 x2 x3) (k812 x1 x2 x3) g2 ns
end

/-- The image a grid point works on, against every target's. -/
abbrev imgEq (i : grid0.Coords) (x1 : Vec F S6x128 .f32) : IVec S1x128 1 := k0_pay90 (BitVec.ofNat 32 (i 0).val) (k3 x1)
/-- A whole reading of the one-hot scratch. -/
abbrev ldHot (xs0 : Vec F S676x128 .f32) : Vec F S676x128 .f32 :=
  View.ld xs0 (Rect.unit (s := S676x128) ![0, 0] S676x128.size inb_S676x128_S676x128_0_0)
/-- Slab 0 of the gathered channels. -/
abbrev ldG0 (g : Vec F S3x85x128 .f32) : Vec F S1x85x128 .f32 :=
  View.ld g (Rect.unit (s := S3x85x128) ![0, 0, 0] S1x85x128.size inb_S3x85x128_S1x85x128_0_0_0)
/-- Slab 1 of the gathered channels. -/
abbrev ldG1 (g : Vec F S3x85x128 .f32) : Vec F S1x85x128 .f32 :=
  View.ld g (Rect.unit (s := S3x85x128) ![1, 0, 0] S1x85x128.size inb_S3x85x128_S1x85x128_1_0_0)
/-- Slab 2 of the gathered channels. -/
abbrev ldG2 (g : Vec F S3x85x128 .f32) : Vec F S1x85x128 .f32 :=
  View.ld g (Rect.unit (s := S3x85x128) ![2, 0, 0] S1x85x128.size inb_S3x85x128_S1x85x128_2_0_0)
/-- Slab 0 of the gathered channels after a point: what it held before, and the point's own image's share. -/
def step0 (im : IVec S1x128 1) (hot : Vec F S676x128 .f32) (x0 : Vec F S1x255x676 .f32) (g : Vec F S3x85x128 .f32) : Vec F S1x85x128 .f32 :=
  k0_pay99 (ldHot hot) im (k0_pay91 (ldX0 x0)) (ldG0 g)
/-- Slab 1 of the gathered channels after a point: what it held before, and the point's own image's share. -/
def step1 (im : IVec S1x128 1) (hot : Vec F S676x128 .f32) (x0 : Vec F S1x255x676 .f32) (g : Vec F S3x85x128 .f32) : Vec F S1x85x128 .f32 :=
  k0_pay107 im (k0_pay105 (ldHot hot) (k0_pay100 (ldX1 x0))) (k0_pay106 (ldG1 g)) (Scalar.ofBits .f32 0#32)
/-- Slab 2 of the gathered channels after a point: what it held before, and the point's own image's share. -/
def step2 (im : IVec S1x128 1) (hot : Vec F S676x128 .f32) (x0 : Vec F S1x255x676 .f32) (g : Vec F S3x85x128 .f32) : Vec F S1x85x128 .f32 :=
  k0_pay1 (ldHot hot) im (k0_pay108 (ldX2 x0)) (ldG2 g)
/-- The sum over the cells after a point: what it was before, and the point's own image's. -/
def stepSum (x0 : Vec F S1x255x676 .f32) (ns : F .f32) : F .f32 :=
  k0_pay3 (k0_pay104 (k0_pay98 (k0_pay92 (ldX0 x0))) (k0_pay100 (ldX1 x0)) k0_pay101) (k0_pay111 (ldX2 x0)) (Scalar.ofBits .f32 3267887104#32) ns
/-- The sum over the cells, as the body loads it. -/
abbrev ldN (x : Vec F S1x1 .f32) : F .f32 :=
  View.ld x (Rect.unit (s := S1x1) ![0, 0] S1x1.size inb_S1x1_S1x1_0_0) (Shape.Idx.first (s := S1x1) (by decide))

/-- At the last point the loss's buffer is left at `lossVal` of the point's blocks and of what the point leaves in the
    accumulators. -/
theorem out7_C (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : ¬cond0_0 i) (hc1 : cond0_1 i)
    (x0 : Vec F S1x255x676 .f32) (x1 : Vec F S6x128 .f32) (x2 : Vec F S3x2 .f32) (x3 : Vec F S1x1 .f32) (xo5 : Vec F S3x85x128 .f32) (xo6 : Vec F S1x1 .f32) (xs0 : Vec F S676x128 .f32) :
    out0_C_7 c i arg1 harg1 arg2 harg2 arg3 harg3 arg4 harg4 arg5 harg5 arg6 harg6 arg7 harg7 arg8 harg8 arg9 harg9 hc0 hc1 x0 x1 x2 x3 xo5 xo6 xs0 = fun _ => lossVal x1 x2 x3 (step0 (imgEq i x1) xs0 x0 xo5) (step1 (imgEq i x1) xs0 x0 xo5) (step2 (imgEq i x1) xs0 x0 xo5) (stepSum x0 (ldN xo6)) := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 xo5 xo6 xs0)]
  unfold kernelRun0_C
  dsimp only
  sl_unfold_words
  rw [View.canon_unit_zero hz2]
  simp only [View.readAt_eq_ld, harg1.read_unread, harg2.read_unread, harg3.read_unread, harg4.read_unread, harg6.read_unread, harg7.read_unread, harg9.read_unread]
  simp (discharger := decide) only [View.readCov_cons_toLoadRect, View.readCov_skip]
  rfl

end Cert.KernelIdeal.Value

end
-- ==== Proof.KernelTargets.lean ====
/-
  The kernel's values of the targets, in the last branch of its body, are the plain functions of `Targets`.
-/
module

public import proofs.«01_k».proof.Proof.LossTerm
public import proofs.«01_k».proof.Proof.LossSpec
public import proofs.«01_k».proof.Proof.PredValue

@[expose] public section

set_option maxRecDepth 16384

noncomputable section

namespace Cert.KernelIdeal.Value

open Cert.KernelIdeal Cert.KernelIdeal.Gen Idealize.ShloMosaic Cert.Yolo

/-- The blocks of targets, anchors and stride hold `T` (transposed), `A` and `S`. -/
structure Holds (x1 : Vec Ideal S6x128 .f32) (x2 : Vec Ideal S3x2 .f32) (x3 : Vec Ideal S1x1 .f32) (T : Tgts) (A : Anch)
    (S : EReal) : Prop where
  /-- The targets' entries. -/
  t : ∀ (r : Fin 6) (p : Fin 128), x1 (ix2 r p) = T (ix2 p r)
  /-- The anchors' entries. -/
  a : ∀ (r : Fin 3) (k : Fin 2), x2 (ix2 r k) = A (ix2 r k)
  /-- The stride. -/
  s : x3 (ix2 0 0) = S

variable {x1 : Vec Ideal S6x128 .f32} {x2 : Vec Ideal S3x2 .f32} {x3 : Vec Ideal S1x1 .f32} {T : Tgts} {A : Anch} {S : EReal}
  (H : Holds x1 x2 x3 T A S) (p : Fin 128)
include H

/-- Row 0 of the targets' block. -/
theorem ldT0_at : ldT0 x1 (ix2 0 p) = T (ix2 p 0) := by
  rw [← H.t]
  show x1 _ = x1 _
  congr 1
  funext a
  apply Fin.ext
  match a with
  | ⟨0, _⟩ => rfl
  | ⟨1, _⟩ => show 0 + 1 * p.val = p.val; omega

/-- Row 1 of the targets' block. -/
theorem ldT1_at : ldT1 x1 (ix2 0 p) = T (ix2 p 1) := by
  rw [← H.t]
  show x1 _ = x1 _
  congr 1
  funext a
  apply Fin.ext
  match a with
  | ⟨0, _⟩ => rfl
  | ⟨1, _⟩ => show 0 + 1 * p.val = p.val; omega

/-- Row 2 of the targets' block. -/
theorem ldT2_at : ldT2 x1 (ix2 0 p) = T (ix2 p 2) := by
  rw [← H.t]
  show x1 _ = x1 _
  congr 1
  funext a
  apply Fin.ext
  match a with
  | ⟨0, _⟩ => rfl
  | ⟨1, _⟩ => show 0 + 1 * p.val = p.val; omega

/-- Row 3 of the targets' block. -/
theorem ldT3_at : ldT3 x1 (ix2 0 p) = T (ix2 p 3) := by
  rw [← H.t]
  show x1 _ = x1 _
  congr 1
  funext a
  apply Fin.ext
  match a with
  | ⟨0, _⟩ => rfl
  | ⟨1, _⟩ => show 0 + 1 * p.val = p.val; omega

/-- Row 4 of the targets' block. -/
theorem ldT4_at : ldT4 x1 (ix2 0 p) = T (ix2 p 4) := by
  rw [← H.t]
  show x1 _ = x1 _
  congr 1
  funext a
  apply Fin.ext
  match a with
  | ⟨0, _⟩ => rfl
  | ⟨1, _⟩ => show 0 + 1 * p.val = p.val; omega

/-- Row 5 of the targets' block. -/
theorem ldT5_at : ldT5 x1 (ix2 0 p) = T (ix2 p 5) := by
  rw [← H.t]
  show x1 _ = x1 _
  congr 1
  funext a
  apply Fin.ext
  match a with
  | ⟨0, _⟩ => rfl
  | ⟨1, _⟩ => show 0 + 1 * p.val = p.val; omega

omit p in
/-- The stride. -/
theorem ldS_at : ldS x3 = S := by
  rw [← H.s]
  show x3 _ = x3 _
  congr 1
  funext a
  apply Fin.ext
  match a with
  | ⟨0, _⟩ => rfl
  | ⟨1, _⟩ => rfl

omit p in
/-- Anchor 0's width. -/
theorem ldA00_at : ldA00 x2 = A (ix2 0 0) := by
  rw [← H.a]
  show x2 _ = x2 _
  congr 1
  funext a
  apply Fin.ext
  match a with
  | ⟨0, _⟩ => rfl
  | ⟨1, _⟩ => rfl

omit p in
/-- Anchor 0's height. -/
theorem ldA01_at : ldA01 x2 = A (ix2 0 1) := by
  rw [← H.a]
  show x2 _ = x2 _
  congr 1
  funext a
  apply Fin.ext
  match a with
  | ⟨0, _⟩ => rfl
  | ⟨1, _⟩ => rfl

omit p in
/-- Anchor 1's width. -/
theorem ldA10_at : ldA10 x2 = A (ix2 1 0) := by
  rw [← H.a]
  show x2 _ = x2 _
  congr 1
  funext a
  apply Fin.ext
  match a with
  | ⟨0, _⟩ => rfl
  | ⟨1, _⟩ => rfl

omit p in
/-- Anchor 1's height. -/
theorem ldA11_at : ldA11 x2 = A (ix2 1 1) := by
  rw [← H.a]
  show x2 _ = x2 _
  congr 1
  funext a
  apply Fin.ext
  match a with
  | ⟨0, _⟩ => rfl
  | ⟨1, _⟩ => rfl

omit p in
/-- Anchor 2's width. -/
theorem ldA20_at : ldA20 x2 = A (ix2 2 0) := by
  rw [← H.a]
  show x2 _ = x2 _
  congr 1
  funext a
  apply Fin.ext
  match a with
  | ⟨0, _⟩ => rfl
  | ⟨1, _⟩ => rfl

omit p in
/-- Anchor 2's height. -/
theorem ldA21_at : ldA21 x2 = A (ix2 2 1) := by
  rw [← H.a]
  show x2 _ = x2 _
  congr 1
  funext a
  apply Fin.ext
  match a with
  | ⟨0, _⟩ => rfl
  | ⟨1, _⟩ => rfl

/-- The images. -/
theorem k3_at : k3 x1 (ix2 0 p) = img T p := by
  pointwise [k3, k0_pay72]
  simp only [ldT0_at H, ldT1_at H, ldT2_at H, ldT3_at H, ldT4_at H, ldT5_at H, img, toWord]

/-- The classes. -/
theorem k290_at : k290 x1 (ix2 0 p) = cls T p := by
  pointwise [k290, k0_pay5]
  simp only [ldT0_at H, ldT1_at H, ldT2_at H, ldT3_at H, ldT4_at H, ldT5_at H, cls, toWord]

/-- The widths. -/
theorem k20_at : k20 x1 x3 (ix2 0 p) = bw T S p := by
  pointwise [k20, k0_pay75, k0_pay73]
  simp only [ldT0_at H, ldT1_at H, ldT2_at H, ldT3_at H, ldT4_at H, ldT5_at H, ldS_at H, bw]

/-- The heights. -/
theorem k21_at : k21 x1 x3 (ix2 0 p) = bh T S p := by
  pointwise [k21, k0_pay76, k0_pay74]
  simp only [ldT0_at H, ldT1_at H, ldT2_at H, ldT3_at H, ldT4_at H, ldT5_at H, ldS_at H, bh]

/-- The centres, across. -/
theorem k24_at : k24 x1 x3 (ix2 0 p) = cx T S p := by
  pointwise [k24, k0_pay77, k0_pay75, k0_pay73]
  simp only [ldT0_at H, ldT1_at H, ldT2_at H, ldT3_at H, ldT4_at H, ldT5_at H, ldS_at H, cx, bw]

/-- The centres, down. -/
theorem k27_at : k27 x1 x3 (ix2 0 p) = cy T S p := by
  pointwise [k27, k0_pay78, k0_pay76, k0_pay74]
  simp only [ldT0_at H, ldT1_at H, ldT2_at H, ldT3_at H, ldT4_at H, ldT5_at H, ldS_at H, cy, bh]

/-- The cells. -/
theorem k56_at : k56 x1 x3 (ix2 0 p) = cellW T S p := by
  pointwise [k56, k35, k37, k39, k0_pay79, k0_pay80, k0_pay81, k0_pay82, k0_pay83, k0_pay84, k0_pay77, k0_pay78, k0_pay75, k0_pay76, k0_pay73, k0_pay74]
  simp only [ldT0_at H, ldT1_at H, ldT2_at H, ldT3_at H, ldT4_at H, ldT5_at H, ldS_at H]
  simp only [cellW, gij, clampA, clampB, clampC, clampD, toWord, cx, cy, bw, bh]

/-- The overlaps with anchor 0. -/
theorem k305_at : k305 x1 x2 x3 (ix2 0 p) = iou T A S 0 p := by
  pointwise [k305, k0_pay6]
  simp only [ldA00_at H, ldA01_at H, ldA10_at H, ldA11_at H, ldA20_at H, ldA21_at H, ldS_at H, k20_at H, k21_at H, iou, inter]

/-- The overlaps with anchor 1. -/
theorem k320_at : k320 x1 x2 x3 (ix2 0 p) = iou T A S 1 p := by
  pointwise [k320, k0_pay7]
  simp only [ldA00_at H, ldA01_at H, ldA10_at H, ldA11_at H, ldA20_at H, ldA21_at H, ldS_at H, k20_at H, k21_at H, iou, inter]

/-- The overlaps with anchor 2. -/
theorem k335_at : k335 x1 x2 x3 (ix2 0 p) = iou T A S 2 p := by
  pointwise [k335, k0_pay12, k329, k330, k0_pay10, k0_pay11, k0_pay8, k0_pay9]
  simp only [ldA00_at H, ldA01_at H, ldA10_at H, ldA11_at H, ldA20_at H, ldA21_at H, ldS_at H, k20_at H, k21_at H, iou, inter]

/-- The best anchors, as words. -/
theorem k343_at : k343 x1 x2 x3 (ix2 0 p) = BitVec.ofNat 32 (best T A S p).val := by
  have h2 := k335_at H p
  unfold k335 at h2
  unfold k343
  pointwise [k0_pay13]
  rw [h2, k305_at H, k320_at H]
  unfold best
  split_ifs <;> rfl

omit H in
/-- Some value of a row is 1 exactly when the row's greatest value, of ones and zeros, is positive. -/
theorem any_iff (b : Fin 128 → BitVec 1) :
    (0 : EReal) < Finset.fold max (Ideal.ofBits FTy.f32 4286578688#32) (fun x => Scalar.select (b x) (1 : EReal) 0) Finset.univ
      ↔ ∃ x, b x = 1#1 := by
  rw [Finset.lt_fold_max]
  have hbot : Ideal.ofBits FTy.f32 4286578688#32 = ⊥ := by simp [Ideal.ofBits, Ideal.ieee]
  rw [hbot]
  constructor
  · rintro (h | ⟨x, _, h⟩)
    · simp at h
    · refine ⟨x, ?_⟩
      by_contra hb
      simp [Scalar.select, hb] at h
  · rintro ⟨x, hx⟩
    exact Or.inr ⟨x, Finset.mem_univ _, by simp [Scalar.select, hx]⟩

omit H in
/-- The diagonal of a square of numbers. -/
theorem diag_sum (f : Fin 128 → EReal) (x : Fin 128) :
    (∑ y : Fin 128, Scalar.select (IntOp.cmpi .eq (BitVec.ofNat 32 ↑x) (BitVec.ofNat 32 ↑y)) (f y) 0) = f x := by
  rw [Finset.sum_eq_single x]
  · rw [select_eq, if_pos rfl]
  · intro y _ hy
    rw [select_eq, if_neg]
    intro h
    have := congrArg BitVec.toNat h
    simp only [BitVec.toNat_ofNat] at this
    exact hy (Fin.ext (by omega))
  · intro h; exact absurd (Finset.mem_univ _) h

omit H in
/-- Two bits both set. -/
theorem andi_ofBool (P Q : Prop) [Decidable P] [Decidable Q] :
    IntOp.andi (BitVec.ofBool (decide P)) (BitVec.ofBool (decide Q)) = 1#1 ↔ P ∧ Q := by
  by_cases hP : P <;> by_cases hQ : Q <;> simp [IntOp.andi, hP, hQ]

omit H in
/-- Comparing two numbers of targets as words. -/
theorem cmpi_slt_fin (x y : Fin 128) :
    IntOp.cmpi .slt (BitVec.ofNat 32 ↑x) (BitVec.ofNat 32 ↑y) = BitVec.ofBool (decide (x < y)) := by
  unfold IntOp.cmpi
  have hx : (BitVec.ofNat 32 x.val).toInt = x.val := by
    rw [BitVec.toInt_eq_toNat_of_lt] <;> simp only [BitVec.toNat_ofNat] <;> omega
  have hy : (BitVec.ofNat 32 y.val).toInt = y.val := by
    rw [BitVec.toInt_eq_toNat_of_lt] <;> simp only [BitVec.toNat_ofNat] <;> omega
  simp only [BitVec.slt, hx, hy, Nat.cast_lt, Fin.lt_def]

omit H in
/-- Comparing two numbers of targets as words. -/
theorem cmpi_sgt_fin (x y : Fin 128) :
    IntOp.cmpi .sgt (BitVec.ofNat 32 ↑x) (BitVec.ofNat 32 ↑y) = BitVec.ofBool (decide (y < x)) := by
  unfold IntOp.cmpi
  have hx : (BitVec.ofNat 32 x.val).toInt = x.val := by
    rw [BitVec.toInt_eq_toNat_of_lt] <;> simp only [BitVec.toNat_ofNat] <;> omega
  have hy : (BitVec.ofNat 32 y.val).toInt = y.val := by
    rw [BitVec.toInt_eq_toNat_of_lt] <;> simp only [BitVec.toNat_ofNat] <;> omega
  simp only [BitVec.slt, hx, hy, Nat.cast_lt, Fin.lt_def]

omit H in
/-- Comparing two numbers of targets as words. -/
theorem cmpi_sle_fin (x y : Fin 128) :
    IntOp.cmpi .sle (BitVec.ofNat 32 ↑x) (BitVec.ofNat 32 ↑y) = BitVec.ofBool (decide (x ≤ y)) := by
  unfold IntOp.cmpi
  have hx : (BitVec.ofNat 32 x.val).toInt = x.val := by
    rw [BitVec.toInt_eq_toNat_of_lt] <;> simp only [BitVec.toNat_ofNat] <;> omega
  have hy : (BitVec.ofNat 32 y.val).toInt = y.val := by
    rw [BitVec.toInt_eq_toNat_of_lt] <;> simp only [BitVec.toNat_ofNat] <;> omega
  simp only [BitVec.sle, hx, hy, Nat.cast_le, Fin.le_def]

/-- The weights: 0 for a target with a later one of the same key. -/
theorem k371_at : k371 x1 x2 x3 (ix2 0 p) = wt T A S p := by
  have hk : ∀ q, k0_pay13 (k20 x1 x3) (k21 x1 x3) (k305 x1 x2 x3) (k320 x1 x2 x3) (k329 x1 x2 x3) (k330 x2 x3) (ix2 0 q)
      = BitVec.ofNat 32 (best T A S q).val := fun q => k343_at H q
  pointwise [k371, k0_pay14, k287, k0_pay4]
  simp only [any_iff, diag_sum, cmpi_sgt_fin, andi_ofBool, hk, k3_at H, k56_at H]
  rfl

end Cert.KernelIdeal.Value

end
-- ==== Proof.KernelLoss.lean ====
/-
  The loss that the body stores at its last grid point is `lossK` of the targets, the anchors, the stride and the gathered
  channels.
-/
module

public import proofs.«01_k».proof.Proof.KernelTargets

@[expose] public section

set_option maxRecDepth 16384

noncomputable section

namespace Cert.KernelIdeal.Value

open Cert.KernelIdeal Cert.KernelIdeal.Gen Idealize.ShloMosaic Cert.Yolo

/-- A sum over one index is its one term. -/
theorem sum_one {f : Fin 1 → EReal} : (∑ x, f x) = f 0 := Fin.sum_univ_one f

/-- A word for an anchor's number is that anchor's exactly when the anchors agree. -/
theorem anchor_word (b a : Fin 3) : BitVec.ofNat 32 b.val = BitVec.ofNat 32 a.val ↔ b = a := by
  revert b a; decide

/-- Adding three terms of which only the chosen one is not 0 gives the chosen one. -/
theorem pick3 (b : Fin 3) (g : Fin 3 → EReal) :
    Scalar.select (IntOp.cmpi .eq (BitVec.ofNat 32 b.val) 0#32) (g 0) 0
      + Scalar.select (IntOp.cmpi .eq (BitVec.ofNat 32 b.val) 1#32) (g 1) 0
      + Scalar.select (IntOp.cmpi .eq (BitVec.ofNat 32 b.val) 2#32) (g 2) 0 = g b := by
  simp only [select_eq]
  match b with
  | 0 => simp
  | 1 => simp
  | 2 => simp

/-- Some anchor, spelt out. -/
theorem three_iff (P : Fin 3 → Prop) : (∃ b, P b) ↔ (P 0 ∨ P 1) ∨ P 2 := by
  constructor
  · rintro ⟨b, h⟩
    match b with
    | 0 => exact Or.inl (Or.inl h)
    | 1 => exact Or.inl (Or.inr h)
    | 2 => exact Or.inr h
  · rintro ((h | h) | h)
    · exact ⟨0, h⟩
    · exact ⟨1, h⟩
    · exact ⟨2, h⟩

/-- Two bits, one or both set. -/
theorem ori_ofBool (P Q : Prop) [Decidable P] [Decidable Q] :
    IntOp.ori (BitVec.ofBool (decide P)) (BitVec.ofBool (decide Q)) = BitVec.ofBool (decide (P ∨ Q)) := by
  by_cases hP : P <;> by_cases hQ : Q <;> simp [IntOp.ori, hP, hQ]

/-- A bit clear before one that may be set. -/
theorem ori_zero (b : BitVec 1) : IntOp.ori (0#1) b = b := by
  simp [IntOp.ori]

/-- A bit set, and another not set. -/
theorem andi_not (P Q : Prop) [Decidable P] [Decidable Q] :
    IntOp.andi (BitVec.ofBool (decide P)) (IntOp.xori (BitVec.ofBool (decide Q)) 1#1) = BitVec.ofBool (decide (P ∧ ¬ Q)) := by
  by_cases hP : P <;> by_cases hQ : Q <;> simp [IntOp.andi, IntOp.xori, hP, hQ]

/-- Choosing by the bit of a proposition. -/
theorem select_ofBool {α : Type} (P : Prop) [Decidable P] (x y : α) :
    Scalar.select (BitVec.ofBool (decide P)) x y = if P then x else y := by
  by_cases hP : P <;> simp [Scalar.select, hP]

/-- The bit of an equality of anchors. -/
theorem cmpi_anchor (b a : Fin 3) : IntOp.cmpi .eq (BitVec.ofNat 32 b.val) (BitVec.ofNat 32 a.val) = BitVec.ofBool (decide (b = a)) := by
  revert b a; decide

variable {x1 : Vec Ideal S6x128 .f32} {x2 : Vec Ideal S3x2 .f32} {x3 : Vec Ideal S1x1 .f32} {T : Tgts} {A : Anch} {S : EReal}
  {g0 g1 g2 : Vec Ideal S1x85x128 .f32} {G : Fin 3 → Fin 85 → Fin 128 → EReal}
  (H : Holds x1 x2 x3 T A S) (h0 : ∀ ch p, g0 (ix3 0 ch p) = G 0 ch p) (h1 : ∀ ch p, g1 (ix3 0 ch p) = G 1 ch p)
  (h2 : ∀ ch p, g2 (ix3 0 ch p) = G 2 ch p) (p : Fin 128)

include H
/-- The number of slots, at least 1. -/
theorem k376_at : k376 x1 x2 x3 = nObj T A S := by
  have hk : ∀ q, k0_pay14 (k3 x1) (k20 x1 x3) (k21 x1 x3) (k56 x1 x3) rowIx colIx k287 (k305 x1 x2 x3) (k320 x1 x2 x3) (k329 x1 x2 x3) (k330 x2 x3) (ix2 0 q)
      = wt T A S q := fun q => k371_at H q
  pointwise [k376, k375, k0_pay16, k0_pay15]
  simp only [hk, sum_one]
  rfl

/-- The fractional part, across. -/
theorem k444_at : k444 x1 x3 (ix2 0 p) = tx T S p := by
  pointwise [k444, k0_pay26]
  rw [k24_at H]
  rfl

/-- The fractional part, down. -/
theorem k446_at : k446 x1 x3 (ix2 0 p) = ty T S p := by
  pointwise [k446, k0_pay27]
  rw [k27_at H]
  rfl

/-- The logarithm of the relative width. -/
theorem k450_at : k450 x1 x2 x3 (ix2 0 p) = tw T A S p := by
  pointwise [k450, k394, k402, k412, k413, k0_pay28, k0_pay24, k0_pay18,k0_pay17, k0_pay20, k0_pay22, k0_pay23]
  simp only [k343_at H, k20_at H, ldS_at H, ldA00_at H, ldA10_at H, ldA20_at H]
  rw [pick3 (best T A S p) fun a => Ideal.div (A (ix2 a 0)) S]
  rfl

/-- The logarithm of the relative height. -/
theorem k454_at : k454 x1 x2 x3 (ix2 0 p) = th T A S p := by
  pointwise [k454, k400, k402, k0_pay29, k0_pay24, k0_pay19,k0_pay17, k0_pay20]
  simp only [k343_at H, k21_at H, ldS_at H, ldA01_at H, ldA11_at H, ldA21_at H]
  rw [pick3 (best T A S p) fun a => Ideal.div (A (ix2 a 1)) S]
  rfl

include h0 h1 h2
/-- The gathered channels of the best anchor. -/
theorem k430_at (ch : Fin 85) : k430 x1 x2 x3 g0 g1 g2 (ix2 ch p) = G (best T A S p) ch p := by
  pointwise [k430, k409, k0_pay25, k0_pay24, k0_pay21, k0_pay20, k0_pay17]
  simp only [k343_at H, h0, h1, h2]
  exact pick3 (best T A S p) fun a => G a ch p

/-- The first coordinate's sum. -/
theorem k469_at : k469 x1 x2 x3 g0 g1 g2
    = ∑ p, wt T A S p * ((Yolo.sig (G (best T A S p) 0 p) - tx T S p) * (Yolo.sig (G (best T A S p) 0 p) - tx T S p)) := by
  have hk : ∀ q, k0_pay25 (k343 x1 x2 x3) (k409 x1 x2 x3 g0 g1) g2 (ix2 0 q) = G (best T A S q) 0 q :=
    fun q => k430_at H h0 h1 h2 q 0
  pointwise [k469, k455, k456, k0_pay32, k0_pay30, k0_pay31]
  simp only [hk, sum_one, k371_at H, k444_at H, sig_sub]

/-- The second coordinate's sum. -/
theorem k484_at : k484 x1 x2 x3 g0 g1 g2
    = ∑ p, wt T A S p * ((Yolo.sig (G (best T A S p) 1 p) - ty T S p) * (Yolo.sig (G (best T A S p) 1 p) - ty T S p)) := by
  pointwise [k484, k0_pay33]
  simp only [sum_one, k371_at H, k446_at H, sig_sub, k430_at H h0 h1 h2]

/-- The widths' sum. -/
theorem k492_at : k492 x1 x2 x3 g0 g1 g2
    = ∑ p, wt T A S p * ((G (best T A S p) 2 p - tw T A S p) * (G (best T A S p) 2 p - tw T A S p)) := by
  pointwise [k492, k0_pay34]
  simp only [sum_one, k371_at H, k450_at H, k430_at H h0 h1 h2]

/-- The heights' sum. -/
theorem k500_at : k500 x1 x2 x3 g0 g1 g2
    = ∑ p, wt T A S p * ((G (best T A S p) 3 p - th T A S p) * (G (best T A S p) 3 p - th T A S p)) := by
  pointwise [k500, k0_pay35]
  simp only [sum_one, k371_at H, k454_at H, k430_at H h0 h1 h2]

/-- The objectness's sum. -/
theorem k518_at : k518 x1 x2 x3 g0 g1 g2 = ∑ p, wt T A S p * bceP (Yolo.sig (G (best T A S p) 4 p)) := by
  pointwise [k518, k504, k505, k0_pay36, k0_pay37, k0_pay38]
  simp only [sum_one, k371_at H, sig_sub, k430_at H h0 h1 h2]
  rfl

/-- The classes' sum. -/
theorem k555_at : k555 x1 x2 x3 g0 g1 g2 = ∑ k : Fin 80, ∑ p, wt T A S p
          * (if BitVec.ofNat 32 k.val = cls T p then bceP (Yolo.sig (G (best T A S p) ⟨5 + k.val, by omega⟩ p))
              else bceN (Yolo.sig (G (best T A S p) ⟨5 + k.val, by omega⟩ p))) := by
  have hk : ∀ (k : Fin 80) q, k549 x1 x2 x3 g0 g1 g2 (ix2 k q)
      = if BitVec.ofNat 32 k.val = cls T q then bceP (Yolo.sig (G (best T A S q) ⟨5 + k.val, by omega⟩ q))
              else bceN (Yolo.sig (G (best T A S q) ⟨5 + k.val, by omega⟩ q)) := by
    intro k q
    pointwise [k549, k0_pay39]
    simp only [k290_at H, sig_sub, k430_at H h0 h1 h2, select_eq]
    split_ifs with hc
    · rw [show (1 : EReal) - 1 = 0 from by rw [← EReal.coe_one, ← EReal.coe_sub]; norm_num, zero_mul, add_zero]; rfl
    · rw [sub_zero, one_mul, zero_add]; rfl
  pointwise [k555, k550, k0_pay41, k0_pay40]
  simp only [hk, k371_at H]

omit h0 h1 h2
/-- Where anchor 0 is active. -/
theorem k560_at : k560 x1 x2 x3 (ix2 0 p) = BitVec.ofBool (decide (act T A S 0 p)) := by
  pointwise [k560, k0_pay42]
  rw [k343_at H, k305_at H]
  exact (congrArg (IntOp.ori · _) (cmpi_anchor _ 0)).trans ((ori_ofBool _ _).trans (congrArg BitVec.ofBool (decide_eq_decide.mpr Iff.rfl)))

/-- Where anchor 1 is active. -/
theorem k575_at : k575 x1 x2 x3 (ix2 0 p) = BitVec.ofBool (decide (act T A S 1 p)) := by
  pointwise [k575, k0_pay44]
  rw [k343_at H, k320_at H]
  exact (congrArg (IntOp.ori · _) (cmpi_anchor _ 1)).trans ((ori_ofBool _ _).trans (congrArg BitVec.ofBool (decide_eq_decide.mpr Iff.rfl)))

/-- Where anchor 2 is active. -/
theorem k590_at : k590 x1 x2 x3 (ix2 0 p) = BitVec.ofBool (decide (act T A S 2 p)) := by
  pointwise [k590, k0_pay46]
  rw [k343_at H, k335_at H]
  exact (congrArg (IntOp.ori · _) (cmpi_anchor _ 2)).trans ((ori_ofBool _ _).trans (congrArg BitVec.ofBool (decide_eq_decide.mpr Iff.rfl)))

/-- The keys of anchor 0. -/
theorem k570_at : k570 x1 x2 x3 (ix2 0 p) = key2 T A S 0 p := by
  have hk : k0_pay42 (k305 x1 x2 x3) (k343 x1 x2 x3) (ix2 0 p) = _ := k560_at H p
  unfold k570
  pointwise [k0_pay43]
  rw [hk, k3_at H, k56_at H]
  exact select_ofBool _ _ _

/-- The keys of anchor 1. -/
theorem k585_at : k585 x1 x2 x3 (ix2 0 p) = key2 T A S 1 p := by
  have hk : k0_pay44 (k320 x1 x2 x3) (k343 x1 x2 x3) (ix2 0 p) = _ := k575_at H p
  unfold k585
  pointwise [k0_pay45]
  rw [hk, k3_at H, k56_at H]
  exact select_ofBool _ _ _

/-- The keys of anchor 2. -/
theorem k600_at : k600 x1 x2 x3 (ix2 0 p) = key2 T A S 2 p := by
  unfold k600
  pointwise [k0_pay49, k592, k593, k0_pay47, k0_pay48]
  rw [k590_at H, k3_at H, k56_at H]
  exact select_ofBool _ _ _

/-- The keys of anchor 0, as a column. -/
theorem k606_at : k606 x1 x2 x3 (ix2 p 0) = key2 T A S 0 p := by
  pointwise [k606, k0_pay50, k287, k0_pay4]
  simp only [diag_sum, k570_at H]

/-- The keys of anchor 1, as a column. -/
theorem k612_at : k612 x1 x2 x3 (ix2 p 0) = key2 T A S 1 p := by
  pointwise [k612, k0_pay51, k287, k0_pay4]
  simp only [diag_sum, k585_at H]

/-- The keys of anchor 2, as a column. -/
theorem k618_at : k618 x1 x2 x3 (ix2 p 0) = key2 T A S 2 p := by
  have hk : ∀ q, k0_pay49 (k56 x1 x3) (k590 x1 x2 x3) (k592 x1) k593 (ix2 0 q) = _ := fun q => k600_at H q
  pointwise [k618, k0_pay52, k287, k0_pay4]
  simp only [diag_sum, hk]

/-- The first active targets of anchor 0. -/
theorem k663_at : k663 x1 x2 x3 (ix2 0 p) = fst1 T A S 0 p := by
  have hk : ∀ (z : IVec S128x128 1) (hz : z = k287) q, k0_pay50 z (k570 x1 x2 x3) (ix2 q 0) = key2 T A S 0 q := fun z hz q => by
    subst hz; exact k606_at H q
  have hk' : ∀ (z : IVec S128x128 1) (hz : z = k287) q, k0_pay51 z (k585 x1 x2 x3) (ix2 q 0) = key2 T A S 1 q := fun z hz q => by
    subst hz; exact k612_at H q
  pointwise [k663, k0_pay56, k632, k0_pay53, k637, k0_pay54, k638, k0_pay55]
  simp only [hk _ rfl, hk' _ rfl, k560_at H, k570_at H, k618_at H, any_iff, cmpi_slt_fin, andi_ofBool, ori_zero, ori_ofBool, andi_not, select_ofBool]
  unfold fst1
  refine if_congr (and_congr Iff.rfl (not_congr ?_)) rfl rfl
  exact (three_iff fun b => ∃ q, key2 T A S b q = key2 T A S 0 p ∧ (if b < 0 then q ≤ p else q < p)).symm

/-- The first active targets of anchor 1. -/
theorem k736_at : (k0_pay64 (k575 x1 x2 x3) (k718 x1 x2 x3) (k723 x1 x2 x3) k724 k725 : FVec Ideal S1x128 .f32) (ix2 0 p) = fst1 T A S 1 p := by
  pointwise [k0_pay64, k718, k0_pay60, k723, k0_pay61, k724, k725, k0_pay62, k0_pay63]
  simp only [k575_at H, k585_at H, k606_at H, k612_at H, k618_at H, any_iff, cmpi_slt_fin, cmpi_sle_fin, andi_ofBool, ori_zero, ori_ofBool, andi_not, select_ofBool]
  unfold fst1
  refine if_congr (and_congr Iff.rfl (not_congr ?_)) rfl rfl
  exact (three_iff fun b => ∃ q, key2 T A S b q = key2 T A S 1 p ∧ (if b < 1 then q ≤ p else q < p)).symm

/-- The first active targets of anchor 2. -/
theorem k809_at : k809 x1 x2 x3 (ix2 0 p) = fst1 T A S 2 p := by
  pointwise [k809, k0_pay69, k765, k0_pay67, k768, k0_pay68]
  simp only [k590_at H, k600_at H, k606_at H, k612_at H, k618_at H, any_iff, cmpi_slt_fin, cmpi_sle_fin, andi_ofBool, ori_zero, ori_ofBool, andi_not, select_ofBool]
  unfold fst1
  refine if_congr (and_congr Iff.rfl (not_congr ?_)) rfl rfl
  exact (three_iff fun b => ∃ q, key2 T A S b q = key2 T A S 2 p ∧ (if b < 2 then q ≤ p else q < p)).symm

include h0 h1 h2 in
/-- The loss. -/
theorem lossVal_eq (ns : EReal) : lossVal x1 x2 x3 g0 g1 g2 ns = lossK T A S G ns := by
  have c0 : k668 x1 x2 x3 = ∑ p, fst1 T A S 0 p := by
    have hz : (FloatOps.ofBits .f32 0x00000000#32 : Ideal .f32) = (0 : EReal) := Ideal.ofBits_zero_f32
    have hk : ∀ q, k0_pay56 rowIx colIx (k560 x1 x2 x3) (k570 x1 x2 x3) (k618 x1 x2 x3) (k632 x1 x2 x3) (k637 x1 x2 x3) (0 : EReal) k638 (ix2 0 q) = fst1 T A S 0 q := by
      intro q
      rw [← hz]
      exact k663_at H q
    pointwise [k668, k0_pay57]
    simp only [hk, sum_one]
  have c1 : k741 x1 x2 x3 = (∑ p, fst1 T A S 0 p) + ∑ p, fst1 T A S 1 p := by
    pointwise [k741, k0_pay65]
    simp only [k736_at H, sum_one, c0]
  have c2 : k812 x1 x2 x3 (ix3 0 0 0) = ∑ p, fst1 T A S 2 p := by
    have hk : ∀ q, k0_pay69 rowIx colIx (k590 x1 x2 x3) (k600 x1 x2 x3) (k612 x1 x2 x3) (k618 x1 x2 x3) k765 (k768 x1 x2 x3) (ix2 0 q) = _ :=
      fun q => k809_at H q
    pointwise [k812, k0_pay70]
    simp only [hk, sum_one]
  have d0 : k691 x1 x2 x3 g0 = ∑ p, fst1 T A S 0 p * bceN (Yolo.sig (G 0 4 p)) := by
    pointwise [k691, k680, k0_pay59, k0_pay58]
    simp only [k663_at H, sum_one, h0, sig_sub]
    rfl
  have d1 : k764 x1 x2 x3 g0 g1 = (∑ p, fst1 T A S 0 p * bceN (Yolo.sig (G 0 4 p))) + ∑ p, fst1 T A S 1 p * bceN (Yolo.sig (G 1 4 p)) := by
    pointwise [k764, k0_pay66]
    simp only [k736_at H, sum_one, h1, sig_sub, d0]
    rfl
  pointwise [lossVal, k0_pay71]
  simp only [k469_at H h0 h1 h2, k484_at H h0 h1 h2, k492_at H h0 h1 h2, k500_at H h0 h1 h2, k518_at H h0 h1 h2, k555_at H h0 h1 h2,
    k376_at H, c1, c2, d1, sum_one, k809_at H, h2, sig_sub]
  rfl

end Cert.KernelIdeal.Value

end
-- ==== Proof.Accum.lean ====
/-
  What a grid point leaves in the three accumulators: the one-hot scratch, the gathered channels and the sum over the cells.
-/
module

public import proofs.«01_k».proof.Proof.LossTerm

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-- What a list of stores leaves, read through a rectangle. -/
theorem ld_canon {sig' : RefSig} {κ : Kind} {sp : Space} {s : Shape} {e : EltTy} (v : View sig' κ sp s e) (L : List (View.Piece (Elt F) s e)) (r : Rect s) :
    View.ld (View.canon L) r = v.readCov L r.toLoadRect := (View.readCov_eq_canon' v L r.toLoadRect).symm

/-- A reading of the gathered channels after they were filled. -/
theorem gath_fill {sig' : RefSig} {κ : Kind} {sp : Space} (v : View sig' κ sp S3x85x128 .f32) (Z : Vec F S3x85x128 .f32) (r : Rect S3x85x128) :
    v.readCov [(⟨Rect.unit (s := S3x85x128) ![0, 0, 0] S3x85x128.size inb_S3x85x128_S3x85x128_0_0_0, Z⟩ : View.Piece (Elt F) S3x85x128 .f32)] r.toLoadRect = View.ld Z r :=
  View.readCov_fill v inb_S3x85x128_S3x85x128_0_0_0 Z [] r (by decide)

/-- A whole reading reads the array. -/
theorem ldHot_eq (h : Vec F S676x128 .f32) : ldHot h = h := View.ld_unit_zero hz2 _ h

/-- In case A each slab of the gathered channels is left at its step from zeros. -/
theorem out5_A (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : cond0_0 i) (hc1 : ¬cond0_1 i)
    (x0 : Vec F S1x255x676 .f32) (x1 : Vec F S6x128 .f32) (x2 : Vec F S3x2 .f32) (x3 : Vec F S1x1 .f32) :
    ldG0 (out0_A_5 c i arg1 harg1 arg2 harg2 arg3 harg3 arg4 harg4 arg5 harg5 arg6 harg6 arg7 harg7 arg8 harg8 arg9 harg9 hc0 hc1 x0 x1 x2 x3)
      = step0 (imgEq i x1) (k0_pay85 (k35 x1 x3) (k37 x1 x3) (k39 x1 x3)) x0 k0_pay86 ∧ ldG1 (out0_A_5 c i arg1 harg1 arg2 harg2 arg3 harg3 arg4 harg4 arg5 harg5 arg6 harg6 arg7 harg7 arg8 harg8 arg9 harg9 hc0 hc1 x0 x1 x2 x3)
      = step1 (imgEq i x1) (k0_pay85 (k35 x1 x3) (k37 x1 x3) (k39 x1 x3)) x0 k0_pay86 ∧ ldG2 (out0_A_5 c i arg1 harg1 arg2 harg2 arg3 harg3 arg4 harg4 arg5 harg5 arg6 harg6 arg7 harg7 arg8 harg8 arg9 harg9 hc0 hc1 x0 x1 x2 x3)
      = step2 (imgEq i x1) (k0_pay85 (k35 x1 x3) (k37 x1 x3) (k39 x1 x3)) x0 k0_pay86 := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  simp only [View.readAt_eq_ld, harg1.read_unread, harg2.read_unread, harg3.read_unread, harg4.read_unread, harg6.read_unread, harg7.read_unread, harg9.read_unread]
  simp only [ldG0, ldG1, ldG2, ld_canon arg6.view]
  simp (discharger := decide) only [View.readCov_cons_toLoadRect, View.readCov_skip]
  unfold step0 step1 step2
  rw [ldHot_eq]
  refine ⟨?_, ?_, ?_⟩
  · exact congrArg (k0_pay99 (k0_pay85 (k35 x1 x3) (k37 x1 x3) (k39 x1 x3)) (imgEq i x1) (k0_pay91 (ldX0 x0))) (gath_fill arg6.view k0_pay86 _)
  · exact congrArg (fun G => k0_pay107 (imgEq i x1) (k0_pay105 (k0_pay85 (k35 x1 x3) (k37 x1 x3) (k39 x1 x3)) (k0_pay100 (ldX1 x0))) (k0_pay106 G) (Scalar.ofBits .f32 0#32)) (gath_fill arg6.view k0_pay86 _)
  · exact congrArg (k0_pay1 (k0_pay85 (k35 x1 x3) (k37 x1 x3) (k39 x1 x3)) (imgEq i x1) (k0_pay108 (ldX2 x0))) (gath_fill arg6.view k0_pay86 _)

/-- In case B each slab of the gathered channels is left at its step. -/
theorem out5_B (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : ¬cond0_0 i) (hc1 : ¬cond0_1 i)
    (x0 : Vec F S1x255x676 .f32) (x1 : Vec F S6x128 .f32) (x2 : Vec F S3x2 .f32) (x3 : Vec F S1x1 .f32) (xo5 : Vec F S3x85x128 .f32) (xo6 : Vec F S1x1 .f32) (xs0 : Vec F S676x128 .f32) :
    ldG0 (out0_B_5 c i arg1 harg1 arg2 harg2 arg3 harg3 arg4 harg4 arg5 harg5 arg6 harg6 arg7 harg7 arg8 harg8 arg9 harg9 hc0 hc1 x0 x1 x2 x3 xo5 xo6 xs0)
      = step0 (imgEq i x1) xs0 x0 xo5 ∧ ldG1 (out0_B_5 c i arg1 harg1 arg2 harg2 arg3 harg3 arg4 harg4 arg5 harg5 arg6 harg6 arg7 harg7 arg8 harg8 arg9 harg9 hc0 hc1 x0 x1 x2 x3 xo5 xo6 xs0)
      = step1 (imgEq i x1) xs0 x0 xo5 ∧ ldG2 (out0_B_5 c i arg1 harg1 arg2 harg2 arg3 harg3 arg4 harg4 arg5 harg5 arg6 harg6 arg7 harg7 arg8 harg8 arg9 harg9 hc0 hc1 x0 x1 x2 x3 xo5 xo6 xs0)
      = step2 (imgEq i x1) xs0 x0 xo5 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 xo5 xo6 xs0)]
  unfold kernelRun0_B
  dsimp only
  sl_unfold_words
  simp only [View.readAt_eq_ld, harg1.read_unread, harg2.read_unread, harg3.read_unread, harg4.read_unread, harg6.read_unread, harg7.read_unread, harg9.read_unread]
  simp only [ldG0, ldG1, ldG2, ld_canon arg6.view]
  simp (discharger := decide) only [View.readCov_cons_toLoadRect, View.readCov_skip]
  exact ⟨rfl, rfl, rfl⟩

/-- In case A the sum over the cells is left at its step from zero. -/
theorem out6_A (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : cond0_0 i) (hc1 : ¬cond0_1 i)
    (x0 : Vec F S1x255x676 .f32) (x1 : Vec F S6x128 .f32) (x2 : Vec F S3x2 .f32) (x3 : Vec F S1x1 .f32) :
    out0_A_6 c i arg1 harg1 arg2 harg2 arg3 harg3 arg4 harg4 arg5 harg5 arg6 harg6 arg7 harg7 arg8 harg8 arg9 harg9 hc0 hc1 x0 x1 x2 x3 = fun _ => stepSum x0 (FloatOps.ofBits .f32 0#32) := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  first | rw [View.canon_unit_zero hz2] | rw [View.canon_cons_unit_zero hz2]
  simp only [View.readAt_eq_ld, harg1.read_unread, harg2.read_unread, harg3.read_unread, harg4.read_unread, harg6.read_unread, harg7.read_unread, harg9.read_unread]

  rfl

/-- In case B the sum over the cells is left at its step. -/
theorem out6_B (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : ¬cond0_0 i) (hc1 : ¬cond0_1 i)
    (x0 : Vec F S1x255x676 .f32) (x1 : Vec F S6x128 .f32) (x2 : Vec F S3x2 .f32) (x3 : Vec F S1x1 .f32) (xo5 : Vec F S3x85x128 .f32) (xo6 : Vec F S1x1 .f32) (xs0 : Vec F S676x128 .f32) :
    out0_B_6 c i arg1 harg1 arg2 harg2 arg3 harg3 arg4 harg4 arg5 harg5 arg6 harg6 arg7 harg7 arg8 harg8 arg9 harg9 hc0 hc1 x0 x1 x2 x3 xo5 xo6 xs0 = fun _ => stepSum x0 (ldN xo6) := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 xo5 xo6 xs0)]
  unfold kernelRun0_B
  dsimp only
  sl_unfold_words
  first | rw [View.canon_unit_zero hz2] | rw [View.canon_cons_unit_zero hz2]
  simp only [View.readAt_eq_ld, harg1.read_unread, harg2.read_unread, harg3.read_unread, harg4.read_unread, harg6.read_unread, harg7.read_unread, harg9.read_unread]

  rfl

/-- In case A the one-hot scratch is set. -/
theorem hot_A (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : cond0_0 i) (hc1 : ¬cond0_1 i)
    (x0 : Vec F S1x255x676 .f32) (x1 : Vec F S6x128 .f32) (x2 : Vec F S3x2 .f32) (x3 : Vec F S1x1 .f32) :
    sout0_A_0 c i arg1 harg1 arg2 harg2 arg3 harg3 arg4 harg4 arg5 harg5 arg6 harg6 arg7 harg7 arg8 harg8 arg9 harg9 hc0 hc1 x0 x1 x2 x3 = (k0_pay85 (k35 x1 x3) (k37 x1 x3) (k39 x1 x3)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero hz2]
  simp only [View.readAt_eq_ld, harg1.read_unread, harg2.read_unread, harg3.read_unread, harg4.read_unread, harg6.read_unread, harg7.read_unread, harg9.read_unread]
  rfl

/-- In case B the one-hot scratch is kept. -/
theorem hot_B (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : ¬cond0_0 i) (hc1 : ¬cond0_1 i)
    (x0 : Vec F S1x255x676 .f32) (x1 : Vec F S6x128 .f32) (x2 : Vec F S3x2 .f32) (x3 : Vec F S1x1 .f32) (xo5 : Vec F S3x85x128 .f32) (xo6 : Vec F S1x1 .f32) (xs0 : Vec F S676x128 .f32) :
    sout0_B_0 c i arg1 harg1 arg2 harg2 arg3 harg3 arg4 harg4 arg5 harg5 arg6 harg6 arg7 harg7 arg8 harg8 arg9 harg9 hc0 hc1 x0 x1 x2 x3 xo5 xo6 xs0 = xs0 := by
  unfold sout0_B_0
  rfl

/-- In case C the one-hot scratch is kept. -/
theorem hot_C (c : Dev nD) (i : grid0.Coords) (arg1 : Memref sig .tc .vmem S1x255x676 .f32) (harg1 : arg1.IsWhole) (arg2 : Memref sig .tc .vmem S6x128 .f32) (harg2 : arg2.IsWhole) (arg3 : Memref sig .tc .smem S3x2 .f32) (harg3 : arg3.IsWhole) (arg4 : Memref sig .tc .smem S1x1 .f32) (harg4 : arg4.IsWhole) (arg5 : Memref sig .tc .vmem S1x2028x85 .f32) (harg5 : arg5.IsWhole) (arg6 : Memref sig .tc .vmem S3x85x128 .f32) (harg6 : arg6.IsWhole) (arg7 : Memref sig .tc .smem S1x1 .f32) (harg7 : arg7.IsWhole) (arg8 : Memref sig .tc .smem S1x1 .f32) (harg8 : arg8.IsWhole) (arg9 : Memref sig .tc .vmem S676x128 .f32) (harg9 : arg9.IsWhole) (hc0 : ¬cond0_0 i) (hc1 : cond0_1 i)
    (x0 : Vec F S1x255x676 .f32) (x1 : Vec F S6x128 .f32) (x2 : Vec F S3x2 .f32) (x3 : Vec F S1x1 .f32) (xo5 : Vec F S3x85x128 .f32) (xo6 : Vec F S1x1 .f32) (xs0 : Vec F S676x128 .f32) :
    sout0_C_0 c i arg1 harg1 arg2 harg2 arg3 harg3 arg4 harg4 arg5 harg5 arg6 harg6 arg7 harg7 arg8 harg8 arg9 harg9 hc0 hc1 x0 x1 x2 x3 xo5 xo6 xs0 = xs0 := by
  unfold sout0_C_0
  rfl

end Cert.KernelIdeal.Value

end
-- ==== Proof.Gather.lean ====
/-
  What the kernel's accumulators hold after every grid point: of each target, the raw channels at its cell once its image has
  passed; and the cross-entropy with 0 summed over the cells of the images that have passed.
-/
module

public import proofs.«01_k».proof.Proof.KernelLoss
public import proofs.«01_k».proof.Proof.Accum

@[expose] public section

set_option maxRecDepth 16384

noncomputable section

namespace Cert.KernelIdeal.Value

open Cert.KernelIdeal Cert.KernelIdeal.Gen Idealize.ShloMosaic Idealize.ShloMosaic.TcCoe Idealize.SL.Sem Cert.Yolo
open Idealize.ShloMosaic.Pipeline (Dat)

/-- The images' raw channels. -/
abbrev Imgs := (⟨4, ![16, 255, 26, 26]⟩ : Shape).Idx → EReal

/-- 26 times one small word and another, as a number. -/
theorem mul26_add (u v : BitVec 32) (hu : u.toNat < 26) (hv : v.toNat < 26) :
    IntOp.addi (IntOp.muli u 26#32) v = BitVec.ofNat 32 (26 * u.toNat + v.toNat) := by
  apply BitVec.eq_of_toNat_eq
  unfold IntOp.addi IntOp.muli
  rw [BitVec.toNat_add, BitVec.toNat_mul, BitVec.toNat_ofNat, BitVec.toNat_ofNat]
  omega

/-- A target's row is its second word. -/
theorem row_val (T : Tgts) (S : EReal) (p : Fin 128) : (row T S p).val = (gij T S p).2.toNat := by delta row; dsimp only
/-- A target's column is its first word. -/
theorem col_val (T : Tgts) (S : EReal) (p : Fin 128) : (col T S p).val = (gij T S p).1.toNat := by delta col; dsimp only

/-- A target's cell as a number. -/
theorem cellW_eq (T : Tgts) (S : EReal) (p : Fin 128) : cellW T S p = BitVec.ofNat 32 (26 * (row T S p).val + (col T S p).val) := by
  have h1 := (row T S p).isLt
  have h2 := (col T S p).isLt
  rw [row_val] at h1
  rw [col_val] at h2
  rw [row_val, col_val, cellW, mul26_add _ _ h1 h2]

/-- The cell of a target, among all cells. -/
def cellF (T : Tgts) (S : EReal) (p : Fin 128) : Fin 676 :=
  ⟨26 * (row T S p).val + (col T S p).val, by have h1 := (row T S p).isLt; have h2 := (col T S p).isLt; omega⟩

/-- Summing a row of channels against a target's one-hot column picks the channel at its cell. -/
theorem pick_cell (T : Tgts) (S : EReal) (p : Fin 128) (f : Fin 676 → EReal) :
    (∑ q : Fin 676, f q * (if BitVec.ofNat 32 q.val = cellW T S p then (1 : EReal) else 0)) = f (cellF T S p) := by
  have h1 := (row T S p).isLt
  have h2 := (col T S p).isLt
  rw [Finset.sum_eq_single (cellF T S p)]
  · rw [if_pos (by rw [cellW_eq]; rfl), mul_one]
  · intro q _ hq
    rw [if_neg, mul_zero]
    intro h
    rw [cellW_eq] at h
    have := congrArg BitVec.toNat h
    simp only [BitVec.toNat_ofNat] at this
    exact hq (Fin.ext (by show q.val = 26 * (row T S p).val + (col T S p).val; omega))
  · intro h; exact absurd (Finset.mem_univ _) h

/-- What image `b` gives a target: its raw channel at the target's cell, if the image is the target's. -/
def share (X : Imgs) (T : Tgts) (S : EReal) (a : Fin 3) (ch : Fin 85) (p : Fin 128) (b : Fin 16) : EReal :=
  if img T p = BitVec.ofNat 32 b.val then X (ix4 b (⟨85 * a.val + ch.val, by omega⟩ : Fin 255) (row T S p) (col T S p)) else 0

/-- The cross-entropy with 0, summed over the cells of image `b` under one anchor. -/
def cellSumA (X : Imgs) (a : Fin 3) (b : Fin 16) : EReal :=
  ∑ q : Fin 676, bceN (Yolo.sig (X (ix4 b (⟨85 * a.val + 4, by omega⟩ : Fin 255) (⟨q.val / 26, by omega⟩ : Fin 26) (⟨q.val % 26, by omega⟩ : Fin 26))))

/-- The same over the three anchors. -/
def cellSum (X : Imgs) (b : Fin 16) : EReal := cellSumA X 0 b + cellSumA X 1 b + cellSumA X 2 b

section step
variable {im : IVec S1x128 1} {hot : Vec Ideal S676x128 .f32} {x0 : Vec Ideal S1x255x676 .f32} {X : Imgs} {T : Tgts} {S : EReal} {b : Fin 16}
  (g : Vec Ideal S3x85x128 .f32)
  (him : ∀ p, im (ix2 0 p) = IntOp.cmpi .eq (img T p) (BitVec.ofNat 32 b.val))
  (hhot : ∀ (q : Fin 676) (p : Fin 128), hot (ix2 q p) = if BitVec.ofNat 32 q.val = cellW T S p then (1 : EReal) else 0)
  (hx : ∀ (ch : Fin 255) (q : Fin 676), x0 (ix3 0 ch q) = X (ix4 b ch ⟨q.val / 26, by omega⟩ ⟨q.val % 26, by omega⟩))

include hx in
/-- Anchor 0's channels of the block. -/
theorem ldX0_at (ch : Fin 85) (q : Fin 676) : ldX0 x0 (ix3 0 ch q)
    = X (ix4 b (⟨85 * (0 : Fin 3).val + ch.val, by omega⟩ : Fin 255) ⟨q.val / 26, by omega⟩ ⟨q.val % 26, by omega⟩) := by
  rw [← hx]
  unfold ldX0
  pointwise

include hx in
/-- Anchor 1's channels of the block. -/
theorem ldX1_at (ch : Fin 85) (q : Fin 676) : ldX1 x0 (ix3 0 ch q)
    = X (ix4 b (⟨85 * (1 : Fin 3).val + ch.val, by have : ((1 : Fin 3) : ℕ) = 1 := rfl; omega⟩ : Fin 255) ⟨q.val / 26, by omega⟩ ⟨q.val % 26, by omega⟩) := by
  rw [← hx]
  unfold ldX1
  pointwise

include hx in
/-- Anchor 2's channels of the block. -/
theorem ldX2_at (ch : Fin 85) (q : Fin 676) : ldX2 x0 (ix3 0 ch q)
    = X (ix4 b (⟨85 * (2 : Fin 3).val + ch.val, by have : ((2 : Fin 3) : ℕ) = 2 := rfl; omega⟩ : Fin 255) ⟨q.val / 26, by omega⟩ ⟨q.val % 26, by omega⟩) := by
  rw [← hx]
  unfold ldX2
  pointwise

/-- The channel that the one-hot column of a target picks. -/
theorem pick_share (a : Fin 3) (ch : Fin 85) (p : Fin 128) :
    Scalar.select (IntOp.cmpi .eq (img T p) (BitVec.ofNat 32 b.val))
      (∑ q : Fin 676, X (ix4 b (⟨85 * a.val + ch.val, by omega⟩ : Fin 255) (⟨q.val / 26, by omega⟩ : Fin 26) (⟨q.val % 26, by omega⟩ : Fin 26))
        * (if BitVec.ofNat 32 q.val = cellW T S p then (1 : EReal) else 0)) 0 = share X T S a ch p b := by
  rw [pick_cell T S p fun q => X (ix4 b (⟨85 * a.val + ch.val, by omega⟩ : Fin 255) (⟨q.val / 26, by omega⟩ : Fin 26) (⟨q.val % 26, by omega⟩ : Fin 26)), select_eq]
  unfold share
  refine if_congr Iff.rfl ?_ rfl
  have h2 := (col T S p).isLt
  exact congrArg₂ (fun u v => X (ix4 b (⟨85 * a.val + ch.val, by omega⟩ : Fin 255) u v))
    (Fin.ext (by show (26 * (row T S p).val + (col T S p).val) / 26 = _; omega))
    (Fin.ext (by show (26 * (row T S p).val + (col T S p).val) % 26 = _; omega))

include him hhot hx

/-- Slab 0 after a point. -/
theorem step0_at (ch : Fin 85) (p : Fin 128) : step0 im hot x0 g (ix3 0 ch p) = ldG0 g (ix3 0 ch p) + share X T S 0 ch p b := by
  pointwise [step0, k0_pay99, k0_pay91]
  have hh : ∀ (q : Fin 676) (p : Fin 128), ldHot hot (ix2 q p) = if BitVec.ofNat 32 q.val = cellW T S p then (1 : EReal) else 0 := fun q p => by rw [ldHot_eq]; exact hhot q p
  simp only [him, hh, ldX0_at hx]
  rw [pick_share (X := X) (T := T) (S := S) (b := b) 0 ch p]

/-- Slab 1 after a point. -/
theorem step1_at (ch : Fin 85) (p : Fin 128) : step1 im hot x0 g (ix3 0 ch p) = ldG1 g (ix3 0 ch p) + share X T S 1 ch p b := by
  pointwise [step1, k0_pay107, k0_pay100, k0_pay105, k0_pay106]
  have hh : ∀ (q : Fin 676) (p : Fin 128), ldHot hot (ix2 q p) = if BitVec.ofNat 32 q.val = cellW T S p then (1 : EReal) else 0 := fun q p => by rw [ldHot_eq]; exact hhot q p
  simp only [him, hh, ldX1_at hx]
  rw [pick_share (X := X) (T := T) (S := S) (b := b) 1 ch p]

/-- Slab 2 after a point. -/
theorem step2_at (ch : Fin 85) (p : Fin 128) : step2 im hot x0 g (ix3 0 ch p) = ldG2 g (ix3 0 ch p) + share X T S 2 ch p b := by
  pointwise [step2, k0_pay1, k0_pay108]
  have hh : ∀ (q : Fin 676) (p : Fin 128), ldHot hot (ix2 q p) = if BitVec.ofNat 32 q.val = cellW T S p then (1 : EReal) else 0 := fun q p => by rw [ldHot_eq]; exact hhot q p
  simp only [him, hh, ldX2_at hx]
  rw [pick_share (X := X) (T := T) (S := S) (b := b) 2 ch p]

omit him hhot
/-- The sum over the cells after a point. -/
theorem stepSum_eq (n : EReal) : stepSum x0 n = n + cellSum X b := by
  pointwise [stepSum, k0_pay3, k0_pay104, k0_pay98, k0_pay92, k0_pay91, k0_pay100, k0_pay101, k0_pay102, k0_pay111, k0_pay109, k0_pay108]
  simp only [Finset.univ_unique, Finset.sum_singleton, sig_sub, ldX0_at hx, ldX1_at hx, ldX2_at hx]
  rfl

end step

section points
variable (m : (ℓ : Loc nD τ sig) → Buf (Elt Ideal) ℓ) (c : Dev nD)

/-- Every point's blocks of targets, anchors and stride hold the launch's. -/
theorem holds_at (t : Fin cfg0.N) :
    Holds (iblk m c 1 t) (iblk m c 2 t) (iblk m c 3 t) (argT m c) (argA m c) (Cert.Yolo.stride (argN m c)) :=
  ⟨iblk1 m c t, iblk2 m c t, iblk3 m c t⟩

/-- A grid point's coordinate is its number. -/
theorem coord_val : ∀ t : Fin cfg0.N, (grid0.coords t 0).val = t.val := by decide +kernel

/-- The targets whose image a point works on. -/
theorem imgEq_at (t : Fin cfg0.N) (p : Fin 128) : imgEq (grid0.coords t) (iblk m c 1 t) (ix2 0 p)
    = IntOp.cmpi .eq (img (argT m c) p) (BitVec.ofNat 32 (⟨t.val, lt16 t⟩ : Fin 16).val) := by
  pointwise [imgEq, k0_pay90]
  rw [k3_at (holds_at m c t), coord_val]

/-- The one-hot columns of the targets' cells. -/
theorem hot_at (t : Fin cfg0.N) (q : Fin 676) (p : Fin 128) :
    (k0_pay85 (k35 (iblk m c 1 t) (iblk m c 3 t)) (k37 (iblk m c 1 t) (iblk m c 3 t)) (k39 (iblk m c 1 t) (iblk m c 3 t)) : FVec Ideal S676x128 .f32) (ix2 q p)
      = if BitVec.ofNat 32 q.val = cellW (argT m c) (Cert.Yolo.stride (argN m c)) p then (1 : EReal) else 0 := by
  have hk : k0_pay84 (k35 (iblk m c 1 t) (iblk m c 3 t)) (k37 (iblk m c 1 t) (iblk m c 3 t)) (k39 (iblk m c 1 t) (iblk m c 3 t)) (ix2 0 p)
      = cellW (argT m c) (Cert.Yolo.stride (argN m c)) p := k56_at (holds_at m c t) p
  pointwise [k0_pay85]
  rw [hk, select_eq]

/-- The sum over the first images of what they give. -/
def upTo (f : Fin 16 → EReal) (n : ℕ) (h : n < 16) : EReal := ∑ b : Fin (n + 1), f ⟨b.val, by omega⟩

/-- The sum over one image more. -/
theorem upTo_succ (f : Fin 16 → EReal) (n : ℕ) (h : n + 1 < 16) : upTo f (n + 1) h = upTo f n (by omega) + f ⟨n + 1, h⟩ := by
  unfold upTo
  rw [Fin.sum_univ_castSucc]
  rfl

/-- The sum over the first image. -/
theorem upTo_zero (f : Fin 16 → EReal) (h : 0 < 16) : upTo f 0 h = f ⟨0, h⟩ := by
  unfold upTo
  rw [Fin.sum_univ_one]
  rfl

/-- What the accumulators hold when the images up to `n` have passed. -/
structure Passed (g : Vec Ideal S3x85x128 .f32) (s : Vec Ideal S1x1 .f32) (hot : Vec Ideal S676x128 .f32) (n : ℕ) (h : n < 16) : Prop where
  /-- Slab 0. -/
  g0 : ∀ ch p, ldG0 g (ix3 0 ch p) = upTo (share (argX m c) (argT m c) (Cert.Yolo.stride (argN m c)) 0 ch p) n h
  /-- Slab 1. -/
  g1 : ∀ ch p, ldG1 g (ix3 0 ch p) = upTo (share (argX m c) (argT m c) (Cert.Yolo.stride (argN m c)) 1 ch p) n h
  /-- Slab 2. -/
  g2 : ∀ ch p, ldG2 g (ix3 0 ch p) = upTo (share (argX m c) (argT m c) (Cert.Yolo.stride (argN m c)) 2 ch p) n h
  /-- The sum over the cells. -/
  s : ldN s = upTo (cellSum (argX m c)) n h
  /-- The one-hot columns. -/
  hot : ∀ (q : Fin 676) (p : Fin 128), hot (ix2 q p)
    = if BitVec.ofNat 32 q.val = cellW (argT m c) (Cert.Yolo.stride (argN m c)) p then (1 : EReal) else 0

/-- Reading a one-entry array that holds one number everywhere. -/
theorem ldN_const (v : EReal) : (ldN (F := Ideal) (fun _ => v) : EReal) = v := rfl

/-- The slabs of zeros. -/
theorem zeros_at (z : Vec Ideal S3x85x128 .f32) (hz : ∀ i, z i = (0 : EReal)) (ch : Fin 85) (p : Fin 128) :
    ldG0 z (ix3 0 ch p) = (0 : EReal) ∧ ldG1 z (ix3 0 ch p) = (0 : EReal) ∧ ldG2 z (ix3 0 ch p) = (0 : EReal) :=
  ⟨hz _, hz _, hz _⟩

/-- Before the last point, the accumulators hold the images that have passed. -/
theorem passed (n : ℕ) (h : n < cfg0.N) (h15 : n < 15) :
    Passed m c (outsAt0 m c n h).2.1 (outsAt0 m c n h).2.2.1 (outsAt0 m c n h).2.2.2.2 n (by omega) := by
  induction n with
  | zero =>
    have hx := iblk0 m c ⟨0, h⟩
    have him := imgEq_at m c ⟨0, h⟩
    have hh := hot_at m c ⟨0, h⟩
    have e := outsAt0_A m c ⟨0, h⟩ (by rfl) (show ¬(0 % 16 = 15) by decide)
    dsimp only at e
    rw [e]
    dsimp only
    refine ⟨?_, ?_, ?_, ?_, ?_⟩
    · intro ch p
      rw [(out5_A ..).1, step0_at (X := argX m c) (hhot := hh) (him := him) (hx := hx), (zeros_at (k0_pay86 (F := Ideal)) (fun i => Ideal.ofBits_zero_f32) ch p).1, zero_add, upTo_zero]
    · intro ch p
      rw [(out5_A ..).2.1, step1_at (X := argX m c) (hhot := hh) (him := him) (hx := hx), (zeros_at (k0_pay86 (F := Ideal)) (fun i => Ideal.ofBits_zero_f32) ch p).2.1, zero_add, upTo_zero]
    · intro ch p
      rw [(out5_A ..).2.2, step2_at (X := argX m c) (hhot := hh) (him := him) (hx := hx), (zeros_at (k0_pay86 (F := Ideal)) (fun i => Ideal.ofBits_zero_f32) ch p).2.2, zero_add, upTo_zero]
    · rw [out6_A, ldN_const, stepSum_eq (X := argX m c) hx, upTo_zero]
      rw [show (FloatOps.ofBits .f32 0#32 : Ideal .f32) = (0 : EReal) from Ideal.ofBits_zero_f32, zero_add]
    · intro q p
      rw [hot_A]
      exact hh q p
  | succ n ih =>
    have P : Passed m c (outsAt0 m c (n + 1 - 1) (by omega)).2.1 (outsAt0 m c (n + 1 - 1) (by omega)).2.2.1
        (outsAt0 m c (n + 1 - 1) (by omega)).2.2.2.2 n (by omega) := ih (by omega) (by omega)
    have hx := iblk0 m c ⟨n + 1, h⟩
    have him := imgEq_at m c ⟨n + 1, h⟩
    have e := outsAt0_B m c ⟨n + 1, h⟩ (by show ¬(n + 1) % 16 = 0; omega) (by show ¬(n + 1) % 16 = 15; omega)
    dsimp only at e
    rw [e]
    dsimp only
    refine ⟨?_, ?_, ?_, ?_, ?_⟩
    · intro ch p
      rw [(out5_B ..).1, step0_at (X := argX m c) _ him P.hot hx, upTo_succ]
      exact congrArg (· + _) (P.g0 ch p)
    · intro ch p
      rw [(out5_B ..).2.1, step1_at (X := argX m c) _ him P.hot hx, upTo_succ]
      exact congrArg (· + _) (P.g1 ch p)
    · intro ch p
      rw [(out5_B ..).2.2, step2_at (X := argX m c) _ him P.hot hx, upTo_succ]
      exact congrArg (· + _) (P.g2 ch p)
    · rw [out6_B, ldN_const, stepSum_eq (X := argX m c) hx, upTo_succ]
      exact congrArg (· + _) P.s
    · intro q p
      rw [hot_B]
      exact P.hot q p

/-- The loss of the launch's arguments, as the kernel's last point computes it. -/
def lossR : EReal :=
  lossK (argT m c) (argA m c) (Cert.Yolo.stride (argN m c))
    (fun a ch p => ∑ b : Fin 16, share (argX m c) (argT m c) (Cert.Yolo.stride (argN m c)) a ch p b)
    (∑ b : Fin 16, cellSum (argX m c) b)

/-- What the last point leaves in the loss's buffer. -/
theorem outsAt_loss (t : Fin cfg0.N) (ht : t.val = 15) : (outsAt0 m c t.val t.isLt).2.2.2.1 = fun _ => lossR m c := by
  obtain ⟨n, hn⟩ := t
  obtain rfl : n = 15 := ht
  have P : Passed m c (outsAt0 m c (15 - 1) (by omega)).2.1 (outsAt0 m c (15 - 1) (by omega)).2.2.1
      (outsAt0 m c (15 - 1) (by omega)).2.2.2.2 14 (by omega) := passed m c 14 (by omega) (by omega)
  have hx := iblk0 m c ⟨15, hn⟩
  have him := imgEq_at m c ⟨15, hn⟩
  have e := outsAt0_C m c ⟨15, hn⟩ (show ¬(15 % 16 = 0) by decide) (by rfl)
  dsimp only at e ⊢
  rw [e]
  dsimp only
  rw [out7_C]
  funext _
  have all : ∀ f : Fin 16 → EReal, upTo f 14 (by omega) + f ⟨15, by omega⟩ = ∑ b : Fin 16, f b :=
    fun f => (upTo_succ f 14 (by omega)).symm
  rw [stepSum_eq (X := argX m c) hx, show ldN (outsAt0 m c (15 - 1) (by omega)).2.2.1 = _ from P.s]
  rw [lossVal_eq (G := fun a ch p => ∑ b : Fin 16, share (argX m c) (argT m c) (Cert.Yolo.stride (argN m c)) a ch p b)
    (holds_at m c ⟨15, hn⟩)]
  · unfold lossR
    exact congrArg _ (all _)
  · intro ch p
    rw [step0_at (X := argX m c) (hhot := P.hot) (him := him) (hx := hx), P.g0]
    exact all _
  · intro ch p
    rw [step1_at (X := argX m c) (hhot := P.hot) (him := him) (hx := hx), P.g1]
    exact all _
  · intro ch p
    rw [step2_at (X := argX m c) (hhot := P.hot) (him := him) (hx := hx), P.g2]
    exact all _

/-- Only the last grid point writes the loss back. -/
theorem flush_loss : ∀ t : Fin cfg0.N, (cfg0.win 7).flush t = true ↔ t.val = 15 := by decide +kernel

/-- The loss's block is the whole array. -/
theorem index7 : ∀ t : Fin cfg0.N, win0_7.index t 0 = 0 ∧ win0_7.index t 1 = 0 := by decide +kernel

/-- The loss as an array of one entry. -/
abbrev lossA : Buf (Elt Ideal) ((c : Thread nD τ).loc main_v5_3) := fun _ => lossR m c

/-- What the last point writes back is the loss. -/
theorem flushed_loss (t : Fin cfg0.N) (hf : (cfg0.win 7).flush t = true) :
    (dats m 0 c).flushed 7 t = ((cfg0.win 7).blk t).view.read (Elt Ideal) (lossA m c) := by
  show (cfg0.win 7).cut (grid0.coords t) ((dats m 0 c).after 7 t) = _
  rw [after0_7, outsAt_loss m c t ((flush_loss t).mp hf)]
  funext y
  rw [View.read_apply]
  rfl

/-- The kernel's last result: the loss. -/
theorem final_loss : (dats m 0 c).arrAt 7 cfg0.N = lossA m c :=
  (dats m 0 c).arrAt_eq_of_cover 7 (lossA m c) (flushed_loss m c) fun i => by
    have hN : cfg0.N = 16 := N_0
    have h0 : (i 0 : Nat) < 1 := (i 0).isLt
    have h1 : (i 1 : Nat) < 1 := (i 1).isLt
    let t : Fin cfg0.N := ⟨15, by rw [hN]; omega⟩
    refine ⟨t, (flush_loss t).mpr rfl, ?_⟩
    show i ∈ ((View.whole main_v5_3).slice (win0_7.rect t)).set
    rw [View.set_slice_whole, Rect.mem_set_unit]
    obtain ⟨i0, i1⟩ := index7 t
    intro a
    match a with
    | ⟨0, _⟩ => show win0_7.index t 0 * 1 ≤ (i 0 : Nat) ∧ (i 0 : Nat) < win0_7.index t 0 * 1 + 1
                rw [i0]; omega
    | ⟨1, _⟩ => show win0_7.index t 1 * 1 ≤ (i 1 : Nat) ∧ (i 1 : Nat) < win0_7.index t 1 * 1 + 1
                rw [i1]; omega

end points

end Cert.KernelIdeal.Value

end
-- ==== Proof.LossEq.lean ====
/-
  The loss as sums over the cells is the loss as sums over the targets.
-/
module

public import proofs.«01_k».proof.Proof.Bounds
public import proofs.«01_k».proof.Proof.Gather

@[expose] public section

noncomputable section

namespace Cert.Yolo

open Idealize.ShloMosaic
open Cert.KernelIdeal.Value (Imgs share cellSum cellSumA)

/-- The raw channel `ch` at a cell. -/
def chan (X : Imgs) (c : Cell) (ch : Fin 85) : EReal :=
  X (ix4 c.1 (⟨85 * c.2.1.val + ch.val, by have := c.2.1.isLt; omega⟩ : Fin 255) c.2.2.1 c.2.2.2)

variable (X : Imgs) (T : Tgts) (A : Anch) (S : EReal) (J : Fin 128 → Fin 16) (P Q : Cell → Fin 85 → EReal) (O N : Cell → EReal)

open Classical in
/-- The predictions, the targets' grid and the masks hold what they should at every cell. -/
structure Filled : Prop where
  image : Images T J
  pSig : ∀ (c : Cell) (ch : Fin 85), ch.val < 2 ∨ 4 ≤ ch.val → P c ch = sig (chan X c ch)
  pRaw : ∀ (c : Cell) (ch : Fin 85), 2 ≤ ch.val → ch.val < 4 → P c ch = chan X c ch
  mask : ∀ c, O c = if ∃ p, slot T A S J p = c then 1 else 0
  rest : ∀ c, N c = if taken T A S J c then 0 else 1
  q0 : ∀ p, (∀ q, slot T A S J q = slot T A S J p → q ≤ p) → Q (slot T A S J p) 0 = tx T S p
  q1 : ∀ p, (∀ q, slot T A S J q = slot T A S J p → q ≤ p) → Q (slot T A S J p) 1 = ty T S p
  q2 : ∀ p, (∀ q, slot T A S J q = slot T A S J p → q ≤ p) → Q (slot T A S J p) 2 = tw T A S p
  q3 : ∀ p, (∀ q, slot T A S J q = slot T A S J p → q ≤ p) → Q (slot T A S J p) 3 = th T A S p
  q4 : ∀ c, Q c 4 = O c
  qc : ∀ (p : Fin 128) (k : Fin 80), Q (slot T A S J p) ⟨5 + k.val, by omega⟩ = if BitVec.ofNat 32 k.val = cls T p then 1 else 0

variable {J}

/-- The shares of a target's channel over the images sum to the channel at its cell. -/
theorem sum_share (hJ : Images T J) (a : Fin 3) (ch : Fin 85) (p : Fin 128) :
    ∑ b : Fin 16, share X T S a ch p b = chan X (slotA T S J a p) ch := by
  rw [Finset.sum_eq_single (J p)]
  · unfold share
    rw [if_pos (hJ p)]
    rfl
  · intro b _ hb
    unfold share
    rw [if_neg]
    intro h
    rw [hJ p] at h
    have h' := congrArg BitVec.toNat h
    have := b.isLt
    have := (J p).isLt
    rw [BitVec.toNat_ofNat, BitVec.toNat_ofNat] at h'
    exact hb (Fin.ext (by omega))
  · exact fun h => absurd (Finset.mem_univ _) h

/-- The cross-entropies of one image's anchor summed row by row. -/
theorem cellSumA_eq (a : Fin 3) (b : Fin 16) : cellSumA X a b = ∑ r : Fin 26 × Fin 26, bceN (sig (chan X (b, a, r.1, r.2) 4)) := by
  unfold cellSumA
  refine Fintype.sum_equiv
    ⟨fun q => ((⟨q.val / 26, by omega⟩ : Fin 26), (⟨q.val % 26, by omega⟩ : Fin 26)),
      fun r => ⟨26 * r.1.val + r.2.val, by have := r.1.isLt; have := r.2.isLt; omega⟩, fun q => Fin.ext ?_, fun r => Prod.ext (Fin.ext ?_) (Fin.ext ?_)⟩ _ _ fun q => ?_
  · show 26 * (q.val / 26) + q.val % 26 = q.val
    omega
  · show (26 * r.1.val + r.2.val) / 26 = r.1.val
    have := r.2.isLt
    omega
  · show (26 * r.1.val + r.2.val) % 26 = r.2.val
    have := r.2.isLt
    omega
  · unfold chan
    dsimp only [Equiv.coe_fn_mk]
    rfl

/-- The background's sum is the sum over all cells. -/
theorem cellSum_eq : ∑ b : Fin 16, cellSum X b = ∑ c : Cell, bceN (sig (chan X c 4)) := by
  rw [Fintype.sum_prod_type]
  refine Finset.sum_congr rfl fun b _ => ?_
  rw [Fintype.sum_prod_type, Fin.sum_univ_three]
  unfold cellSum
  rw [cellSumA_eq, cellSumA_eq, cellSumA_eq]

variable {X T A S P Q O N} (hF : Filled X T A S J P Q O N)

include hF

/-- The mask is 1 at a target's slot. -/
theorem mask_slot (p : Fin 128) : O (slot T A S J p) = 1 := by rw [hF.mask, if_pos ⟨p, rfl⟩]
/-- The mask is 0 away from the slots. -/
theorem mask_off (c : Cell) (h : ∀ p, slot T A S J p ≠ c) : O c = 0 := by
  rw [hF.mask, if_neg]
  rintro ⟨p, hp⟩
  exact h p hp

/-- The number of slots. -/
theorem nCells_eq : nCells O = nObj T A S := by
  unfold nCells nObj
  rw [← sum_wt T A S hF.image (fun _ => 1) O (fun p _ => (mask_slot hF p).symm) (mask_off hF)]
  simp only [mul_one]

/-- A channel's squared error, where the prediction and the last target of a slot are known. -/
theorem sqSum_eq (k : Fin 85) (t v : Fin 128 → EReal) (hP : ∀ p, P (slot T A S J p) k = v p)
    (hQ : ∀ p, (∀ q, slot T A S J q = slot T A S J p → q ≤ p) → Q (slot T A S J p) k = t p) :
    sqSum P Q O k = ∑ p, wt T A S p * ((v p - t p) * (v p - t p)) := by
  unfold sqSum
  rw [sum_wt T A S hF.image _ (fun c => (P c k - Q c k) * (P c k - Q c k) * O c)]
  · intro p hp
    rw [mask_slot hF, mul_one, hP, hQ p hp]
  · intro c hc
    rw [mask_off hF c hc, mul_zero]

/-- The slots' cross-entropy. -/
theorem obj_eq : ∑ c, bce (Q c 4) (P c 4) * O c = ∑ p, wt T A S p * bceP (sig (chan X (slot T A S J p) 4)) := by
  rw [sum_wt T A S hF.image _ (fun c => bce (Q c 4) (P c 4) * O c)]
  · intro p hp
    rw [hF.q4, mask_slot hF, mul_one, bce_one, hF.pSig _ 4 (Or.inr (le_refl _))]
  · intro c hc
    rw [mask_off hF c hc, mul_zero]

/-- The classes' cross-entropies. -/
theorem cls_eq : ∑ c, ∑ k : Fin 80, bce (Q c ⟨5 + k.val, by omega⟩) (P c ⟨5 + k.val, by omega⟩) * O c
    = ∑ k : Fin 80, ∑ p, wt T A S p * (if BitVec.ofNat 32 k.val = cls T p then bceP (sig (chan X (slot T A S J p) ⟨5 + k.val, by omega⟩))
        else bceN (sig (chan X (slot T A S J p) ⟨5 + k.val, by omega⟩))) := by
  rw [Finset.sum_comm]
  refine Finset.sum_congr rfl fun k _ => ?_
  rw [sum_wt T A S hF.image _ (fun c => bce (Q c ⟨5 + k.val, by omega⟩) (P c ⟨5 + k.val, by omega⟩) * O c)]
  · intro p hp
    rw [hF.qc, mask_slot hF, mul_one, hF.pSig _ _ (Or.inr (by dsimp only; omega))]
    split_ifs
    · rw [bce_one]
    · rw [bce_zero]
  · intro c hc
    rw [mask_off hF c hc, mul_zero]

/-- A slot is not in the background. -/
theorem slot_taken (p : Fin 128) : taken T A S J (slot T A S J p) := ⟨_, p, Or.inl rfl, rfl⟩

/-- The background's cross-entropy: all cells less those taken out. -/
theorem noobj_eq : ∑ c, bce (Q c 4) (P c 4) * N c = (∑ b : Fin 16, cellSum X b)
    - ((∑ p, fst1 T A S 0 p * bceN (sig (chan X (slotA T S J 0 p) 4))) + (∑ p, fst1 T A S 1 p * bceN (sig (chan X (slotA T S J 1 p) 4)))
      + ∑ p, fst1 T A S 2 p * bceN (sig (chan X (slotA T S J 2 p) 4))) := by
  rw [sum_fst T A S hF.image (fun a p => bceN (sig (chan X (slotA T S J a p) 4))) (fun c => bceN (sig (chan X c 4))) (fun _ _ => rfl), cellSum_eq]
  obtain ⟨r, hr⟩ : ∃ r : Cell → ℝ, ∀ c, bceN (sig (chan X c 4)) = (r c : EReal) :=
    ⟨fun c => (bceN_real (chan X c 4)).choose, fun c => (bceN_real (chan X c 4)).choose_spec.1⟩
  simp only [hr]
  rw [← sum_rest r (taken T A S J)]
  refine Finset.sum_congr rfl fun c _ => ?_
  rw [hF.rest]
  split_ifs with h
  · rw [mul_zero]
  · have h0 : O c = 0 := mask_off hF c (fun p hp => h (hp ▸ slot_taken hF p))
    rw [mul_one, hF.q4, h0, bce_zero, hF.pSig _ 4 (Or.inr (le_refl _)), hr]

/-- The number of background cells. -/
theorem count_eq : ∑ c, N c = Ideal.ofBits .f32 1191018496#32
    - ((∑ p, fst1 T A S 0 p) + (∑ p, fst1 T A S 1 p) + ∑ p, fst1 T A S 2 p) := by
  have e := sum_fst T A S hF.image (fun _ _ => 1) (fun _ => ((1 : ℝ) : EReal)) (fun _ _ => rfl)
  simp only [mul_one] at e
  have hc : Ideal.ofBits .f32 1191018496#32 = ∑ c : Cell, ((1 : ℝ) : EReal) := by
    have hn : Fintype.card Cell = 32448 := by simp [Cell]
    rw [coe_sum (fun _ => (1 : ℝ)), Finset.sum_const, Finset.card_univ, hn, nsmul_eq_mul, mul_one]
    simp [Ideal.ofBits, Ideal.ieee, -EReal.coe_mul]
    norm_num
  rw [e, hc, ← sum_rest (fun _ => (1 : ℝ)) (taken T A S J)]
  refine Finset.sum_congr rfl fun c _ => ?_
  rw [hF.rest]
  rfl

/-- The loss over the cells is the loss over the targets. -/
theorem loss_eq : lossCells P Q O N = lossK T A S (fun a ch p => ∑ b : Fin 16, share X T S a ch p b) (∑ b : Fin 16, cellSum X b) := by
  have hs : ∀ (ch : Fin 85) (p : Fin 128), ∑ b : Fin 16, share X T S (best T A S p) ch p b = chan X (slot T A S J p) ch :=
    fun ch p => sum_share X T S hF.image _ _ _
  have hw : ∀ p, 0 ≤ wt T A S p := fun p => by unfold wt; split_ifs <;> simp
  have hn : nObj T A S ≠ 0 := by
    have : (1 : EReal) ≤ nObj T A S := le_max_right _ _
    exact (lt_of_lt_of_le zero_lt_one this).ne'
  unfold lossCells lossK
  simp only [hs]
  simp only [sum_share X T S hF.image]
  rw [nCells_eq hF, obj_eq hF, noobj_eq hF, cls_eq hF,
    sqSum_eq hF 0 (tx T S) (fun p => sig (chan X (slot T A S J p) 0)) (fun p => hF.pSig _ 0 (Or.inl (by decide))) hF.q0,
    sqSum_eq hF 1 (ty T S) (fun p => sig (chan X (slot T A S J p) 1)) (fun p => hF.pSig _ 1 (Or.inl (by decide))) hF.q1,
    sqSum_eq hF 2 (tw T A S) (fun p => chan X (slot T A S J p) 2) (fun p => hF.pRaw _ 2 (by decide) (by decide)) hF.q2,
    sqSum_eq hF 3 (th T A S) (fun p => chan X (slot T A S J p) 3) (fun p => hF.pRaw _ 3 (by decide) (by decide)) hF.q3]
  rw [div_five _ _ _ _ _ _ (Finset.sum_nonneg fun p _ => mul_nonneg (hw p) (sq_nonneg' _)) (Finset.sum_nonneg fun p _ => mul_nonneg (hw p) (sq_nonneg' _))
    (Finset.sum_nonneg fun p _ => mul_nonneg (hw p) (sq_nonneg' _)) (Finset.sum_nonneg fun p _ => mul_nonneg (hw p) (sq_nonneg' _))
    (Finset.sum_nonneg fun p _ => mul_nonneg (hw p) (by obtain ⟨r, hr, h0⟩ := bceP_real (chan X (slot T A S J p) 4); rw [hr]; exact_mod_cast h0)) hn]
  unfold nCells
  rw [count_eq hF]

end Cert.Yolo

end
-- ==== Proof.LossValue.lean ====
/-
  The reference's loss is the kernel's, where the targets of a slot are of one class.
-/
module

public import proofs.«01_k».proof.Proof.RefLoss
public import proofs.«01_k».proof.Proof.LossEq

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Yolo (Fine Filled Cell chan)

variable (V0 : Valuation τ sig (Elt Ideal)) {J : Fin 128 → Fin 16}

/-- The logistic channels of the reference's predictions at a cell. -/
theorem cellP_sig (c : Cell) (ch : Fin 85) (h : ch.val < 2 ∨ 4 ≤ ch.val) : cellP V0 c ch = Cert.Yolo.sig (chan (refX V0) c ch) := by
  obtain ⟨b, a, i, j⟩ := c
  have e : (⟨a.val * 85 + ch.val, by omega⟩ : Fin 255) = ⟨85 * a.val + ch.val, by omega⟩ := Fin.ext (by dsimp only; omega)
  unfold cellP chan
  dsimp only
  rw [v30_apply, e]
  split_ifs with h1 h2
  · rfl
  · omega
  · rfl

/-- The raw channels of the reference's predictions at a cell. -/
theorem cellP_raw (c : Cell) (ch : Fin 85) (h : 2 ≤ ch.val) (h' : ch.val < 4) : cellP V0 c ch = chan (refX V0) c ch := by
  obtain ⟨b, a, i, j⟩ := c
  have e : (⟨a.val * 85 + ch.val, by omega⟩ : Fin 255) = ⟨85 * a.val + ch.val, by omega⟩ := Fin.ext (by dsimp only; omega)
  unfold cellP chan
  dsimp only
  rw [v30_apply, e, if_neg (by omega), if_pos h']

/-- The reference's grids hold what the loss over the targets needs. -/
theorem filled (hF : Fine (refT V0) (refA V0) (refS V0) J) :
    Filled (refX V0) (refT V0) (refA V0) (refS V0) J (cellP V0) (cellQ V0) (cellO V0) (cellN V0) where
  image := hF.image
  pSig := cellP_sig V0
  pRaw := cellP_raw V0
  mask c := by
    obtain ⟨b, a, i, j⟩ := c
    exact v166_at V0 hF b a i j
  rest c := by
    obtain ⟨b, a, i, j⟩ := c
    exact v235_at V0 hF b a i j
  q0 p hl := v410_0 V0 hF p hl
  q1 p hl := v410_1 V0 hF p hl
  q2 p hl := v410_2 V0 hF p hl
  q3 p hl := v410_3 V0 hF p hl
  q4 c := by
    obtain ⟨b, a, i, j⟩ := c
    exact v410_4 V0 hF b a i j
  qc p k := v410_cls V0 hF p k

/-- The reference's loss over the cells as a loss over the targets. -/
theorem loss_value (hF : Fine (refT V0) (refA V0) (refS V0) J) :
    Cert.Yolo.lossCells (cellP V0) (cellQ V0) (cellO V0) (cellN V0)
      = Cert.Yolo.lossK (refT V0) (refA V0) (refS V0)
          (fun a ch p => ∑ b : Fin 16, Cert.KernelIdeal.Value.share (refX V0) (refT V0) (refS V0) a ch p b)
          (∑ b : Fin 16, Cert.KernelIdeal.Value.cellSum (refX V0) b) :=
  Cert.Yolo.loss_eq (filled V0 hF)

end Cert.ReferenceIdeal.Value

end
-- ==== Proof.PreRead.lean ====
/-
  The precondition read entry by entry.
-/
module

public import proofs.«01_k».proof.Pre_targets_agree
public import proofs.«01_k».proof.Proof.RefTargets
public import proofs.«01_k».proof.Proof.Cells

@[expose] public section

set_option maxRecDepth 16384

noncomputable section

namespace Cert.Pre_targets_agree

open Idealize.ShloMosaic
open Cert.Yolo (clampA clampB clampC clampD toWord)

variable [Facts]

/-- The test at an anchor and two targets: `i` and `k` the first target's image and class, `s` its slot, `w` and `h` its
    box's sides, `k'` and `s'` the second target's class and slot, `x` and `y` the anchor's sides. -/
def test (i k s k' s' : BitVec 32) (w h x y : EReal) : BitVec 1 :=
  IntOp.andi
    (IntOp.andi
      (IntOp.andi
        (IntOp.andi
          (IntOp.andi (IntOp.andi (IntOp.cmpi .sge i 0#32) (IntOp.cmpi .slt i 16#32)) (IntOp.cmpi .sge k 0#32))
          (IntOp.cmpi .slt k 80#32))
        (IntOp.andi (BitVec.ofBool (decide (0 ≤ w))) (BitVec.ofBool (decide (0 ≤ h)))))
      (IntOp.andi (BitVec.ofBool (decide (0 ≤ x))) (BitVec.ofBool (decide (0 ≤ y)))))
    (IntOp.ori (IntOp.cmpi .ne s s') (IntOp.cmpi .eq k k'))

/-- A slot's number: the image, the best anchor, the row and the column. -/
def slotW (i b : BitVec 32) (g : BitVec 32 × BitVec 32) : BitVec 32 :=
  IntOp.addi (IntOp.muli (IntOp.addi (IntOp.muli (IntOp.addi (IntOp.muli i 3#32) b) 26#32) g.2) 26#32) g.1

/-- From the words of the centres on. -/
theorem part4_at (v3 : FVec Ideal S3x2 .f32) (v6 v9 : IVec S128 32) (v16 : FVec Ideal S128x2 .f32) (v82 : IVec S128 32) (v83 : IVec S128x2 32)
    (v85 v86 : IVec S128 32) (h85 : ∀ p, v85 (ix1 p) = v83 (ix2 p 0)) (h86 : ∀ p, v86 (ix1 p) = 0#32) (a : Fin 3) (p q : Fin 128) :
    fn_part4 (F := Ideal) v3 v6 v9 v16 v82 v83 v85 v86 (ix3 a p q)
      = test (v6 (ix1 p)) (v9 (ix1 p)) (slotW (v6 (ix1 p)) (v82 (ix1 p)) (clampD (clampC (clampB (clampA (v83 (ix2 p 0), v83 (ix2 p 1)))))))
          (v9 (ix1 q)) (slotW (v6 (ix1 q)) (v82 (ix1 q)) (clampD (clampC (clampB (clampA (v83 (ix2 q 0), v83 (ix2 q 1)))))))
          (v16 (ix2 p 0)) (v16 (ix2 p 1)) (v3 (ix2 a 0)) (v3 (ix2 a 1)) := by
  pointwise [fn_part4, fn_part5, fn_part6, fn_part7, fn_part8, fn_where_1]
  simp only [h85, h86]
  rw [show id (constantI S_ 32 0#32) ix0 = 0#32 from rfl, show id (constantI S_ 32 25#32) ix0 = 25#32 from rfl]
  simp only [test, slotW, clampA, clampB, clampC, clampD]

/-- The position of the greatest of three overlaps, the first of several, as a word. -/
def bestW (o : Fin 3 → EReal) : BitVec 32 := BitVec.ofNat 32 (if max (o 0) (o 1) < o 2 then (2 : Fin 3) else if o 0 < o 1 then 1 else 0).val

/-- A target's slot from its image, its overlaps and its centre. -/
def slotOf (i : BitVec 32) (o : Fin 3 → EReal) (x y : EReal) : BitVec 32 :=
  slotW i (bestW o) (clampD (clampC (clampB (clampA (toWord x, toWord y)))))

/-- From the sides of the intersections on. -/
theorem part3_at (v3 : FVec Ideal S3x2 .f32) (v6 v9 : IVec S128 32) (v16 v20 : FVec Ideal S128x2 .f32) (v35 : FVec Ideal S3 .f32)
    (v46 : FVec Ideal S128 .f32) (v64 v66 : FVec Ideal S3x128 .f32) (a : Fin 3) (p q : Fin 128) :
    fn_part3 (F := Ideal) v3 v6 v9 v16 v20 v35 v46 v64 v66 (ix3 a p q)
      = test (v6 (ix1 p)) (v9 (ix1 p))
          (slotOf (v6 (ix1 p)) (fun x => Ideal.div (v64 (ix2 x p) * v66 (ix2 x p)) (v35 (ix1 x) + v46 (ix1 p) - v64 (ix2 x p) * v66 (ix2 x p))) (v20 (ix2 p 0)) (v20 (ix2 p 1)))
          (v9 (ix1 q))
          (slotOf (v6 (ix1 q)) (fun x => Ideal.div (v64 (ix2 x q) * v66 (ix2 x q)) (v35 (ix1 x) + v46 (ix1 q) - v64 (ix2 x q) * v66 (ix2 x q))) (v20 (ix2 q 0)) (v20 (ix2 q 1)))
          (v16 (ix2 p 0)) (v16 (ix2 p 1)) (v3 (ix2 a 0)) (v3 (ix2 a 1)) := by
  unfold fn_part3
  dsimp only
  rw [part4_at _ _ _ _ _ _ _ _ (fun p => by pointwise) (fun p => by pointwise)]
  clean_types
  pointwise [fn_where_0]
  have e : Ideal.ofBits FTy.f32 4286578688#32 = ⊥ := by simp [Ideal.ofBits, Ideal.ieee]
  have e3 : id (constantI S_ 32 3#32) ix0 = 3#32 := rfl
  simp only [Cert.ReferenceIdeal.Value.fold3, e, e3, max_bot_right, Cert.ReferenceIdeal.Value.first_max]
  unfold slotOf bestW toWord
  rfl

/-- A target's overlap with an anchor, the sides of the intersection not below 0. -/
def ov (x y w h : EReal) : EReal :=
  Ideal.div (max 0 (min x w) * max 0 (min y h)) (x * y + w * h - max 0 (min x w) * max 0 (min y h))

/-- From the boxes' sides on. -/
theorem part1_at (v3 : FVec Ideal S3x2 .f32) (v6 v9 : IVec S128 32) (v16 v20 : FVec Ideal S128x2 .f32) (a : Fin 3) (p q : Fin 128) :
    fn_part1 (F := Ideal) v3 v6 v9 v16 v20 (constant (F := Ideal) S_ .f32 0x00000000#32) (ix3 a p q)
      = test (v6 (ix1 p)) (v9 (ix1 p))
          (slotOf (v6 (ix1 p)) (fun x => ov (v3 (ix2 x 0)) (v3 (ix2 x 1)) (v16 (ix2 p 0)) (v16 (ix2 p 1))) (v20 (ix2 p 0)) (v20 (ix2 p 1)))
          (v9 (ix1 q))
          (slotOf (v6 (ix1 q)) (fun x => ov (v3 (ix2 x 0)) (v3 (ix2 x 1)) (v16 (ix2 q 0)) (v16 (ix2 q 1))) (v20 (ix2 q 0)) (v20 (ix2 q 1)))
          (v16 (ix2 p 0)) (v16 (ix2 p 1)) (v3 (ix2 a 0)) (v3 (ix2 a 1)) := by
  unfold fn_part1 fn_part2
  dsimp only
  rw [part3_at]
  pointwise [fn_clip]
  have e : (id (constant (F := Ideal) S_ .f32 0x00000000#32) ix0 : EReal) = 0 := Ideal.ofBits_zero_f32
  simp only [e, max_self, sub_zero, ov]

/-- The stride as the precondition reads it. -/
theorem floor_at (n : IVec S_ 32) : fn_floor_divide (F := Ideal) n (constantI S_ 32 26#32) ix0 = Cert.Yolo.strideWord (n ix0) := by
  pointwise [fn_floor_divide, fn_where]
  rfl

open Cert.Yolo (img cls bw bh cx cy stride)

/-- The precondition at an anchor and two targets. -/
theorem fn_at (X : FVec Ideal S16x255x26x26 .f32) (T : FVec Ideal S128x6 .f32) (A : FVec Ideal S3x2 .f32) (n : IVec S_ 32) (a : Fin 3) (p q : Fin 128) :
    fn (F := Ideal) X T A n (ix3 a p q)
      = test (img T p) (cls T p)
          (slotOf (img T p) (fun x => ov (Ideal.div (A (ix2 x 0)) (stride (n ix0))) (Ideal.div (A (ix2 x 1)) (stride (n ix0))) (bw T (stride (n ix0)) p) (bh T (stride (n ix0)) p)) (cx T (stride (n ix0)) p) (cy T (stride (n ix0)) p))
          (cls T q)
          (slotOf (img T q) (fun x => ov (Ideal.div (A (ix2 x 0)) (stride (n ix0))) (Ideal.div (A (ix2 x 1)) (stride (n ix0))) (bw T (stride (n ix0)) q) (bh T (stride (n ix0)) q)) (cx T (stride (n ix0)) q) (cy T (stride (n ix0)) q))
          (bw T (stride (n ix0)) p) (bh T (stride (n ix0)) p) (Ideal.div (A (ix2 a 0)) (stride (n ix0))) (Ideal.div (A (ix2 a 1)) (stride (n ix0))) := by
  unfold fn
  dsimp only
  rw [part1_at]
  pointwise
  simp only [floor_at]
  unfold cx cy bw bh img cls stride toWord
  rfl

/-- A conjunction of bits. -/
theorem and_one (x y : BitVec 1) : IntOp.andi x y = 1#1 ↔ x = 1#1 ∧ y = 1#1 := by
  revert x y
  decide

/-- A disjunction of bits. -/
theorem or_one (x y : BitVec 1) : IntOp.ori x y = 1#1 ↔ x = 1#1 ∨ y = 1#1 := by
  revert x y
  decide

/-- The bit of a decision. -/
theorem bit_one (P : Prop) [Decidable P] : BitVec.ofBool (decide P) = 1#1 ↔ P := by
  by_cases h : P <;> simp [h]

/-- The bit of a comparison with 0 and one with a small bound put a word below the bound. -/
theorem range (w : BitVec 32) (n : ℕ) (hn : n < 2 ^ 31) (h0 : IntOp.cmpi .sge w 0#32 = 1#1) (h1 : IntOp.cmpi .slt w (BitVec.ofNat 32 n) = 1#1) : w.toNat < n := by
  have e0 : 0 ≤ w.toInt := by
    unfold IntOp.cmpi at h0
    rw [show BitVec.sle 0#32 w = decide ((0 : ℤ) ≤ w.toInt) from rfl] at h0
    exact (bit_one _).mp h0
  have e1 : w.toInt < n := by
    unfold IntOp.cmpi at h1
    have h1' : w.toInt < (BitVec.ofNat 32 n).toInt := by
      rw [show BitVec.slt w (BitVec.ofNat 32 n) = decide (w.toInt < (BitVec.ofNat 32 n).toInt) from rfl] at h1
      exact (bit_one _).mp h1
    have e : (BitVec.ofNat 32 n).toInt = n := by
      have : (BitVec.ofNat 32 n).toNat = n := by rw [BitVec.toNat_ofNat]; omega
      rw [BitVec.toInt_eq_toNat_of_lt (by rw [this]; omega), this]
    rwa [e] at h1'
  exact Cert.Yolo.toNat_lt_of _ _ e0 e1

/-- A target's slot under its cell. -/
theorem slotOf_eq (T : Cert.Yolo.Tgts) (S : EReal) (i : BitVec 32) (o : Fin 3 → EReal) (p : Fin 128) :
    slotOf i o (cx T S p) (cy T S p) = slotW i (bestW o) (Cert.Yolo.gij T S p) := by
  unfold slotOf
  delta Cert.Yolo.gij
  dsimp only

/-- Where the precondition holds, the targets are named, sided and of one class in a slot. -/
theorem fine_of (X : FVec Ideal S16x255x26x26 .f32) (T : FVec Ideal S128x6 .f32) (A : FVec Ideal S3x2 .f32) (n : IVec S_ 32)
    (h : fn (F := Ideal) X T A n = fun _ => 1#1) : ∃ J, Cert.Yolo.Fine T A (stride (n ix0)) J := by
  have ht := fun a p q => (fn_at X T A n a p q).symm.trans (congrFun h (ix3 a p q))
  generalize stride (n ix0) = S at ht ⊢
  simp only [test, and_one, or_one, bit_one, slotOf_eq] at ht
  have hi : ∀ p, (img T p).toNat < 16 := fun p => range _ 16 (by decide) (ht 0 p p).1.1.1.1.1.1 (ht 0 p p).1.1.1.1.1.2
  have hk : ∀ p, (cls T p).toNat < 80 := fun p => range _ 80 (by decide) (ht 0 p p).1.1.1.1.2 (ht 0 p p).1.1.1.2
  have hw : ∀ p, 0 ≤ bw T S p := fun p => (ht 0 p p).1.1.2.1
  have hh : ∀ p, 0 ≤ bh T S p := fun p => (ht 0 p p).1.1.2.2
  have hx : ∀ a : Fin 3, 0 ≤ Ideal.div (A (ix2 a 0)) S := fun a => (ht a 0 0).1.2.1
  have hy : ∀ a : Fin 3, 0 ≤ Ideal.div (A (ix2 a 1)) S := fun a => (ht a 0 0).1.2.2
  have hb : ∀ p, bestW (fun x => ov (Ideal.div (A (ix2 x 0)) S) (Ideal.div (A (ix2 x 1)) S) (bw T S p) (bh T S p))
      = BitVec.ofNat 32 (Cert.Yolo.best T A S p).val := by
    intro p
    have ho : ∀ x : Fin 3, ov (Ideal.div (A (ix2 x 0)) S) (Ideal.div (A (ix2 x 1)) S) (bw T S p) (bh T S p) = Cert.Yolo.iou T A S x p := by
      intro x
      unfold ov Cert.Yolo.iou Cert.Yolo.inter
      rw [max_eq_right (le_min (hx x) (hw p)), max_eq_right (le_min (hy x) (hh p))]
    simp only [ho]
    unfold bestW Cert.Yolo.best
    rfl
  refine ⟨fun p => ⟨(img T p).toNat, hi p⟩, fun p => ?_, hk, hw, hh, fun a k => ?_, fun p q e => ?_⟩
  · simp
  · obtain rfl | rfl : k = 0 ∨ k = 1 := by omega
    · exact hx a
    · exact hy a
  · unfold Cert.Yolo.slot Cert.Yolo.slotA at e
    simp only [Prod.mk.injEq, Fin.mk.injEq] at e
    obtain ⟨e1, e2, e3, e4⟩ := e
    rw [Fin.ext_iff] at e3 e4
    rw [Cert.Yolo.row_toNat, Cert.Yolo.row_toNat] at e3
    rw [Cert.Yolo.col_toNat, Cert.Yolo.col_toNat] at e4
    have hg : Cert.Yolo.gij T S p = Cert.Yolo.gij T S q := Prod.ext (BitVec.eq_of_toNat_eq e4) (BitVec.eq_of_toNat_eq e3)
    rcases (ht 0 p q).2 with h' | h'
    · exfalso
      rw [hb, hb, e2, hg, BitVec.eq_of_toNat_eq e1] at h'
      unfold IntOp.cmpi at h'
      simp at h'
    · have := (bit_one (cls T p = cls T q)).mp (by rw [← h']; unfold IntOp.cmpi; congr 1)
      exact this

end Cert.Pre_targets_agree

end
-- ==== Proof.lean ====
/-
  The certificate: frames of the kernel, of its reading over the extended reals and of the reference, that kernel and
  reference compute the same predictions, and that they compute the same loss where the targets of a slot are of one class.
-/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.PredValue
public import proofs.«01_k».proof.Proof.RefPred
public import proofs.«01_k».proof.Proof.LossValue
public import proofs.«01_k».proof.Proof.PreRead
public import Idealize.ShloMosaic.Adequacy
public import Idealize.ShloMosaic.Init

@[expose] public section

noncomputable section

namespace Cert.Proof

open Idealize.ShloMosaic Idealize.SL.Sem Cert.Kernel

/-- The facts that the mask states. -/
theorem maskFacts : Cert.On_pred_only.Facts := ⟨by decide, by decide⟩

/-- The facts that the precondition states. -/
theorem preFacts : Cert.Pre_targets_agree.Facts := by
  constructor <;> decide

/-- The frame of the kernel. -/
theorem kernelFrame : Cert.quiescent_Kernel := fun m ρ _ => Cert.Kernel.Gen.frame m ρ

/-- The frame of the kernel over the extended reals. -/
theorem idealFrame : Cert.quiescent_KernelIdeal := fun m ρ _ => Cert.KernelIdeal.Gen.frame m ρ

/-- The same where the precondition holds. -/
theorem idealFrame_pre [Cert.Pre_targets_agree.Facts] : Cert.quiescent_KernelIdeal_pre_targets_agree := fun m ρ _ => Cert.KernelIdeal.Gen.frame m ρ

/-- The frame of the reference over the extended reals. -/
theorem referenceFrame : Cert.quiescent_ReferenceIdeal := fun m ρ _ =>
  (θ_run Cert.ReferenceIdeal.defs _ _).mono
    (fun r h => ⟨fun c => (by obtain rfl : c = 0 := Subsingleton.elim _ _; exact (h 0).2.2),
      sem_eq_zero_of_no_sems (by decide) r.2⟩)
    (Cert.ReferenceIdeal.Value.run (F := Ideal) m ρ)

/-- The same where the precondition holds. -/
theorem referenceFrame_pre [Cert.Pre_targets_agree.Facts] : Cert.quiescent_ReferenceIdeal_pre_targets_agree := fun m ρ _ => referenceFrame m ρ trivial

/-- The mask asks nothing of the loss. -/
theorem mask_loss [Cert.On_pred_only.Facts] (x : FVec Ideal Cert.On_pred_only.S16x255x26x26 .f32) (t : FVec Ideal Cert.On_pred_only.S128x6 .f32)
    (a : FVec Ideal Cert.On_pred_only.S3x2 .f32) (n : IVec Cert.On_pred_only.S_ 32) (i : Cert.On_pred_only.S1x1.Idx) : (Cert.On_pred_only.fn (F := Ideal) x t a n).2 i ≠ 1#1 := by
  show (0#1 : BitVec 1) ≠ 1#1
  decide

/-- The reference's arguments are the kernel's. -/
structure Same (m : (ℓ : Loc Cert.KernelIdeal.nD Cert.KernelIdeal.τ Cert.KernelIdeal.sig) → Buf (Elt Ideal) ℓ)
    (V : Valuation Cert.ReferenceIdeal.τ Cert.ReferenceIdeal.sig (Elt Ideal)) : Prop where
  x : Cert.ReferenceIdeal.Value.refX V = Cert.KernelIdeal.Value.argX m 0
  t : Cert.ReferenceIdeal.Value.refT V = Cert.KernelIdeal.Value.argT m 0
  a : Cert.ReferenceIdeal.Value.refA V = Cert.KernelIdeal.Value.argA m 0
  n : Cert.ReferenceIdeal.Value.refN V = Cert.KernelIdeal.Value.argN m 0

/-- The predictions of the reference's arguments are those of the kernel's. -/
theorem pred_same {m : (ℓ : Loc Cert.KernelIdeal.nD Cert.KernelIdeal.τ Cert.KernelIdeal.sig) → Buf (Elt Ideal) ℓ}
    {V : Valuation Cert.ReferenceIdeal.τ Cert.ReferenceIdeal.sig (Elt Ideal)} (e : Same m V) (i : Cert.ReferenceIdeal.S16x2028x85.Idx) :
    Cert.Yolo.predSpec (Cert.ReferenceIdeal.Value.refX V) (Cert.ReferenceIdeal.Value.refA V) (Cert.ReferenceIdeal.Value.refN V) i
      = Cert.KernelIdeal.Value.predR m 0 i := by
  rw [e.x, e.a, e.n]

/-- Where the targets are fine, the loss of the reference's arguments is that of the kernel's. -/
theorem loss_same {m : (ℓ : Loc Cert.KernelIdeal.nD Cert.KernelIdeal.τ Cert.KernelIdeal.sig) → Buf (Elt Ideal) ℓ}
    {V : Valuation Cert.ReferenceIdeal.τ Cert.ReferenceIdeal.sig (Elt Ideal)} (e : Same m V) {J : Fin 128 → Fin 16}
    (hF : Cert.Yolo.Fine (Cert.KernelIdeal.Value.argT m 0) (Cert.KernelIdeal.Value.argA m 0) (Cert.Yolo.stride (Cert.KernelIdeal.Value.argN m 0)) J) :
    Cert.Yolo.lossCells (Cert.ReferenceIdeal.Value.cellP V) (Cert.ReferenceIdeal.Value.cellQ V) (Cert.ReferenceIdeal.Value.cellO V) (Cert.ReferenceIdeal.Value.cellN V)
      = Cert.KernelIdeal.Value.lossR m 0 := by
  have hF' : Cert.Yolo.Fine (Cert.ReferenceIdeal.Value.refT V) (Cert.ReferenceIdeal.Value.refA V) (Cert.ReferenceIdeal.Value.refS V) J := by
    unfold Cert.ReferenceIdeal.Value.refS
    rw [e.t, e.a, e.n]
    exact hF
  rw [Cert.ReferenceIdeal.Value.loss_value V hF']
  unfold Cert.ReferenceIdeal.Value.refS Cert.KernelIdeal.Value.lossR
  rw [e.x, e.t, e.a, e.n]

/-- Kernel and reference compute the same predictions. -/
theorem predictions [Cert.On_pred_only.Facts] : Cert.algebraic_KernelIdeal_ReferenceIdeal_on_pred_only := by
  intro m ρ m' ρ' _ hargs
  refine ⟨fun c => Cert.KernelIdeal.Value.predR m c, fun c => fun _ => (0 : EReal), ?_, ?_⟩
  · refine (θ_run Cert.KernelIdeal.defs _ _).mono (fun r h c => ?_) (Cert.KernelIdeal.Value.run_blocks (F := Ideal) m ρ)
    obtain ⟨h0, h1, h2, h3, k⟩ := h c
    refine ⟨fun i _ => ?_, fun i hi => absurd hi (mask_loss _ _ _ _ i), k⟩
    exact congrFun (h0.trans (Cert.KernelIdeal.Value.final_pred m c)) i
  · refine (θ_run Cert.ReferenceIdeal.defs _ _).mono (fun r h c => ?_) (Cert.ReferenceIdeal.Value.run (F := Ideal) m' ρ')
    obtain rfl : c = 0 := Subsingleton.elim _ _
    obtain ⟨h0, h1, k⟩ := h 0
    obtain ⟨a0, a1, a2, a3⟩ := hargs 0
    have e : Same m (Idealize.ShloMosaic.StableHlo.launchContents m' 0) := ⟨a0, a1, a2, congrFun a3 ix0⟩
    refine ⟨fun i _ => ?_, fun i hi => absurd hi (mask_loss _ _ _ _ i), k⟩
    refine (congrFun h0 i).trans ?_
    obtain ⟨b, q, ch, rfl⟩ : ∃ b q ch, i = (ix3 b q ch : Cert.ReferenceIdeal.S16x2028x85.Idx) := by
      idx_vars i
      exact ⟨_, _, _, rfl⟩
    exact (Cert.ReferenceIdeal.Value.pred_apply _ b q ch).trans (pred_same e _)

/-- Kernel and reference compute the same predictions and the same loss where the precondition holds. -/
theorem both [Cert.Pre_targets_agree.Facts] : Cert.algebraic_KernelIdeal_ReferenceIdeal_pre_targets_agree := by
  intro m ρ m' ρ' hpre hargs
  refine ⟨fun c => Cert.KernelIdeal.Value.predR m c, fun c => Cert.KernelIdeal.Value.lossA m c, ?_, ?_⟩
  · refine (θ_run Cert.KernelIdeal.defs _ _).mono (fun r h c => ?_) (Cert.KernelIdeal.Value.run_blocks (F := Ideal) m ρ)
    obtain ⟨h0, h1, h2, h3, k⟩ := h c
    exact ⟨h0.trans (Cert.KernelIdeal.Value.final_pred m c), h3.trans (Cert.KernelIdeal.Value.final_loss m c), k⟩
  · refine (θ_run Cert.ReferenceIdeal.defs _ _).mono (fun r h c => ?_) (Cert.ReferenceIdeal.Value.run (F := Ideal) m' ρ')
    obtain rfl : c = 0 := Subsingleton.elim _ _
    obtain ⟨h0, h1, k⟩ := h 0
    obtain ⟨a0, a1, a2, a3⟩ := hargs 0
    have e : Same m (Idealize.ShloMosaic.StableHlo.launchContents m' 0) := ⟨a0, a1, a2, congrFun a3 ix0⟩
    obtain ⟨J, hF⟩ := Cert.Pre_targets_agree.fine_of _ _ _ _ (hpre 0)
    refine ⟨h0.trans (funext fun i => ?_), h1.trans (funext fun i => ?_), k⟩
    · obtain ⟨b, q, ch, rfl⟩ : ∃ b q ch, i = (ix3 b q ch : Cert.ReferenceIdeal.S16x2028x85.Idx) := by
        idx_vars i
        exact ⟨_, _, _, rfl⟩
      exact (Cert.ReferenceIdeal.Value.pred_apply _ b q ch).trans (pred_same e _)
    · obtain rfl : i = (ix2 0 0 : Cert.ReferenceIdeal.S1x1.Idx) := by
        idx_vars i
        rw [Subsingleton.elim i0 0, Subsingleton.elim i1 0]
      exact (Cert.ReferenceIdeal.Value.loss_apply _).trans (loss_same e hF)

/-- The certificate. -/
theorem claim : Cert.Claim := by
  refine ⟨Cert.Kernel.Gen.facts, Cert.KernelIdeal.Gen.facts, Cert.ReferenceIdeal.Gen.facts, preFacts, maskFacts, ?_⟩
  letI := maskFacts
  letI := preFacts
  exact ⟨kernelFrame, idealFrame, idealFrame_pre, referenceFrame, referenceFrame_pre, trivial, predictions, both⟩

end Cert.Proof

end
